-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Reference (m : (ℓ : Loc Cert.Reference.nD Cert.Reference.τ Cert.Reference.sig) → Buf (Elt Bits) ℓ) : Prop :=
  True

def Pre_Reference_in_range [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts : Cert.Pre_experts.Facts] (m : (ℓ : Loc Cert.Kernel3.nD Cert.Kernel3.τ Cert.Kernel3.sig) → Buf (Elt Bits) ℓ) : Prop :=
  ∀ c : Dev Cert.Kernel3.nD,
    (Cert.Pre_experts.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))) = (fun _ => 1#1)

def Pre_Kernel3Ideal [hPre_experts : Cert.Pre_experts.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts [hPre_experts : Cert.Pre_experts.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_in_range [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] [hPre_experts : Cert.Pre_experts.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] [hPre_experts : Cert.Pre_experts.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_experts [hReference3Ideal : Cert.Reference3Ideal.Facts] [hPre_experts : Cert.Pre_experts.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v66_0)) (v1 : (c : Dev Cert.Kernel2Ideal.nD) → Buf (Elt Ideal) ((c.tc : Thread Cert.Kernel2Ideal.nD Cert.Kernel2Ideal.τ).loc Cert.Kernel2Ideal.main_v66_1)) (v2 : (c : Dev Cert.Kernel2Ideal.nD) → Buf (Elt Ideal) ((c.tc : Thread Cert.Kernel2Ideal.nD Cert.Kernel2Ideal.τ).loc Cert.Kernel2Ideal.main_v66_2)) (v3 : (c : Dev Cert.Kernel2Ideal.nD) → Buf (Elt Ideal) ((c.tc : Thread Cert.Kernel2Ideal.nD Cert.Kernel2Ideal.τ).loc Cert.Kernel2Ideal.main_v66_3)) (v4 : (c : Dev Cert.Kernel2Ideal.nD) → Buf (Elt Ideal) ((c.tc : Thread Cert.Kernel2Ideal.nD Cert.Kernel2Ideal.τ).loc Cert.Kernel2Ideal.main_v66_4)) (v5 : (c : Dev Cert.Kernel2Ideal.nD) → Buf (Elt Ideal) ((c.tc : Thread Cert.Kernel2Ideal.nD Cert.Kernel2Ideal.τ).loc Cert.Kernel2Ideal.main_v66_5)) (v6 : (c : Dev Cert.Kernel2Ideal.nD) → Buf (Elt Ideal) ((c.tc : Thread Cert.Kernel2Ideal.nD Cert.Kernel2Ideal.τ).loc Cert.Kernel2Ideal.main_v66_6)) (v7 : (c : Dev Cert.Kernel2Ideal.nD) → Buf (Elt Ideal) ((c.tc : Thread Cert.Kernel2Ideal.nD Cert.Kernel2Ideal.τ).loc Cert.Kernel2Ideal.main_v66_7)) (v8 : (c : Dev Cert.Kernel2Ideal.nD) → Buf (Elt Ideal) ((c.tc : Thread Cert.Kernel2Ideal.nD Cert.Kernel2Ideal.τ).loc Cert.Kernel2Ideal.main_v66_8)) (v9 : (c : Dev Cert.Kernel2Ideal.nD) → Buf (Elt Ideal) ((c.tc : Thread Cert.Kernel2Ideal.nD Cert.Kernel2Ideal.τ).loc Cert.Kernel2Ideal.main_v66_9)) (v10 : (c : Dev Cert.Kernel2Ideal.nD) → Buf (Elt Ideal) ((c.tc : Thread Cert.Kernel2Ideal.nD Cert.Kernel2Ideal.τ).loc Cert.Kernel2Ideal.main_v66_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v66_0) = v0 c
          ∧ r.2.mem ((c.tc : Thread Cert.Kernel2Ideal.nD Cert.Kernel2Ideal.τ).loc Cert.Kernel2Ideal.main_v66_1) = v1 c
          ∧ r.2.mem ((c.tc : Thread Cert.Kernel2Ideal.nD Cert.Kernel2Ideal.τ).loc Cert.Kernel2Ideal.main_v66_2) = v2 c
          ∧ r.2.mem ((c.tc : Thread Cert.Kernel2Ideal.nD Cert.Kernel2Ideal.τ).loc Cert.Kernel2Ideal.main_v66_3) = v3 c
          ∧ r.2.mem ((c.tc : Thread Cert.Kernel2Ideal.nD Cert.Kernel2Ideal.τ).loc Cert.Kernel2Ideal.main_v66_4) = v4 c
          ∧ r.2.mem ((c.tc : Thread Cert.Kernel2Ideal.nD Cert.Kernel2Ideal.τ).loc Cert.Kernel2Ideal.main_v66_5) = v5 c
          ∧ r.2.mem ((c.tc : Thread Cert.Kernel2Ideal.nD Cert.Kernel2Ideal.τ).loc Cert.Kernel2Ideal.main_v66_6) = v6 c
          ∧ r.2.mem ((c.tc : Thread Cert.Kernel2Ideal.nD Cert.Kernel2Ideal.τ).loc Cert.Kernel2Ideal.main_v66_7) = v7 c
          ∧ r.2.mem ((c.tc : Thread Cert.Kernel2Ideal.nD Cert.Kernel2Ideal.τ).loc Cert.Kernel2Ideal.main_v66_8) = v8 c
          ∧ r.2.mem ((c.tc : Thread Cert.Kernel2Ideal.nD Cert.Kernel2Ideal.τ).loc Cert.Kernel2Ideal.main_v66_9) = v9 c
          ∧ r.2.mem ((c.tc : Thread Cert.Kernel2Ideal.nD Cert.Kernel2Ideal.τ).loc Cert.Kernel2Ideal.main_v66_10) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v198) = v0 c
          ∧ r.2.mem ((c.tc : Thread Cert.Reference2Ideal.nD Cert.Reference2Ideal.τ).loc Cert.Reference2Ideal.main_v200) = v1 c
          ∧ r.2.mem ((c.tc : Thread Cert.Reference2Ideal.nD Cert.Reference2Ideal.τ).loc Cert.Reference2Ideal.main_v202) = v2 c
          ∧ r.2.mem ((c.tc : Thread Cert.Reference2Ideal.nD Cert.Reference2Ideal.τ).loc Cert.Reference2Ideal.main_v203) = v3 c
          ∧ r.2.mem ((c.tc : Thread Cert.Reference2Ideal.nD Cert.Reference2Ideal.τ).loc Cert.Reference2Ideal.main_v205) = v4 c
          ∧ r.2.mem ((c.tc : Thread Cert.Reference2Ideal.nD Cert.Reference2Ideal.τ).loc Cert.Reference2Ideal.main_v206) = v5 c
          ∧ r.2.mem ((c.tc : Thread Cert.Reference2Ideal.nD Cert.Reference2Ideal.τ).loc Cert.Reference2Ideal.main_v207) = v6 c
          ∧ r.2.mem ((c.tc : Thread Cert.Reference2Ideal.nD Cert.Reference2Ideal.τ).loc Cert.Reference2Ideal.main_v209) = v7 c
          ∧ r.2.mem ((c.tc : Thread Cert.Reference2Ideal.nD Cert.Reference2Ideal.τ).loc Cert.Reference2Ideal.main_v210) = v8 c
          ∧ r.2.mem ((c.tc : Thread Cert.Reference2Ideal.nD Cert.Reference2Ideal.τ).loc Cert.Reference2Ideal.main_v211) = v9 c
          ∧ r.2.mem ((c.tc : Thread Cert.Reference2Ideal.nD Cert.Reference2Ideal.τ).loc Cert.Reference2Ideal.main_v212) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_on_in_use [hKernel3Ideal : Cert.Kernel3Ideal.Facts] [hReference3Ideal : Cert.Reference3Ideal.Facts] [hPre_experts : Cert.Pre_experts.Facts] [hOn_in_use : Cert.On_in_use.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![155648, 512]⟩ : Shape).Idx, (Cert.On_in_use.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 i = 1#1 → r.2.mem ((c.tc : Thread Cert.Kernel3Ideal.nD Cert.Kernel3Ideal.τ).loc Cert.Kernel3Ideal.main_v9_0) i = v0 c i)
          ∧ (∀ i : (⟨2, ![155648, 512]⟩ : Shape).Idx, (Cert.On_in_use.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2 i = 1#1 → r.2.mem ((c.tc : Thread Cert.Kernel3Ideal.nD Cert.Kernel3Ideal.τ).loc Cert.Kernel3Ideal.main_v9_1) i = v1 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![155648, 512]⟩ : Shape).Idx, (Cert.On_in_use.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 i = 1#1 → r.2.mem ((c.tc : Thread Cert.Reference3Ideal.nD Cert.Reference3Ideal.τ).loc Cert.Reference3Ideal.main_v69) i = v0 c i)
          ∧ (∀ i : (⟨2, ![155648, 512]⟩ : Shape).Idx, (Cert.On_in_use.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2 i = 1#1 → r.2.mem ((c.tc : Thread Cert.Reference3Ideal.nD Cert.Reference3Ideal.τ).loc Cert.Reference3Ideal.main_v70) i = v1 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def Claim : Prop :=
  ∃ (hKernel : Cert.Kernel.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_in_range : Cert.Pre_in_range.Facts) (hPre_experts : Cert.Pre_experts.Facts) (hOn_in_use : Cert.On_in_use.Facts),
    quiescent_Kernel (hKernel := hKernel) (hPre_in_range := hPre_in_range)
    ∧ quiescent_Reference (hReference := hReference)
    ∧ quiescent_Reference_pre_in_range (hReference := hReference) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts := hPre_experts)
    ∧ quiescent_Kernel3Ideal (hKernel3Ideal := hKernel3Ideal) (hPre_experts := hPre_experts)
    ∧ quiescent_Reference3Ideal (hReference3Ideal := hReference3Ideal)
    ∧ quiescent_Reference3Ideal_pre_experts (hReference3Ideal := hReference3Ideal) (hPre_experts := hPre_experts)
    ∧ quiescent_Kernel4 (hKernel4 := hKernel4)
    ∧ quiescent_Kernel4Ideal (hKernel4Ideal := hKernel4Ideal)
    ∧ quiescent_Reference4Ideal (hReference4Ideal := hReference4Ideal)
    ∧ bitexact_Kernel_Reference (hKernel := hKernel) (hReference := hReference) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_in_use (hKernel3Ideal := hKernel3Ideal) (hReference3Ideal := hReference3Ideal) (hPre_experts := hPre_experts) (hOn_in_use := hOn_in_use)
    ∧ preserves_Kernel4_Kernel4Ideal
    ∧ algebraic_Kernel4Ideal_Reference4Ideal (hKernel4Ideal := hKernel4Ideal) (hReference4Ideal := hReference4Ideal)
-- ==== On_in_use.lean ====
abbrev S304 : Shape := ⟨1, ![304]⟩
abbrev S1 : Shape := ⟨1, ![1]⟩
abbrev S155648x256 : Shape := ⟨2, ![155648, 256]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S155648 : Shape := ⟨1, ![155648]⟩
abbrev S_ : Shape := ⟨0, ![]⟩
abbrev S155648x1 : Shape := ⟨2, ![155648, 1]⟩
abbrev S155648x512 : Shape := ⟨2, ![155648, 512]⟩

class Facts : Prop where
  bcast_S_S155648 : S_.BroadcastsInDim S155648 (![] : Fin 0 → Fin S155648.rank)
  shapeCasts_S1_S_ : S1.ShapeCasts S_
  bcast_S155648_S155648x1_0 : S155648.BroadcastsInDim S155648x1 (![0] : Fin 1 → Fin S155648x1.rank)
  bcast_S155648x1_S155648x512_0_1 : S155648x1.BroadcastsInDim S155648x512 (![0, 1] : Fin 2 → Fin S155648x512.rank)

variable [Facts]

def fn_where {F : FTy → Type} [FloatOps F] (arg0 : IVec S155648 1) (arg1 : IVec S155648 32) (arg2 : IVec S155648 32) : IVec S155648 32 :=
  let v0 : IVec S155648 32 := select arg0 arg1 arg2
  v0

def fn_floor_divide {F : FTy → Type} [FloatOps F] (arg0 : IVec S155648 32) (arg1 : IVec S_ 32) : IVec S155648 32 :=
  let v0 : IVec S_ 32 := id arg1
  let v1 : IVec S155648 32 := broadcastInDim S155648 ![] bcast_S_S155648 v0
  let v2 : IVec S155648 32 := Host.divsi arg0 v1
  let v3 : IVec S155648 32 := signi arg0
  let v4 : IVec S_ 32 := signi v0
  let v5 : IVec S155648 32 := broadcastInDim S155648 ![] bcast_S_S155648 v4
  let v6 : IVec S155648 1 := cmpi .ne v3 v5
  let v7 : IVec S155648 32 := broadcastInDim S155648 ![] bcast_S_S155648 v0
  let v8 : IVec S155648 32 := Host.remsi arg0 v7
  let c : IVec S_ 32 := constantI S_ 32 0#32
  let v9 : IVec S155648 32 := broadcastInDim S155648 ![] bcast_S_S155648 c
  let v10 : IVec S155648 1 := cmpi .ne v8 v9
  let v11 : IVec S155648 1 := andi v6 v10
  let c_0 : IVec S_ 32 := constantI S_ 32 1#32
  let v12 : IVec S155648 32 := broadcastInDim S155648 ![] bcast_S_S155648 c_0
  let v13 : IVec S155648 32 := subi v2 v12
  let v14 : IVec S155648 32 := fn_where (F := F) v11 v13 v2
  v14

def fn {F : FTy → Type} [FloatOps F] (main_arg0 : IVec S304 32) (main_arg1 : IVec S1 32) (main_arg2 : IVec S155648x256 32) (main_arg3 : IVec S155648x256 32) (main_arg4 : FVec F S32x1024x2048 .f32) (main_arg5 : FVec F S32x2048 .f32) (main_arg6 : FVec F S32x1024x1024 .f32) (main_arg7 : FVec F S32x1024 .f32) : IVec S155648x512 1 × IVec S155648x512 1 :=
  let main_v0 : IVec S155648 32 := iotaInDim S155648 32 0
  let main_c : IVec S_ 32 := constantI S_ 32 512#32
  let main_v1 : IVec S155648 32 := fn_floor_divide (F := F) main_v0 main_c
  let main_v2 : IVec S_ 32 := shapeCast S_ main_arg1 shapeCasts_S1_S_
  let main_v3 : IVec S155648 32 := broadcastInDim S155648 ![] bcast_S_S155648 main_v2
  let main_v4 : IVec S155648 1 := cmpi .slt main_v1 main_v3
  let main_v5 : IVec S155648x1 1 := broadcastInDim S155648x1 ![0] bcast_S155648_S155648x1_0 main_v4
  let main_v6 : IVec S155648x512 1 := broadcastInDim S155648x512 ![0, 1] bcast_S155648x1_S155648x512_0_1 main_v5
  (main_v6, main_v6)
-- ==== Pre_experts.lean ====
abbrev S304 : Shape := ⟨1, ![304]⟩
abbrev S1 : Shape := ⟨1, ![1]⟩
abbrev S155648x256 : Shape := ⟨2, ![155648, 256]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S304 : S_.BroadcastsInDim S304 (![] : Fin 0 → Fin S304.rank)
  reducesTo_S304_S_d0 : S304.ReducesTo [0] S_
  h_S_ : 0 < S_.numel

variable [Facts]

def fn {F : FTy → Type} [FloatOps F] (main_arg0 : IVec S304 32) (main_arg1 : IVec S1 32) (main_arg2 : IVec S155648x256 32) (main_arg3 : IVec S155648x256 32) (main_arg4 : FVec F S32x1024x2048 .f32) (main_arg5 : FVec F S32x2048 .f32) (main_arg6 : FVec F S32x1024x1024 .f32) (main_arg7 : FVec F S32x1024 .f32) : IVec S_ 1 :=
  let main_c : IVec S_ 32 := constantI S_ 32 0#32
  let main_v0 : IVec S304 32 := broadcastInDim S304 ![] bcast_S_S304 main_c
  let main_v1 : IVec S304 1 := cmpi .sge main_arg0 main_v0
  let main_c_0 : IVec S_ 32 := constantI S_ 32 32#32
  let main_v2 : IVec S304 32 := broadcastInDim S304 ![] bcast_S_S304 main_c_0
  let main_v3 : IVec S304 1 := cmpi .slt main_arg0 main_v2
  let main_v4 : IVec S304 1 := andi main_v1 main_v3
  let main_c_1 : IVec S_ 1 := constantI S_ 1 1#1
  let main_v5 : IVec S_ 1 := (fun x v => Host.reduce IntOp.andi x v reducesTo_S304_S_d0 h_S_) main_v4 main_c_1
  main_v5
-- ==== Pre_in_range.lean ====
abbrev S155648x256 : Shape := ⟨2, ![155648, 256]⟩
abbrev S1x139264 : Shape := ⟨2, ![1, 139264]⟩
abbrev S_ : Shape := ⟨0, ![]⟩

class Facts : Prop where
  bcast_S_S1x139264 : S_.BroadcastsInDim S1x139264 (![] : Fin 0 → Fin S1x139264.rank)
  reducesTo_S1x139264_S_d0_1 : S1x139264.ReducesTo [0, 1] S_
  h_S_ : 0 < S_.numel

variable [Facts]

def fn {F : FTy → Type} [FloatOps F] (main_arg0 : IVec S155648x256 32) (main_arg1 : IVec S1x139264 32) : IVec S_ 1 :=
  let main_c : IVec S_ 32 := constantI S_ 32 0#32
  let main_v0 : IVec S1x139264 32 := broadcastInDim S1x139264 ![] bcast_S_S1x139264 main_c
  let main_v1 : IVec S1x139264 1 := cmpi .sge main_arg1 main_v0
  let main_c_0 : IVec S_ 32 := constantI S_ 32 155648#32
  let main_v2 : IVec S1x139264 32 := broadcastInDim S1x139264 ![] bcast_S_S1x139264 main_c_0
  let main_v3 : IVec S1x139264 1 := cmpi .slt main_arg1 main_v2
  let main_v4 : IVec S1x139264 1 := andi main_v1 main_v3
  let main_c_1 : IVec S_ 1 := constantI S_ 1 1#1
  let main_v5 : IVec S_ 1 := (fun x v => Host.reduce IntOp.andi x v reducesTo_S1x139264_S_d0_1 h_S_) main_v4 main_c_1
  main_v5
-- ==== Kernel.lean ====
abbrev S155648x256 : Shape := ⟨2, ![155648, 256]⟩
abbrev S1x139264 : Shape := ⟨2, ![1, 139264]⟩
abbrev S155648x2x128 : Shape := ⟨3, ![155648, 2, 128]⟩
abbrev S139264x2x128 : Shape := ⟨3, ![139264, 2, 128]⟩
abbrev S2x1x128 : Shape := ⟨3, ![2, 1, 128]⟩
abbrev S2 : Shape := ⟨1, ![2]⟩
abbrev S2x128x2x128 : Shape := ⟨4, ![2, 128, 2, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x2x128 : Shape := ⟨4, ![1, 128, 2, 128]⟩
abbrev S128x2x128 : Shape := ⟨3, ![128, 2, 128]⟩
abbrev S128 : Shape := ⟨1, ![128]⟩
abbrev S139264x256 : Shape := ⟨2, ![139264, 256]⟩

abbrev nBuf : Table → Nat
  | .hbm => 5
  | .local .scVector .vmem => 2
  | _ => 0

abbrev bufTy : (tb : Table) → Fin (nBuf tb) → BufTy
  | .hbm, ⟨0, _⟩ => ⟨S155648x256, .i32⟩
  | .hbm, ⟨1, _⟩ => ⟨S1x139264, .i32⟩
  | .hbm, ⟨2, _⟩ => ⟨S155648x2x128, .i32⟩
  | .hbm, ⟨3, _⟩ => ⟨S139264x2x128, .i32⟩
  | .hbm, ⟨4, _⟩ => ⟨S139264x256, .i32⟩
  | .local .scVector .vmem, ⟨0, _⟩ => ⟨S2x1x128, .i32⟩
  | .local .scVector .vmem, ⟨1, _⟩ => ⟨S2x128x2x128, .i32⟩
  | _, _ => ⟨S155648x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c34_i32_27_r0 : BitVec 32 := 34#32
  let v32_r0 : BitVec 32 := Scalar.addi c0_i32_26_r0 c34_i32_27_r0
  let c1_i32_28_r0 : BitVec 32 := 1#32
  ⟨c0_i32_26_r0, v32_r0, c1_i32_28_r0⟩
def k0_off4 (arg6_r0 : BitVec 32) : Fin 3 → Nat :=
  let c2_i32_103_r0 : BitVec 32 := 2#32
  let v144_r0 : BitVec 32 := Scalar.remui arg6_r0 c2_i32_103_r0
  let c0_i32_105_r0 : BitVec 32 := 0#32
  let c0_i32_106_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v66_r0 : BitVec 32 := Scalar.addi arg10_r0 v4
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c34_i32_66_r0 : BitVec 32 := 34#32
  let v74_r0 : BitVec 1 := Scalar.cmpi .eq v73_r0 c34_i32_66_r0
  let c0_i32_67_r0 : BitVec 32 := 0#32
  let v75_r0 : BitVec 32 := Scalar.select v74_r0 c0_i32_67_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c33_i32_72_r0 : BitVec 32 := 33#32
  let v83_r0 : BitVec 1 := Scalar.cmpi .sge arg5_r0 c33_i32_72_r0
  let true_73_r0 : BitVec 1 := 1#1
  let v84_r0 : BitVec 1 := Scalar.xori v83_r0 true_73_r0
  let v85_r0 : BitVec 1 := Scalar.andi v82_r0 v84_r0
  let true_74_r0 : BitVec 1 := 1#1
  let v86_r0 : BitVec 1 := Scalar.andi v85_r0 true_74_r0
  let v87_r0 : BitVec 32 := Scalar.extui v86_r0
  let c0_i32_75_r0 : BitVec 32 := 0#32
  let v88_r0 : BitVec 1 := Scalar.cmpi .ne v87_r0 c0_i32_75_r0
  v88_r0

def k0_off5 (i : grid0.Coords) (arg10_r0 : BitVec 32) : Fin 2 → Nat :=
  let c0_i32_107_r0 : BitVec 32 := 0#32
  let c128_i32_104_r0 : BitVec 32 := 128#32
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c34_i32_66_r0 : BitVec 32 := 34#32
  let v74_r0 : BitVec 1 := Scalar.cmpi .eq v73_r0 c34_i32_66_r0
  let c0_i32_67_r0 : BitVec 32 := 0#32
  let v75_r0 : BitVec 32 := Scalar.select v74_r0 c0_i32_67_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v76_r0 : BitVec 32 := Scalar.addi v75_r0 v4
  let v145_r0 : BitVec 32 := Scalar.muli c128_i32_104_r0 v76_r0
  ![0, v145_r0.toNat]
def k0_off6 (arg6_r0 : BitVec 32) : Fin 1 → Nat :=
  let c2_i32_103_r0 : BitVec 32 := 2#32
  let v144_r0 : BitVec 32 := Scalar.remui arg6_r0 c2_i32_103_r0
  ![v144_r0.toNat]
def k0_off7 (arg7_r0 : BitVec 32) : Fin 3 → Nat :=
  let c2_i32_104_r0 : BitVec 32 := 2#32
  let v145_r0 : BitVec 32 := Scalar.remui arg7_r0 c2_i32_104_r0
  let c0_i32_105_r0 : BitVec 32 := 0#32
  let c0_i32_106_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v66_r0 : BitVec 32 := Scalar.addi arg10_r0 v4
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c33_i32_63_r0 : BitVec 32 := 33#32
  let v70_r0 : BitVec 32 := Scalar.select v69_r0 c33_i32_63_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_58_r0 : BitVec 32 := 0#32
  let v64_r0 : BitVec 1 := Scalar.cmpi .eq arg5_r0 c0_i32_58_r0
  let v97_r0 : BitVec 1 := Scalar.ori v96_r0 v64_r0
  let c0_i32_80_r0 : BitVec 32 := 0#32
  let v98_r0 : BitVec 1 := Scalar.cmpi .sge arg5_r0 c0_i32_80_r0
  let v99_r0 : BitVec 1 := Scalar.andi v97_r0 v98_r0
  let v100_r0 : BitVec 32 := Scalar.extui v99_r0
  let c0_i32_81_r0 : BitVec 32 := 0#32
  let v101_r0 : BitVec 1 := Scalar.cmpi .ne v100_r0 c0_i32_81_r0
  v101_r0

def k0_off8 (i : grid0.Coords) (arg10_r0 : BitVec 32) : Fin 2 → Nat :=
  let c0_i32_107_r0 : BitVec 32 := 0#32
  let c128_i32_103_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v66_r0 : BitVec 32 := Scalar.addi arg10_r0 v4
  let v144_r0 : BitVec 32 := Scalar.muli c128_i32_103_r0 v66_r0
  ![0, v144_r0.toNat]
def k0_off9 (arg7_r0 : BitVec 32) : Fin 1 → Nat :=
  let c2_i32_104_r0 : BitVec 32 := 2#32
  let v145_r0 : BitVec 32 := Scalar.remui arg7_r0 c2_i32_104_r0
  ![v145_r0.toNat]
def k0_off10 (arg8_r0 : BitVec 32) : Fin 4 → Nat :=
  let c2_i32_85_r0 : BitVec 32 := 2#32
  let v109_r0 : BitVec 32 := Scalar.remui arg8_r0 c2_i32_85_r0
  let c0_i32_103_r1 : BitVec 32 := 0#32
  let c0_i32_104_r1 : BitVec 32 := 0#32
  let c0_i32_105_r1 : BitVec 32 := 0#32
  ![v109_r0.toNat, 0, 0, 0]

def k0_chk2 (arg8_r0 : BitVec 32) : Prop :=
  (∀ a, (k0_off10 arg8_r0) a + S1x128x2x128.size a ≤ S2x128x2x128.size a)
theorem k0_off10_inb : ∀ (arg8_r0 : BitVec 32) (k0_hw2 : k0_chk2 arg8_r0), ∀ a, (k0_off10 arg8_r0) a + S1x128x2x128.size a ≤ S2x128x2x128.size a := fun arg8_r0 k0_hw2 => k0_hw2

def k0_off11 (arg7_r0 : BitVec 32) : Fin 3 → Nat :=
  let c2_i32_84_r0 : BitVec 32 := 2#32
  let v108_r0 : BitVec 32 := Scalar.remui arg7_r0 c2_i32_84_r0
  let c0_i32_106_r1 : BitVec 32 := 0#32
  let c0_i32_107_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 4 → Nat :=
  let c2_i32_103_r0 : BitVec 32 := 2#32
  let v144_r0 : BitVec 32 := Scalar.remui arg8_r0 c2_i32_103_r0
  let c0_i32_105_r0 : BitVec 32 := 0#32
  let c0_i32_106_r0 : BitVec 32 := 0#32
  let c0_i32_107_r0 : BitVec 32 := 0#32
  ![v144_r0.toNat, 0, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v66_r0 : BitVec 32 := Scalar.addi arg10_r0 v4
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c34_i32_66_r0 : BitVec 32 := 34#32
  let v74_r0 : BitVec 1 := Scalar.cmpi .eq v73_r0 c34_i32_66_r0
  let c0_i32_67_r0 : BitVec 32 := 0#32
  let v75_r0 : BitVec 32 := Scalar.select v74_r0 c0_i32_67_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c33_i32_59_r0 : BitVec 32 := 33#32
  let v65_r0 : BitVec 1 := Scalar.cmpi .eq arg5_r0 c33_i32_59_r0
  let v116_r0 : BitVec 1 := Scalar.ori v115_r0 v65_r0
  let v117_r0 : BitVec 32 := Scalar.extui v116_r0
  let c0_i32_88_r0 : BitVec 32 := 0#32
  let v118_r0 : BitVec 1 := Scalar.cmpi .ne v117_r0 c0_i32_88_r0
  v118_r0

def k0_off13 (i : grid0.Coords) (arg10_r0 : BitVec 32) : Fin 3 → Nat :=
  let c128_i32_104_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v66_r0 : BitVec 32 := Scalar.addi arg10_r0 v4
  let v145_r0 : BitVec 32 := Scalar.muli c128_i32_104_r0 v66_r0
  let c0_i32_108_r0 : BitVec 32 := 0#32
  let c0_i32_109_r0 : BitVec 32 := 0#32
  ![v145_r0.toNat, 0, 0]
def k0_off14 (arg8_r0 : BitVec 32) : Fin 1 → Nat :=
  let c2_i32_103_r0 : BitVec 32 := 2#32
  let v144_r0 : BitVec 32 := Scalar.remui arg8_r0 c2_i32_103_r0
  ![v144_r0.toNat]
def k0_off15 (arg9_r0 : BitVec 32) : Fin 4 → Nat :=
  let c2_i32_103_r0 : BitVec 32 := 2#32
  let v144_r0 : BitVec 32 := Scalar.remui arg9_r0 c2_i32_103_r0
  let c0_i32_105_r0 : BitVec 32 := 0#32
  let c0_i32_106_r0 : BitVec 32 := 0#32
  let c0_i32_107_r0 : BitVec 32 := 0#32
  ![v144_r0.toNat, 0, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v66_r0 : BitVec 32 := Scalar.addi arg10_r0 v4
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c33_i32_63_r0 : BitVec 32 := 33#32
  let v70_r0 : BitVec 32 := Scalar.select v69_r0 c33_i32_63_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_58_r0 : BitVec 32 := 0#32
  let v64_r0 : BitVec 1 := Scalar.cmpi .eq arg5_r0 c0_i32_58_r0
  let true_94_r0 : BitVec 1 := 1#1
  let v129_r0 : BitVec 1 := Scalar.xori v64_r0 true_94_r0
  let v130_r0 : BitVec 1 := Scalar.andi v128_r0 v129_r0
  let v131_r0 : BitVec 32 := Scalar.extui v130_r0
  let c0_i32_95_r0 : BitVec 32 := 0#32
  let v132_r0 : BitVec 1 := Scalar.cmpi .ne v131_r0 c0_i32_95_r0
  v132_r0

def k0_off16 (i : grid0.Coords) (arg10_r0 : BitVec 32) : Fin 3 → Nat :=
  let c128_i32_104_r0 : BitVec 32 := 128#32
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c33_i32_63_r0 : BitVec 32 := 33#32
  let v70_r0 : BitVec 32 := Scalar.select v69_r0 c33_i32_63_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v71_r0 : BitVec 32 := Scalar.addi v70_r0 v4
  let v145_r0 : BitVec 32 := Scalar.muli c128_i32_104_r0 v71_r0
  let c0_i32_108_r0 : BitVec 32 := 0#32
  let c0_i32_109_r0 : BitVec 32 := 0#32
  ![v145_r0.toNat, 0, 0]
def k0_off17 (arg9_r0 : BitVec 32) : Fin 1 → Nat :=
  let c2_i32_103_r0 : BitVec 32 := 2#32
  let v144_r0 : BitVec 32 := Scalar.remui arg9_r0 c2_i32_103_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x139264.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x139264.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x2x128.size a ≤ S2x128x2x128.size a) ∧
  (∀ (k0_h5 : k0_cond5 i k0_t1 arg10_r0 = 1#1), ∀ a, (k0_off13 i arg10_r0) a + S128x2x128.size a ≤ S139264x2x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x2x128.size a ≤ S2x128x2x128.size a) ∧
  (∀ (k0_h7 : k0_cond7 i k0_t1 arg10_r0 = 1#1), ∀ a, (k0_off16 i arg10_r0) a + S128x2x128.size a ≤ S139264x2x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x139264.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x139264.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x2x128.size a ≤ S2x128x2x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x2x128.size a ≤ S139264x2x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x2x128.size a ≤ S2x128x2x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x2x128.size a ≤ S139264x2x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 4 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  let c0_i32_50_r0 : BitVec 32 := 0#32
  ![v54_r0.toNat, 0, 0, 0]

def k0_off19 (i : grid0.Coords) (v33_4_r0 : BitVec 32) : Fin 3 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c33_i32_33_r0 : BitVec 32 := 33#32
  let v37_r0 : BitVec 32 := Scalar.select v36_r0 c33_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v38_r0 : BitVec 32 := Scalar.addi v37_r0 v4
  let v55_r0 : BitVec 32 := Scalar.muli c128_i32_47_r0 v38_r0
  let c0_i32_51_r0 : BitVec 32 := 0#32
  let c0_i32_52_r0 : BitVec 32 := 0#32
  ![v55_r0.toNat, 0, 0]

def k0_chk5 (i : grid0.Coords) (v33_4_r0 : BitVec 32) : Prop :=
  (∀ a, (k0_off19 i v33_4_r0) a + S128x2x128.size a ≤ S139264x2x128.size a)
theorem k0_off19_inb : ∀ (i : grid0.Coords) (v33_4_r0 : BitVec 32) (k0_hw5 : k0_chk5 i v33_4_r0), ∀ a, (k0_off19 i v33_4_r0) a + S128x2x128.size a ≤ S139264x2x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 4 → Nat :=
  let c2_i32_46_r0 : BitVec 32 := 2#32
  let v54_r0 : BitVec 32 := Scalar.remui v33_3_r0 c2_i32_46_r0
  let c0_i32_55_r0 : BitVec 32 := 0#32
  let c0_i32_56_r0 : BitVec 32 := 0#32
  let c0_i32_57_r0 : BitVec 32 := 0#32
  ![v54_r0.toNat, 0, 0, 0]

def k0_chk4 (v33_3_r0 : BitVec 32) : Prop :=
  (∀ a, (k0_off18 v33_3_r0) a + S1x128x2x128.size a ≤ S2x128x2x128.size a) ∧
  (∀ a, (k0_off20 v33_3_r0) a + S1.size a ≤ S2.size a) ∧
  (∀ a, (k0_off21 v33_3_r0) a + S1x128x2x128.size a ≤ S2x128x2x128.size a)
theorem k0_off18_inb : ∀ (v33_3_r0 : BitVec 32) (k0_hw4 : k0_chk4 v33_3_r0), ∀ a, (k0_off18 v33_3_r0) a + S1x128x2x128.size a ≤ S2x128x2x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x2x128.size a ≤ S2x128x2x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S155648x256 : Shape := ⟨2, ![155648, 256]⟩
abbrev S1x139264 : Shape := ⟨2, ![1, 139264]⟩
abbrev S139264 : Shape := ⟨1, ![139264]⟩
abbrev S_ : Shape := ⟨0, ![]⟩
abbrev S139264x1 : Shape := ⟨2, ![139264, 1]⟩
abbrev S139264x256 : Shape := ⟨2, ![139264, 256]⟩

abbrev nBuf : Space → Nat
  | .hbm => 12
  | .vmem => 0
  | .smem => 0
  | _ => 0

abbrev bufTy : (tb : Table) → Fin (tcTables nBuf tb) → BufTy
  | .hbm, ⟨0, _⟩ => ⟨S155648x256, .i32⟩
  | .hbm, ⟨1, _⟩ => ⟨S1x139264, .i32⟩
  | .hbm, ⟨2, _⟩ => ⟨S139264, .i32⟩
  | .hbm, ⟨3, _⟩ => ⟨S_, .i32⟩
  | .hbm, ⟨4, _⟩ => ⟨S139264, .i32⟩
  | .hbm, ⟨5, _⟩ => ⟨S139264, .i1⟩
  | .hbm, ⟨6, _⟩ => ⟨S_, .i32⟩
  | .hbm, ⟨7, _⟩ => ⟨S139264, .i32⟩
  | .hbm, ⟨8, _⟩ => ⟨S139264, .i32⟩
  | .hbm, ⟨9, _⟩ => ⟨S139264, .i32⟩
  | .hbm, ⟨10, _⟩ => ⟨S139264x1, .i32⟩
  | .hbm, ⟨11, _⟩ => ⟨S139264x256, .i32⟩
  | _, _ => ⟨S155648x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024x6472 : Shape := ⟨2, ![1024, 6472]⟩
abbrev S2048 : Shape := ⟨1, ![2048]⟩
abbrev S2048x1 : Shape := ⟨2, ![2048, 1]⟩
abbrev S_ : Shape := ⟨0, ![]⟩
abbrev S63 : Shape := ⟨1, ![63]⟩
abbrev S1 : Shape := ⟨1, ![1]⟩
abbrev S64 : Shape := ⟨1, ![64]⟩
abbrev S1x64 : Shape := ⟨2, ![1, 64]⟩
abbrev S2048x64 : Shape := ⟨2, ![2048, 64]⟩
abbrev S2048x128 : Shape := ⟨2, ![2048, 128]⟩
abbrev S8 : Shape := ⟨1, ![8]⟩
abbrev S1x8 : Shape := ⟨2, ![1, 8]⟩
abbrev S2048x8 : Shape := ⟨2, ![2048, 8]⟩
abbrev S2048x48 : Shape := ⟨2, ![2048, 48]⟩
abbrev S2048x56 : Shape := ⟨2, ![2048, 56]⟩
abbrev S2048x1024 : Shape := ⟨2, ![2048, 1024]⟩
abbrev S32768x1024 : Shape := ⟨2, ![32768, 1024]⟩
abbrev S1024x512 : Shape := ⟨2, ![1024, 512]⟩
abbrev S1024x1024 : Shape := ⟨2, ![1024, 1024]⟩
abbrev S1024x128 : Shape := ⟨2, ![1024, 128]⟩
abbrev S1024x64 : Shape := ⟨2, ![1024, 64]⟩
abbrev S1024x8 : Shape := ⟨2, ![1024, 8]⟩
abbrev S1024x56 : Shape := ⟨2, ![1024, 56]⟩
abbrev S1024x6528 : Shape := ⟨2, ![1024, 6528]⟩
abbrev S32768x512 : Shape := ⟨2, ![32768, 512]⟩
abbrev S32768x128 : Shape := ⟨2, ![32768, 128]⟩
abbrev S512x1024 : Shape := ⟨2, ![512, 1024]⟩
abbrev S512x512 : Shape := ⟨2, ![512, 512]⟩
abbrev S512x128 : Shape := ⟨2, ![512, 128]⟩
abbrev S1024x256 : Shape := ⟨2, ![1024, 256]⟩
abbrev S512x256 : Shape := ⟨2, ![512, 256]⟩

abbrev nBuf : Space → Nat
  | .hbm => 115
  | .vmem => 29
  | .smem => 0
  | _ => 0

abbrev bufTy : (tb : Table) → Fin (tcTables nBuf tb) → BufTy
  | .hbm, ⟨0, _⟩ => ⟨S16x2048x1024, .f32⟩
  | .hbm, ⟨1, _⟩ => ⟨S1024x6472, .f32⟩
  | .hbm, ⟨2, _⟩ => ⟨S2048, .i32⟩
  | .hbm, ⟨3, _⟩ => ⟨S2048, .f32⟩
  | .hbm, ⟨4, _⟩ => ⟨S2048x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S63, .f32⟩
  | .hbm, ⟨13, _⟩ => ⟨S_, .f32⟩
  | .hbm, ⟨14, _⟩ => ⟨S63, .f32⟩
  | .hbm, ⟨15, _⟩ => ⟨S63, .f32⟩
  | .hbm, ⟨16, _⟩ => ⟨S1, .f32⟩
  | .hbm, ⟨17, _⟩ => ⟨S_, .f32⟩
  | .hbm, ⟨18, _⟩ => ⟨S63, .f32⟩
  | .hbm, ⟨19, _⟩ => ⟨S63, .f32⟩
  | .hbm, ⟨20, _⟩ => ⟨S63, .f32⟩
  | .hbm, ⟨21, _⟩ => ⟨S63, .f32⟩
  | .hbm, ⟨22, _⟩ => ⟨S1, .f32⟩
  | .hbm, ⟨23, _⟩ => ⟨S63, .f32⟩
  | .hbm, ⟨24, _⟩ => ⟨S63, .f32⟩
  | .hbm, ⟨25, _⟩ => ⟨S63, .f32⟩
  | .hbm, ⟨26, _⟩ => ⟨S1, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S1x64, .f32⟩
  | .hbm, ⟨33, _⟩ => ⟨S2048x64, .f32⟩
  | .hbm, ⟨34, _⟩ => ⟨S2048x64, .f32⟩
  | .hbm, ⟨35, _⟩ => ⟨S2048x64, .f32⟩
  | .hbm, ⟨36, _⟩ => ⟨S2048x64, .f32⟩
  | .hbm, ⟨37, _⟩ => ⟨S2048x64, .f32⟩
  | .hbm, ⟨38, _⟩ => ⟨S2048x128, .f32⟩
  | .hbm, ⟨39, _⟩ => ⟨S2048x64, .f32⟩
  | .hbm, ⟨40, _⟩ => ⟨S2048x128, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S1x8, .f32⟩
  | .hbm, ⟨56, _⟩ => ⟨S2048x8, .f32⟩
  | .hbm, ⟨57, _⟩ => ⟨S2048x8, .f32⟩
  | .hbm, ⟨58, _⟩ => ⟨S2048x8, .f32⟩
  | .hbm, ⟨59, _⟩ => ⟨S2048x8, .f32⟩
  | .hbm, ⟨60, _⟩ => ⟨S2048x8, .f32⟩
  | .hbm, ⟨61, _⟩ => ⟨S_, .f32⟩
  | .hbm, ⟨62, _⟩ => ⟨S2048x48, .f32⟩
  | .hbm, ⟨63, _⟩ => ⟨S2048x64, .f32⟩
  | .hbm, ⟨64, _⟩ => ⟨S2048x8, .f32⟩
  | .hbm, ⟨65, _⟩ => ⟨S_, .f32⟩
  | .hbm, ⟨66, _⟩ => ⟨S2048x56, .f32⟩
  | .hbm, ⟨67, _⟩ => ⟨S2048x64, .f32⟩
  | .hbm, ⟨68, _⟩ => ⟨S_, .f32⟩
  | .hbm, ⟨69, _⟩ => ⟨S2048x8, .f32⟩
  | .hbm, ⟨70, _⟩ => ⟨S_, .f32⟩
  | .hbm, ⟨71, _⟩ => ⟨S2048x48, .f32⟩
  | .hbm, ⟨72, _⟩ => ⟨S2048x64, .f32⟩
  | .hbm, ⟨73, _⟩ => ⟨S_, .f32⟩
  | .hbm, ⟨74, _⟩ => ⟨S2048x64, .f32⟩
  | .hbm, ⟨75, _⟩ => ⟨S_, .f32⟩
  | .hbm, ⟨76, _⟩ => ⟨S2048x8, .f32⟩
  | .hbm, ⟨77, _⟩ => ⟨S_, .f32⟩
  | .hbm, ⟨78, _⟩ => ⟨S2048x56, .f32⟩
  | .hbm, ⟨79, _⟩ => ⟨S2048x128, .f32⟩
  | .hbm, ⟨80, _⟩ => ⟨S2048x128, .f32⟩
  | .hbm, ⟨81, _⟩ => ⟨S2048x128, .f32⟩
  | .hbm, ⟨82, _⟩ => ⟨S2048x128, .f32⟩
  | .hbm, ⟨83, _⟩ => ⟨S2048x128, .f32⟩
  | .hbm, ⟨84, _⟩ => ⟨S2048x128, .f32⟩
  | .hbm, ⟨85, _⟩ => ⟨S2048x1024, .f32⟩
  | .hbm, ⟨86, _⟩ => ⟨S32768x1024, .f32⟩
  | .hbm, ⟨87, _⟩ => ⟨S1024x512, .f32⟩
  | .hbm, ⟨88, _⟩ => ⟨S1024x512, .f32⟩
  | .hbm, ⟨89, _⟩ => ⟨S1024x1024, .f32⟩
  | .hbm, ⟨90, _⟩ => ⟨S1024x1024, .f32⟩
  | .hbm, ⟨91, _⟩ => ⟨S1024x512, .f32⟩
  | .hbm, ⟨92, _⟩ => ⟨S1024x128, .f32⟩
  | .hbm, ⟨93, _⟩ => ⟨S1024x128, .f32⟩
  | .hbm, ⟨94, _⟩ => ⟨S1024x512, .f32⟩
  | .hbm, ⟨95, _⟩ => ⟨S1024x64, .f32⟩
  | .hbm, ⟨96, _⟩ => ⟨S1024x8, .f32⟩
  | .hbm, ⟨97, _⟩ => ⟨S1024x1024, .f32⟩
  | .hbm, ⟨98, _⟩ => ⟨S1024x1024, .f32⟩
  | .hbm, ⟨99, _⟩ => ⟨S_, .f32⟩
  | .hbm, ⟨100, _⟩ => ⟨S1024x56, .f32⟩
  | .hbm, ⟨101, _⟩ => ⟨S1024x6528, .f32⟩
  | .hbm, ⟨102, _⟩ => ⟨S1024x6528, .bf16⟩
  | .hbm, ⟨103, _⟩ => ⟨S32768x512, .bf16⟩
  | .hbm, ⟨104, _⟩ => ⟨S32768x512, .bf16⟩
  | .hbm, ⟨105, _⟩ => ⟨S32768x1024, .bf16⟩
  | .hbm, ⟨106, _⟩ => ⟨S32768x1024, .f32⟩
  | .hbm, ⟨107, _⟩ => ⟨S32768x512, .bf16⟩
  | .hbm, ⟨108, _⟩ => ⟨S32768x128, .f32⟩
  | .hbm, ⟨109, _⟩ => ⟨S32768x128, .f32⟩
  | .hbm, ⟨110, _⟩ => ⟨S32768x512, .bf16⟩
  | .hbm, ⟨111, _⟩ => ⟨S32768x128, .f32⟩
  | .hbm, ⟨112, _⟩ => ⟨S32768x1024, .f32⟩
  | .hbm, ⟨113, _⟩ => ⟨S32768x1024, .f32⟩
  | .hbm, ⟨114, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1024x6528, .bf16⟩
  | .local _ .vmem, ⟨3, _⟩ => ⟨S512x1024, .f32⟩
  | .local _ .vmem, ⟨4, _⟩ => ⟨S512x1024, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x512, .bf16⟩
  | .local _ .vmem, ⟨14, _⟩ => ⟨S512x512, .bf16⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x512, .bf16⟩
  | .local _ .vmem, ⟨20, _⟩ => ⟨S512x512, .bf16⟩
  | .local _ .vmem, ⟨21, _⟩ => ⟨S512x128, .f32⟩
  | .local _ .vmem, ⟨22, _⟩ => ⟨S512x128, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x512, .bf16⟩
  | .local _ .vmem, ⟨28, _⟩ => ⟨S512x512, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_v3 : Ref sig .tc := ⟨.hbm, 27, rfl⟩
abbrev main_v4 : Ref sig .tc := ⟨.hbm, 28, rfl⟩
abbrev main_cst_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_2 : Ref sig .tc := ⟨.hbm, 42, rfl⟩
abbrev main_v17 : Ref sig .tc := ⟨.hbm, 43, rfl⟩
abbrev main_v18 : Ref sig .tc := ⟨.hbm, 44, rfl⟩
abbrev main_cst_3 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_4 : Ref sig .tc := ⟨.hbm, 49, rfl⟩
abbrev main_v22 : Ref sig .tc := ⟨.hbm, 50, rfl⟩
abbrev main_v23 : Ref sig .tc := ⟨.hbm, 51, rfl⟩
abbrev main_cst_5 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_6 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_7 : Ref sig .tc := ⟨.hbm, 65, rfl⟩
abbrev main_v35 : Ref sig .tc := ⟨.hbm, 66, rfl⟩
abbrev main_v36 : Ref sig .tc := ⟨.hbm, 67, rfl⟩
abbrev main_cst_8 : Ref sig .tc := ⟨.hbm, 68, rfl⟩
abbrev main_v37 : Ref sig .tc := ⟨.hbm, 69, rfl⟩
abbrev main_cst_9 : Ref sig .tc := ⟨.hbm, 70, rfl⟩
abbrev main_v38 : Ref sig .tc := ⟨.hbm, 71, rfl⟩
abbrev main_v39 : Ref sig .tc := ⟨.hbm, 72, rfl⟩
abbrev main_cst_10 : Ref sig .tc := ⟨.hbm, 73, rfl⟩
abbrev main_v40 : Ref sig .tc := ⟨.hbm, 74, rfl⟩
abbrev main_cst_11 : Ref sig .tc := ⟨.hbm, 75, rfl⟩
abbrev main_v41 : Ref sig .tc := ⟨.hbm, 76, rfl⟩
abbrev main_cst_12 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_13 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66_0 : Ref sig .tc := ⟨.hbm, 103, rfl⟩
abbrev main_v66_1 : Ref sig .tc := ⟨.hbm, 104, rfl⟩
abbrev main_v66_2 : Ref sig .tc := ⟨.hbm, 105, rfl⟩
abbrev main_v66_3 : Ref sig .tc := ⟨.hbm, 106, rfl⟩
abbrev main_v66_4 : Ref sig .tc := ⟨.hbm, 107, rfl⟩
abbrev main_v66_5 : Ref sig .tc := ⟨.hbm, 108, rfl⟩
abbrev main_v66_6 : Ref sig .tc := ⟨.hbm, 109, rfl⟩
abbrev main_v66_7 : Ref sig .tc := ⟨.hbm, 110, rfl⟩
abbrev main_v66_8 : Ref sig .tc := ⟨.hbm, 111, rfl⟩
abbrev main_v66_9 : Ref sig .tc := ⟨.hbm, 112, rfl⟩
abbrev main_v66_10 : Ref sig .tc := ⟨.hbm, 113, rfl⟩
abbrev main_v66_11 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6528 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S16x2048x1024 : Shape := ⟨3, ![16, 2048, 1024]⟩
abbrev S1024x6472 : Shape := ⟨2, ![1024, 6472]⟩
abbrev S2048 : Shape := ⟨1, ![2048]⟩
abbrev S16x2048x6472 : Shape := ⟨3, ![16, 2048, 6472]⟩
abbrev S16x2048x512 : Shape := ⟨3, ![16, 2048, 512]⟩
abbrev S16x2048x128 : Shape := ⟨3, ![16, 2048, 128]⟩
abbrev S16x2048x64 : Shape := ⟨3, ![16, 2048, 64]⟩
abbrev S16x2048x8 : Shape := ⟨3, ![16, 2048, 8]⟩
abbrev S_ : Shape := ⟨0, ![]⟩
abbrev S63 : Shape := ⟨1, ![63]⟩
abbrev S1 : Shape := ⟨1, ![1]⟩
abbrev S64 : Shape := ⟨1, ![64]⟩
abbrev S16x2048x4x128 : Shape := ⟨4, ![16, 2048, 4, 128]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S16x2048x4x64 : Shape := ⟨4, ![16, 2048, 4, 64]⟩
abbrev S16x2048x4x0 : Shape := ⟨4, ![16, 2048, 4, 0]⟩
abbrev S16x2048x4x256 : Shape := ⟨4, ![16, 2048, 4, 256]⟩
abbrev S8 : Shape := ⟨1, ![8]⟩
abbrev S16x2048x8x64 : Shape := ⟨4, ![16, 2048, 8, 64]⟩
abbrev S1x8 : Shape := ⟨2, ![1, 8]⟩
abbrev S2048x8 : Shape := ⟨2, ![2048, 8]⟩
abbrev S1x2048x1x8 : Shape := ⟨4, ![1, 2048, 1, 8]⟩
abbrev S16x2048x8x8 : Shape := ⟨4, ![16, 2048, 8, 8]⟩
abbrev S16x2048x8x48 : Shape := ⟨4, ![16, 2048, 8, 48]⟩
abbrev S16x2048x2x64 : Shape := ⟨4, ![16, 2048, 2, 64]⟩
abbrev S16x2048x2x8 : Shape := ⟨4, ![16, 2048, 2, 8]⟩
abbrev S16x2048x2x48 : Shape := ⟨4, ![16, 2048, 2, 48]⟩
abbrev S16x2048x1x64 : Shape := ⟨4, ![16, 2048, 1, 64]⟩
abbrev S16x2048x1x8 : Shape := ⟨4, ![16, 2048, 1, 8]⟩
abbrev S16x2048x1x48 : Shape := ⟨4, ![16, 2048, 1, 48]⟩
abbrev S16x2048x56 : Shape := ⟨3, ![16, 2048, 56]⟩
abbrev S32768x512 : Shape := ⟨2, ![32768, 512]⟩
abbrev S32768x1024 : Shape := ⟨2, ![32768, 1024]⟩
abbrev S32768x128 : Shape := ⟨2, ![32768, 128]⟩

abbrev nBuf : Space → Nat
  | .hbm => 249
  | .vmem => 0
  | .smem => 0
  | _ => 0

abbrev hbmTy0_0 (i : Nat) : BufTy := match i % 128 with
  | 0 => ⟨S16x2048x1024, .f32⟩
  | 1 => ⟨S1024x6472, .f32⟩
  | 2 => ⟨S2048, .i32⟩
  | 3 => ⟨S16x2048x6472, .f32⟩
  | 4 => ⟨S16x2048x512, .f32⟩
  | 5 => ⟨S16x2048x512, .f32⟩
  | 6 => ⟨S16x2048x1024, .f32⟩
  | 7 => ⟨S16x2048x1024, .f32⟩
  | 8 => ⟨S16x2048x512, .f32⟩
  | 9 => ⟨S16x2048x128, .f32⟩
  | 10 => ⟨S16x2048x128, .f32⟩
  | 11 => ⟨S16x2048x512, .f32⟩
  | 12 => ⟨S16x2048x64, .f32⟩
  | 13 => ⟨S16x2048x8, .f32⟩
  | 14 => ⟨S16x2048x1024, .f32⟩
  | 15 => ⟨S16x2048x1024, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S63, .f32⟩
  | 24 => ⟨S_, .f32⟩
  | 25 => ⟨S63, .f32⟩
  | 26 => ⟨S63, .f32⟩
  | 27 => ⟨S1, .f32⟩
  | 28 => ⟨S_, .f32⟩
  | 29 => ⟨S63, .f32⟩
  | 30 => ⟨S63, .f32⟩
  | 31 => ⟨S63, .f32⟩
  | 32 => ⟨S63, .f32⟩
  | 33 => ⟨S1, .f32⟩
  | 34 => ⟨S63, .f32⟩
  | 35 => ⟨S63, .f32⟩
  | 36 => ⟨S63, .f32⟩
  | 37 => ⟨S1, .f32⟩
  | 38 => ⟨S64, .f32⟩
  | 39 => ⟨S64, .f32⟩
  | 40 => ⟨S_, .f32⟩
  | 41 => ⟨S64, .f32⟩
  | 42 => ⟨S64, .f32⟩
  | 43 => ⟨S16x2048x4x128, .f32⟩
  | 44 => ⟨S2048, .f32⟩
  | 45 => ⟨S2048x1, .f32⟩
  | 46 => ⟨S1x64, .f32⟩
  | 47 => ⟨S2048x64, .f32⟩
  | 48 => ⟨S2048x64, .f32⟩
  | 49 => ⟨S2048x64, .f32⟩
  | 50 => ⟨S2048x64, .f32⟩
  | 51 => ⟨S1x2048x1x64, .f32⟩
  | 52 => ⟨S2048x64, .f32⟩
  | 53 => ⟨S1x2048x1x64, .f32⟩
  | 54 => ⟨S16x2048x4x64, .f32⟩
  | 55 => ⟨S16x2048x4x64, .f32⟩
  | 56 => ⟨S16x2048x4x0, .f32⟩
  | 57 => ⟨S16x2048x4x64, .f32⟩
  | 58 => ⟨S16x2048x4x64, .f32⟩
  | 59 => ⟨S16x2048x4x64, .f32⟩
  | 60 => ⟨S16x2048x4x64, .f32⟩
  | 61 => ⟨S16x2048x4x64, .f32⟩
  | 62 => ⟨S16x2048x4x64, .f32⟩
  | 63 => ⟨S16x2048x4x64, .f32⟩
  | 64 => ⟨S16x2048x4x64, .f32⟩
  | 65 => ⟨S16x2048x4x64, .f32⟩
  | 66 => ⟨S16x2048x4x64, .f32⟩
  | 67 => ⟨S16x2048x4x128, .f32⟩
  | 68 => ⟨S16x2048x4x128, .f32⟩
  | 69 => ⟨S2048, .f32⟩
  | 70 => ⟨S2048x1, .f32⟩
  | 71 => ⟨S1x64, .f32⟩
  | 72 => ⟨S2048x64, .f32⟩
  | 73 => ⟨S2048x64, .f32⟩
  | 74 => ⟨S2048x64, .f32⟩
  | 75 => ⟨S2048x64, .f32⟩
  | 76 => ⟨S1x2048x1x64, .f32⟩
  | 77 => ⟨S2048x64, .f32⟩
  | 78 => ⟨S1x2048x1x64, .f32⟩
  | 79 => ⟨S16x2048x4x64, .f32⟩
  | 80 => ⟨S16x2048x4x64, .f32⟩
  | 81 => ⟨S16x2048x4x0, .f32⟩
  | 82 => ⟨S16x2048x4x64, .f32⟩
  | 83 => ⟨S16x2048x4x64, .f32⟩
  | 84 => ⟨S16x2048x4x64, .f32⟩
  | 85 => ⟨S16x2048x4x64, .f32⟩
  | 86 => ⟨S16x2048x4x64, .f32⟩
  | 87 => ⟨S16x2048x4x64, .f32⟩
  | 88 => ⟨S16x2048x4x64, .f32⟩
  | 89 => ⟨S16x2048x4x64, .f32⟩
  | 90 => ⟨S16x2048x4x64, .f32⟩
  | 91 => ⟨S16x2048x4x64, .f32⟩
  | 92 => ⟨S16x2048x4x128, .f32⟩
  | 93 => ⟨S_, .f32⟩
  | 94 => ⟨S16x2048x4x128, .f32⟩
  | 95 => ⟨S16x2048x4x128, .f32⟩
  | 96 => ⟨S16x2048x4x256, .f32⟩
  | 97 => ⟨S8, .f32⟩
  | 98 => ⟨S_, .f32⟩
  | 99 => ⟨S8, .f32⟩
  | 100 => ⟨S8, .f32⟩
  | 101 => ⟨S_, .f32⟩
  | 102 => ⟨S8, .f32⟩
  | 103 => ⟨S8, .f32⟩
  | 104 => ⟨S8, .f32⟩
  | 105 => ⟨S_, .f32⟩
  | 106 => ⟨S8, .f32⟩
  | 107 => ⟨S8, .f32⟩
  | 108 => ⟨S_, .f32⟩
  | 109 => ⟨S8, .f32⟩
  | 110 => ⟨S8, .f32⟩
  | 111 => ⟨S16x2048x8x64, .f32⟩
  | 112 => ⟨S2048, .f32⟩
  | 113 => ⟨S2048x1, .f32⟩
  | 114 => ⟨S1x8, .f32⟩
  | 115 => ⟨S2048x8, .f32⟩
  | 116 => ⟨S2048x8, .f32⟩
  | 117 => ⟨S2048x8, .f32⟩
  | 118 => ⟨S2048x8, .f32⟩
  | 119 => ⟨S1x2048x1x8, .f32⟩
  | 120 => ⟨S2048x8, .f32⟩
  | 121 => ⟨S1x2048x1x8, .f32⟩
  | 122 => ⟨S16x2048x8x8, .f32⟩
  | 123 => ⟨S16x2048x8x8, .f32⟩
  | 124 => ⟨S16x2048x8x48, .f32⟩
  | 125 => ⟨S16x2048x8x8, .f32⟩
  | 126 => ⟨S16x2048x8x8, .f32⟩
  | 127 => ⟨S16x2048x8x8, .f32⟩
  | _ => ⟨S16x2048x1024, .f32⟩

abbrev hbmTy0_1 (i : Nat) : BufTy := match i % 128 with
  | 0 => ⟨S16x2048x8x8, .f32⟩
  | 1 => ⟨S16x2048x8x8, .f32⟩
  | 2 => ⟨S16x2048x8x8, .f32⟩
  | 3 => ⟨S16x2048x8x8, .f32⟩
  | 4 => ⟨S16x2048x8x8, .f32⟩
  | 5 => ⟨S16x2048x8x8, .f32⟩
  | 6 => ⟨S16x2048x8x8, .f32⟩
  | 7 => ⟨S16x2048x8x64, .f32⟩
  | 8 => ⟨S16x2048x2x64, .f32⟩
  | 9 => ⟨S2048, .f32⟩
  | 10 => ⟨S2048x1, .f32⟩
  | 11 => ⟨S1x8, .f32⟩
  | 12 => ⟨S2048x8, .f32⟩
  | 13 => ⟨S2048x8, .f32⟩
  | 14 => ⟨S2048x8, .f32⟩
  | 15 => ⟨S2048x8, .f32⟩
  | 16 => ⟨S1x2048x1x8, .f32⟩
  | 17 => ⟨S2048x8, .f32⟩
  | 18 => ⟨S1x2048x1x8, .f32⟩
  | 19 => ⟨S16x2048x2x8, .f32⟩
  | 20 => ⟨S16x2048x2x8, .f32⟩
  | 21 => ⟨S16x2048x2x48, .f32⟩
  | 22 => ⟨S16x2048x2x8, .f32⟩
  | 23 => ⟨S16x2048x2x8, .f32⟩
  | 24 => ⟨S16x2048x2x8, .f32⟩
  | 25 => ⟨S16x2048x2x8, .f32⟩
  | 26 => ⟨S16x2048x2x8, .f32⟩
  | 27 => ⟨S16x2048x2x8, .f32⟩
  | 28 => ⟨S16x2048x2x8, .f32⟩
  | 29 => ⟨S16x2048x2x8, .f32⟩
  | 30 => ⟨S16x2048x2x8, .f32⟩
  | 31 => ⟨S16x2048x2x8, .f32⟩
  | 32 => ⟨S16x2048x2x64, .f32⟩
  | 33 => ⟨S16x2048x2x64, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S16x2048x8x64, .f32⟩
  | 49 => ⟨S2048, .f32⟩
  | 50 => ⟨S2048x1, .f32⟩
  | 51 => ⟨S1x8, .f32⟩
  | 52 => ⟨S2048x8, .f32⟩
  | 53 => ⟨S2048x8, .f32⟩
  | 54 => ⟨S2048x8, .f32⟩
  | 55 => ⟨S2048x8, .f32⟩
  | 56 => ⟨S1x2048x1x8, .f32⟩
  | 57 => ⟨S2048x8, .f32⟩
  | 58 => ⟨S1x2048x1x8, .f32⟩
  | 59 => ⟨S16x2048x8x8, .f32⟩
  | 60 => ⟨S16x2048x8x8, .f32⟩
  | 61 => ⟨S16x2048x8x48, .f32⟩
  | 62 => ⟨S16x2048x8x8, .f32⟩
  | 63 => ⟨S16x2048x8x8, .f32⟩
  | 64 => ⟨S16x2048x8x8, .f32⟩
  | 65 => ⟨S16x2048x8x8, .f32⟩
  | 66 => ⟨S16x2048x8x8, .f32⟩
  | 67 => ⟨S16x2048x8x8, .f32⟩
  | 68 => ⟨S16x2048x8x8, .f32⟩
  | 69 => ⟨S16x2048x8x8, .f32⟩
  | 70 => ⟨S16x2048x8x8, .f32⟩
  | 71 => ⟨S16x2048x8x8, .f32⟩
  | 72 => ⟨S16x2048x8x64, .f32⟩
  | 73 => ⟨S16x2048x1x64, .f32⟩
  | 74 => ⟨S2048, .f32⟩
  | 75 => ⟨S2048x1, .f32⟩
  | 76 => ⟨S1x8, .f32⟩
  | 77 => ⟨S2048x8, .f32⟩
  | 78 => ⟨S2048x8, .f32⟩
  | 79 => ⟨S2048x8, .f32⟩
  | 80 => ⟨S2048x8, .f32⟩
  | 81 => ⟨S1x2048x1x8, .f32⟩
  | 82 => ⟨S2048x8, .f32⟩
  | 83 => ⟨S1x2048x1x8, .f32⟩
  | 84 => ⟨S16x2048x1x8, .f32⟩
  | 85 => ⟨S16x2048x1x8, .f32⟩
  | 86 => ⟨S16x2048x1x48, .f32⟩
  | 87 => ⟨S16x2048x1x8, .f32⟩
  | 88 => ⟨S16x2048x1x8, .f32⟩
  | 89 => ⟨S16x2048x1x8, .f32⟩
  | 90 => ⟨S16x2048x1x8, .f32⟩
  | 91 => ⟨S16x2048x1x8, .f32⟩
  | 92 => ⟨S16x2048x1x8, .f32⟩
  | 93 => ⟨S16x2048x1x8, .f32⟩
  | 94 => ⟨S16x2048x1x8, .f32⟩
  | 95 => ⟨S16x2048x1x8, .f32⟩
  | 96 => ⟨S16x2048x1x8, .f32⟩
  | 97 => ⟨S16x2048x1x64, .f32⟩
  | 98 => ⟨S16x2048x64, .f32⟩
  | 99 => ⟨S_, .f32⟩
  | 100 => ⟨S16x2048x8, .f32⟩
  | 101 => ⟨S16x2048x8, .f32⟩
  | 102 => ⟨S_, .f32⟩
  | 103 => ⟨S16x2048x56, .f32⟩
  | 104 => ⟨S16x2048x128, .f32⟩
  | 105 => ⟨S32768x512, .f32⟩
  | 106 => ⟨S32768x512, .bf16⟩
  | 107 => ⟨S32768x512, .f32⟩
  | 108 => ⟨S32768x512, .bf16⟩
  | 109 => ⟨S32768x1024, .f32⟩
  | 110 => ⟨S32768x1024, .bf16⟩
  | 111 => ⟨S32768x1024, .f32⟩
  | 112 => ⟨S32768x512, .f32⟩
  | 113 => ⟨S32768x512, .bf16⟩
  | 114 => ⟨S32768x128, .f32⟩
  | 115 => ⟨S32768x128, .f32⟩
  | 116 => ⟨S32768x512, .f32⟩
  | 117 => ⟨S32768x512, .bf16⟩
  | 118 => ⟨S32768x128, .f32⟩
  | 119 => ⟨S32768x1024, .f32⟩
  | 120 => ⟨S32768x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_cst : Ref sig .tc := ⟨.hbm, 21, rfl⟩
abbrev main_call0_v3 : Ref sig .tc := ⟨.hbm, 22, rfl⟩
abbrev main_call0_v4 : Ref sig .tc := ⟨.hbm, 23, rfl⟩
abbrev main_call0_cst_0 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_v14 : Ref sig .tc := ⟨.hbm, 38, rfl⟩
abbrev main_v15 : Ref sig .tc := ⟨.hbm, 39, rfl⟩
abbrev main_cst_1 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_2 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_3 : Ref sig .tc := ⟨.hbm, 98, rfl⟩
abbrev main_v72 : Ref sig .tc := ⟨.hbm, 99, rfl⟩
abbrev main_v73 : Ref sig .tc := ⟨.hbm, 100, rfl⟩
abbrev main_cst_4 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_5 : Ref sig .tc := ⟨.hbm, 105, rfl⟩
abbrev main_v77 : Ref sig .tc := ⟨.hbm, 106, rfl⟩
abbrev main_v78 : Ref sig .tc := ⟨.hbm, 107, rfl⟩
abbrev main_cst_6 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_cst_7 : Ref sig .tc := ⟨.hbm, 163, rfl⟩
abbrev main_v133 : Ref sig .tc := ⟨.hbm, 164, rfl⟩
abbrev main_v134 : Ref sig .tc := ⟨.hbm, 165, rfl⟩
abbrev main_cst_8 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_cst_9 : Ref sig .tc := ⟨.hbm, 170, rfl⟩
abbrev main_v138 : Ref sig .tc := ⟨.hbm, 171, rfl⟩
abbrev main_v139 : Ref sig .tc := ⟨.hbm, 172, rfl⟩
abbrev main_cst_10 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_cst_11 : Ref sig .tc := ⟨.hbm, 227, rfl⟩
abbrev main_v193 : Ref sig .tc := ⟨.hbm, 228, rfl⟩
abbrev main_v194 : Ref sig .tc := ⟨.hbm, 229, rfl⟩
abbrev main_cst_12 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩

abbrev nD : Nat := 1
abbrev τ : Topo := Topo.v7x

variable {F : FTy → Type} [FloatOps F]
-- ==== Kernel3.lean ====
abbrev S304 : Shape := ⟨1, ![304]⟩
abbrev S1 : Shape := ⟨1, ![1]⟩
abbrev S155648x256 : Shape := ⟨2, ![155648, 256]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x8x128x2 : Shape := ⟨4, ![32, 8, 128, 2]⟩
abbrev S32x8x2x128 : Shape := ⟨4, ![32, 8, 2, 128]⟩
abbrev S32x1x2048 : Shape := ⟨3, ![32, 1, 2048]⟩
abbrev S32x1024x8x128x2 : Shape := ⟨5, ![32, 1024, 8, 128, 2]⟩
abbrev S32x1024x8x2x128 : Shape := ⟨5, ![32, 1024, 8, 2, 128]⟩
abbrev S32x1x1024 : Shape := ⟨3, ![32, 1, 1024]⟩
abbrev S155648x512 : Shape := ⟨2, ![155648, 512]⟩
abbrev S512x256 : Shape := ⟨2, ![512, 256]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x512 : Shape := ⟨2, ![512, 512]⟩
abbrev S512x1024 : Shape := ⟨2, ![512, 1024]⟩
abbrev S1024x2048 : Shape := ⟨2, ![1024, 2048]⟩
abbrev S512x2048 : Shape := ⟨2, ![512, 2048]⟩
abbrev S1x2048 : Shape := ⟨2, ![1, 2048]⟩
abbrev S512x128 : Shape := ⟨2, ![512, 128]⟩
abbrev S1024x1024 : Shape := ⟨2, ![1024, 1024]⟩
abbrev S1x1024 : Shape := ⟨2, ![1, 1024]⟩

abbrev nBuf : Space → Nat
  | .hbm => 17
  | .vmem => 16
  | .smem => 2
  | _ => 0

abbrev bufTy : (tb : Table) → Fin (tcTables nBuf tb) → BufTy
  | .hbm, ⟨0, _⟩ => ⟨S155648x256, .i32⟩
  | .hbm, ⟨1, _⟩ => ⟨S155648x256, .i32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S32x8x128x2, .f32⟩
  | .hbm, ⟨7, _⟩ => ⟨S32x8x2x128, .f32⟩
  | .hbm, ⟨8, _⟩ => ⟨S32x1x2048, .f32⟩
  | .hbm, ⟨9, _⟩ => ⟨S32x1024x8x128x2, .f32⟩
  | .hbm, ⟨10, _⟩ => ⟨S32x1024x8x2x128, .f32⟩
  | .hbm, ⟨11, _⟩ => ⟨S32x1024x2048, .f32⟩
  | .hbm, ⟨12, _⟩ => ⟨S32x1024x2048, .bf16⟩
  | .hbm, ⟨13, _⟩ => ⟨S32x1024x1024, .bf16⟩
  | .hbm, ⟨14, _⟩ => ⟨S32x1x1024, .f32⟩
  | .hbm, ⟨15, _⟩ => ⟨S155648x512, .bf16⟩
  | .hbm, ⟨16, _⟩ => ⟨S155648x512, .bf16⟩
  | .local _ .vmem, ⟨0, _⟩ => ⟨S512x256, .i32⟩
  | .local _ .vmem, ⟨1, _⟩ => ⟨S512x256, .i32⟩
  | .local _ .vmem, ⟨2, _⟩ => ⟨S512x256, .i32⟩
  | .local _ .vmem, ⟨3, _⟩ => ⟨S512x256, .i32⟩
  | .local _ .vmem, ⟨4, _⟩ => ⟨S1x1024x2048, .bf16⟩
  | .local _ .vmem, ⟨5, _⟩ => ⟨S1x1024x2048, .bf16⟩
  | .local _ .vmem, ⟨6, _⟩ => ⟨S1x1x2048, .f32⟩
  | .local _ .vmem, ⟨7, _⟩ => ⟨S1x1x2048, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1x1024, .f32⟩
  | .local _ .vmem, ⟨11, _⟩ => ⟨S1x1x1024, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .smem, ⟨0, _⟩ => ⟨S304, .i32⟩
  | .local _ .smem, ⟨1, _⟩ => ⟨S1, .i32⟩
  | _, _ => ⟨S155648x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![304], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S304 : Shape := ⟨1, ![304]⟩
abbrev S1 : Shape := ⟨1, ![1]⟩
abbrev S155648x256 : Shape := ⟨2, ![155648, 256]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S155648x1024 : Shape := ⟨2, ![155648, 1024]⟩
abbrev S304x512x1024 : Shape := ⟨3, ![304, 512, 1024]⟩
abbrev S304x1 : Shape := ⟨2, ![304, 1]⟩
abbrev S304x1024x2048 : Shape := ⟨3, ![304, 1024, 2048]⟩
abbrev S304x512x2048 : Shape := ⟨3, ![304, 512, 2048]⟩
abbrev S304x2048 : Shape := ⟨2, ![304, 2048]⟩
abbrev S304x1x2048 : Shape := ⟨3, ![304, 1, 2048]⟩
abbrev S304x1024x1024 : Shape := ⟨3, ![304, 1024, 1024]⟩
abbrev S304x1024 : Shape := ⟨2, ![304, 1024]⟩
abbrev S304x1x1024 : Shape := ⟨3, ![304, 1, 1024]⟩
abbrev S155648x512 : Shape := ⟨2, ![155648, 512]⟩

abbrev nBuf : Space → Nat
  | .hbm => 103
  | .vmem => 0
  | .smem => 0
  | _ => 0

abbrev bufTy : (tb : Table) → Fin (tcTables nBuf tb) → BufTy
  | .hbm, ⟨0, _⟩ => ⟨S304, .i32⟩
  | .hbm, ⟨1, _⟩ => ⟨S1, .i32⟩
  | .hbm, ⟨2, _⟩ => ⟨S155648x256, .i32⟩
  | .hbm, ⟨3, _⟩ => ⟨S155648x256, .i32⟩
  | .hbm, ⟨4, _⟩ => ⟨S32x1024x2048, .f32⟩
  | .hbm, ⟨5, _⟩ => ⟨S32x2048, .f32⟩
  | .hbm, ⟨6, _⟩ => ⟨S32x1024x1024, .f32⟩
  | .hbm, ⟨7, _⟩ => ⟨S32x1024, .f32⟩
  | .hbm, ⟨8, _⟩ => ⟨S_, .i32⟩
  | .hbm, ⟨9, _⟩ => ⟨S155648x256, .i32⟩
  | .hbm, ⟨10, _⟩ => ⟨S155648x256, .i32⟩
  | .hbm, ⟨11, _⟩ => ⟨S155648x256, .f32⟩
  | .hbm, ⟨12, _⟩ => ⟨S_, .i32⟩
  | .hbm, ⟨13, _⟩ => ⟨S155648x256, .i32⟩
  | .hbm, ⟨14, _⟩ => ⟨S155648x256, .i32⟩
  | .hbm, ⟨15, _⟩ => ⟨S155648x256, .f32⟩
  | .hbm, ⟨16, _⟩ => ⟨S_, .i32⟩
  | .hbm, ⟨17, _⟩ => ⟨S155648x256, .i32⟩
  | .hbm, ⟨18, _⟩ => ⟨S155648x256, .i32⟩
  | .hbm, ⟨19, _⟩ => ⟨S155648x256, .f32⟩
  | .hbm, ⟨20, _⟩ => ⟨S_, .i32⟩
  | .hbm, ⟨21, _⟩ => ⟨S155648x256, .i32⟩
  | .hbm, ⟨22, _⟩ => ⟨S155648x256, .i32⟩
  | .hbm, ⟨23, _⟩ => ⟨S155648x256, .f32⟩
  | .hbm, ⟨24, _⟩ => ⟨S155648x1024, .f32⟩
  | .hbm, ⟨25, _⟩ => ⟨S304x512x1024, .f32⟩
  | .hbm, ⟨26, _⟩ => ⟨S_, .i32⟩
  | .hbm, ⟨27, _⟩ => ⟨S304, .i32⟩
  | .hbm, ⟨28, _⟩ => ⟨S304, .i1⟩
  | .hbm, ⟨29, _⟩ => ⟨S_, .i32⟩
  | .hbm, ⟨30, _⟩ => ⟨S304, .i32⟩
  | .hbm, ⟨31, _⟩ => ⟨S304, .i32⟩
  | .hbm, ⟨32, _⟩ => ⟨S304, .i32⟩
  | .hbm, ⟨33, _⟩ => ⟨S304x1, .i32⟩
  | .hbm, ⟨34, _⟩ => ⟨S304x1024x2048, .f32⟩
  | .hbm, ⟨35, _⟩ => ⟨S304x512x2048, .f32⟩
  | .hbm, ⟨36, _⟩ => ⟨S_, .i32⟩
  | .hbm, ⟨37, _⟩ => ⟨S304, .i32⟩
  | .hbm, ⟨38, _⟩ => ⟨S304, .i1⟩
  | .hbm, ⟨39, _⟩ => ⟨S_, .i32⟩
  | .hbm, ⟨40, _⟩ => ⟨S304, .i32⟩
  | .hbm, ⟨41, _⟩ => ⟨S304, .i32⟩
  | .hbm, ⟨42, _⟩ => ⟨S304, .i32⟩
  | .hbm, ⟨43, _⟩ => ⟨S304x1, .i32⟩
  | .hbm, ⟨44, _⟩ => ⟨S304x2048, .f32⟩
  | .hbm, ⟨45, _⟩ => ⟨S304x1x2048, .f32⟩
  | .hbm, ⟨46, _⟩ => ⟨S304x512x2048, .f32⟩
  | .hbm, ⟨47, _⟩ => ⟨S304x512x2048, .f32⟩
  | .hbm, ⟨48, _⟩ => ⟨S304x512x1024, .f32⟩
  | .hbm, ⟨49, _⟩ => ⟨S_, .f32⟩
  | .hbm, ⟨50, _⟩ => ⟨S304x512x1024, .f32⟩
  | .hbm, ⟨51, _⟩ => ⟨S304x512x1024, .f32⟩
  | .hbm, ⟨52, _⟩ => ⟨S304x512x1024, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S304x512x1024, .f32⟩
  | .hbm, ⟨57, _⟩ => ⟨S304x512x1024, .f32⟩
  | .hbm, ⟨58, _⟩ => ⟨S_, .f32⟩
  | .hbm, ⟨59, _⟩ => ⟨S304x512x1024, .f32⟩
  | .hbm, ⟨60, _⟩ => ⟨S304x512x1024, .f32⟩
  | .hbm, ⟨61, _⟩ => ⟨S_, .f32⟩
  | .hbm, ⟨62, _⟩ => ⟨S304x512x1024, .f32⟩
  | .hbm, ⟨63, _⟩ => ⟨S304x512x1024, .f32⟩
  | .hbm, ⟨64, _⟩ => ⟨S304x512x1024, .f32⟩
  | .hbm, ⟨65, _⟩ => ⟨S304x512x1024, .f32⟩
  | .hbm, ⟨66, _⟩ => ⟨S_, .f32⟩
  | .hbm, ⟨67, _⟩ => ⟨S304x512x1024, .f32⟩
  | .hbm, ⟨68, _⟩ => ⟨S304x512x1024, .f32⟩
  | .hbm, ⟨69, _⟩ => ⟨S_, .f32⟩
  | .hbm, ⟨70, _⟩ => ⟨S304x512x1024, .f32⟩
  | .hbm, ⟨71, _⟩ => ⟨S304x512x1024, .f32⟩
  | .hbm, ⟨72, _⟩ => ⟨S304x512x1024, .f32⟩
  | .hbm, ⟨73, _⟩ => ⟨S_, .f32⟩
  | .hbm, ⟨74, _⟩ => ⟨S304x512x1024, .f32⟩
  | .hbm, ⟨75, _⟩ => ⟨S304x512x1024, .f32⟩
  | .hbm, ⟨76, _⟩ => ⟨S304x512x1024, .f32⟩
  | .hbm, ⟨77, _⟩ => ⟨S_, .i32⟩
  | .hbm, ⟨78, _⟩ => ⟨S304, .i32⟩
  | .hbm, ⟨79, _⟩ => ⟨S304, .i1⟩
  | .hbm, ⟨80, _⟩ => ⟨S_, .i32⟩
  | .hbm, ⟨81, _⟩ => ⟨S304, .i32⟩
  | .hbm, ⟨82, _⟩ => ⟨S304, .i32⟩
  | .hbm, ⟨83, _⟩ => ⟨S304, .i32⟩
  | .hbm, ⟨84, _⟩ => ⟨S304x1, .i32⟩
  | .hbm, ⟨85, _⟩ => ⟨S304x1024x1024, .f32⟩
  | .hbm, ⟨86, _⟩ => ⟨S304x512x1024, .f32⟩
  | .hbm, ⟨87, _⟩ => ⟨S_, .i32⟩
  | .hbm, ⟨88, _⟩ => ⟨S304, .i32⟩
  | .hbm, ⟨89, _⟩ => ⟨S304, .i1⟩
  | .hbm, ⟨90, _⟩ => ⟨S_, .i32⟩
  | .hbm, ⟨91, _⟩ => ⟨S304, .i32⟩
  | .hbm, ⟨92, _⟩ => ⟨S304, .i32⟩
  | .hbm, ⟨93, _⟩ => ⟨S304, .i32⟩
  | .hbm, ⟨94, _⟩ => ⟨S304x1, .i32⟩
  | .hbm, ⟨95, _⟩ => ⟨S304x1024, .f32⟩
  | .hbm, ⟨96, _⟩ => ⟨S304x1x1024, .f32⟩
  | .hbm, ⟨97, _⟩ => ⟨S304x512x1024, .f32⟩
  | .hbm, ⟨98, _⟩ => ⟨S304x512x1024, .f32⟩
  | .hbm, ⟨99, _⟩ => ⟨S155648x1024, .f32⟩
  | .hbm, ⟨100, _⟩ => ⟨S155648x1024, .bf16⟩
  | .hbm, ⟨101, _⟩ => ⟨S155648x512, .bf16⟩
  | .hbm, ⟨102, _⟩ => ⟨S155648x512, .bf16⟩
  | _, _ => ⟨S304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_cst_8 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_10 : Ref sig .tc := ⟨.hbm, 66, rfl⟩
abbrev main_v41 : Ref sig .tc := ⟨.hbm, 67, rfl⟩
abbrev main_v42 : Ref sig .tc := ⟨.hbm, 68, rfl⟩
abbrev main_cst_11 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_12 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_13 : Ref sig .tc := ⟨.hbm, 77, rfl⟩
abbrev main_v49 : Ref sig .tc := ⟨.hbm, 78, rfl⟩
abbrev main_v50 : Ref sig .tc := ⟨.hbm, 79, rfl⟩
abbrev main_c_14 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_15 : Ref sig .tc := ⟨.hbm, 87, rfl⟩
abbrev main_v57 : Ref sig .tc := ⟨.hbm, 88, rfl⟩
abbrev main_v58 : Ref sig .tc := ⟨.hbm, 89, rfl⟩
abbrev main_c_16 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== Kernel4.lean ====
abbrev S32x1024x2048 : Shape := ⟨3, ![32, 1024, 2048]⟩
abbrev S1x1024x2048 : Shape := ⟨3, ![1, 1024, 2048]⟩
abbrev S256x256 : Shape := ⟨2, ![256, 256]⟩
abbrev S1x1024x256 : Shape := ⟨3, ![1, 1024, 256]⟩
abbrev S1024x256 : Shape := ⟨2, ![1024, 256]⟩

abbrev nBuf : Space → Nat
  | .hbm => 2
  | .vmem => 4
  | .smem => 0
  | _ => 0

abbrev bufTy : (tb : Table) → Fin (tcTables nBuf tb) → BufTy
  | .hbm, ⟨0, _⟩ => ⟨S32x1024x2048, .f32⟩
  | .hbm, ⟨1, _⟩ => ⟨S32x1024x2048, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .bf16⟩
  | .local _ .vmem, ⟨3, _⟩ => ⟨S1x1024x2048, .bf16⟩
  | _, _ => ⟨S32x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference4Ideal.lean ====
abbrev S32x1024x2048 : Shape := ⟨3, ![32, 1024, 2048]⟩
abbrev S32x1024x8x128x2 : Shape := ⟨5, ![32, 1024, 8, 128, 2]⟩
abbrev S32x1024x8x2x128 : Shape := ⟨5, ![32, 1024, 8, 2, 128]⟩

abbrev nBuf : Space → Nat
  | .hbm => 5
  | .vmem => 0
  | .smem => 0
  | _ => 0

abbrev bufTy : (tb : Table) → Fin (tcTables nBuf tb) → BufTy
  | .hbm, ⟨0, _⟩ => ⟨S32x1024x2048, .f32⟩
  | .hbm, ⟨1, _⟩ => ⟨S32x1024x8x128x2, .f32⟩
  | .hbm, ⟨2, _⟩ => ⟨S32x1024x8x2x128, .f32⟩
  | .hbm, ⟨3, _⟩ => ⟨S32x1024x2048, .f32⟩
  | .hbm, ⟨4, _⟩ => ⟨S32x1024x2048, .bf16⟩
  | _, _ => ⟨S32x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== Proof.Words.lean ====
/-
  The words that the gather's loop carries, at every tile and every trip, in closed form.

  A tile runs 34 steps. Five counters are carried from step to step: which slot the next list of positions is
  fetched into, which slot the present list is read from, which slot the present rows are put into, which slot is
  being written out, and which step this is. Before step `k` they are `min (k+1) 34`, `k`, `k`, `k-1`, `k mod 34`
  (`w6`, `w7`, `w7`, `w9`, `w10`). From these follow every offset the step computes, every condition it branches on and
  every bound it checks; each is decided here by evaluation over the 2 x 16 tiles and the 34 steps.
-/
module

public import proofs.«01_k».proof.Defs
public import proofs.«01_k».proof.Proof.Gen.Kernel
public import proofs.«01_k».proof.Proof.Gen.Kernel.Skeleton
public import Idealize.ShloMosaic.Lib.Ring

@[expose] public section

noncomputable section

namespace Cert.Proof.Gather

open Cert.Kernel Cert.Kernel.Gen
open Idealize.ShloMosaic

/-- A tile's coordinates from its core and its subcore. -/
def coords (c : Fin 2) (s : Fin 16) : grid0.Coords :=
  fun | 0 => c | 1 => s | ⟨_ + 2, h⟩ => absurd h (Nat.not_lt.2 (Nat.le_add_left _ _))

theorem coords_eta (i : grid0.Coords) : coords (i 0) (i 1) = i := by
  funext a; match a with
  | 0 => rfl
  | 1 => rfl

/-- Tile `i`'s number among the 32, and the first row of its step `k`: 128 rows a step, 34 steps a tile. -/
def tileNo (i : grid0.Coords) : ℕ := (i 1).val + 16 * (i 0).val
def rowOf (i : grid0.Coords) (k : ℕ) : ℕ := 128 * (34 * tileNo i + k)

theorem tileNo_lt (i : grid0.Coords) : tileNo i < 32 := by
  have h0 : (i 0).val < 2 := (i 0).isLt
  have h1 : (i 1).val < 16 := (i 1).isLt
  unfold tileNo; omega

/-- The five carried words before step `k`. -/
def w6 (k : ℕ) : BitVec 32 := BitVec.ofNat 32 (min (k + 1) 34)
def w7 (k : ℕ) : BitVec 32 := BitVec.ofNat 32 k
def w9 (k : ℕ) : BitVec 32 := BitVec.ofNat 32 (k - 1)
def w10 (k : ℕ) : BitVec 32 := BitVec.ofNat 32 (k % 34)
def ws (k : ℕ) : BitVec 32 × BitVec 32 × BitVec 32 × BitVec 32 × BitVec 32 := (w6 k, w7 k, w7 k, w9 k, w10 k)

/-! ## Offsets that name a slot -/

theorem off6_eq : ∀ k : Fin 34, k.val + 1 < 34 → k0_off6 (w6 k) = ![(k.val + 1) % 2] := by decide +kernel
theorem off4_eq : ∀ k : Fin 34, k.val + 1 < 34 → k0_off4 (w6 k) = ![(k.val + 1) % 2, 0, 0] := by decide +kernel
theorem off7_eq : ∀ k : Fin 34, k0_off7 (w7 k) = ![k.val % 2, 0, 0] := by decide +kernel
theorem off9_eq : ∀ k : Fin 34, k0_off9 (w7 k) = ![k.val % 2] := by decide +kernel
theorem off10_eq : ∀ k : Fin 34, k0_off10 (w7 k) = ![k.val % 2, 0, 0, 0] := by decide +kernel
theorem off11_eq : ∀ k : Fin 34, k0_off11 (w7 k) = ![k.val % 2, 0, 0] := by decide +kernel
theorem off12_eq : ∀ k : Fin 34, k0_off12 (w7 k) = ![k.val % 2, 0, 0, 0] := by decide +kernel
theorem off14_eq : ∀ k : Fin 34, k0_off14 (w7 k) = ![k.val % 2] := by decide +kernel
theorem off15_eq : ∀ k : Fin 34, 1 ≤ k.val → k0_off15 (w9 k) = ![(k.val - 1) % 2, 0, 0, 0] := by decide +kernel
theorem off17_eq : ∀ k : Fin 34, 1 ≤ k.val → k0_off17 (w9 k) = ![(k.val - 1) % 2] := by decide +kernel
theorem off20_eq : k0_off20 (w9 34) = ![1] := by decide +kernel
theorem off21_eq : k0_off21 (w9 34) = ![1, 0, 0, 0] := by decide +kernel

/-! ## Offsets that name a window of the positions or of the result -/

theorem off2_at : ∀ (c : Fin 2) (s : Fin 16), k0_off2 (coords c s) = ![0, rowOf (coords c s) 0] := by decide +kernel
theorem off5_at : ∀ (c : Fin 2) (s : Fin 16) (k : Fin 34), k.val + 1 < 34 →
    k0_off5 (coords c s) (w10 k) = ![0, rowOf (coords c s) (k.val + 1)] := by decide +kernel
theorem off8_at : ∀ (c : Fin 2) (s : Fin 16) (k : Fin 34),
    k0_off8 (coords c s) (w10 k) = ![0, rowOf (coords c s) k.val] := by decide +kernel
theorem off13_at : ∀ (c : Fin 2) (s : Fin 16) (k : Fin 34),
    k0_off13 (coords c s) (w10 k) = ![rowOf (coords c s) k.val, 0, 0] := by decide +kernel
theorem off16_at : ∀ (c : Fin 2) (s : Fin 16) (k : Fin 34), 1 ≤ k.val →
    k0_off16 (coords c s) (w10 k) = ![rowOf (coords c s) (k.val - 1), 0, 0] := by decide +kernel
theorem off19_at : ∀ (c : Fin 2) (s : Fin 16), k0_off19 (coords c s) (w10 34) = ![rowOf (coords c s) 33, 0, 0] := by decide +kernel

theorem off2_eq (i : grid0.Coords) : k0_off2 i = ![0, rowOf i 0] := by
  have h := off2_at (i 0) (i 1); rwa [coords_eta] at h
theorem off5_eq (i : grid0.Coords) (k : Fin 34) (hk : k.val + 1 < 34) : k0_off5 i (w10 k) = ![0, rowOf i (k.val + 1)] := by
  have h := off5_at (i 0) (i 1) k hk; rwa [coords_eta] at h
theorem off8_eq (i : grid0.Coords) (k : Fin 34) : k0_off8 i (w10 k) = ![0, rowOf i k.val] := by
  have h := off8_at (i 0) (i 1) k; rwa [coords_eta] at h
theorem off13_eq (i : grid0.Coords) (k : Fin 34) : k0_off13 i (w10 k) = ![rowOf i k.val, 0, 0] := by
  have h := off13_at (i 0) (i 1) k; rwa [coords_eta] at h
theorem off16_eq (i : grid0.Coords) (k : Fin 34) (hk : 1 ≤ k.val) : k0_off16 i (w10 k) = ![rowOf i (k.val - 1), 0, 0] := by
  have h := off16_at (i 0) (i 1) k hk; rwa [coords_eta] at h
theorem off19_eq (i : grid0.Coords) : k0_off19 i (w10 34) = ![rowOf i 33, 0, 0] := by
  have h := off19_at (i 0) (i 1); rwa [coords_eta] at h

/-! ## The conditions -/

theorem cond1_at : ∀ (c : Fin 2) (s : Fin 16) (k : Fin 34), (k0_cond1 (coords c s) k (w10 k) = 1#1) ↔ k.val + 1 < 34 := by decide +kernel
theorem cond2_at : ∀ (c : Fin 2) (s : Fin 16) (k : Fin 34), k0_cond2 (coords c s) k (w10 k) = 1#1 := by decide +kernel
theorem cond5_at : ∀ (c : Fin 2) (s : Fin 16) (k : Fin 34), k0_cond5 (coords c s) k (w10 k) = 1#1 := by decide +kernel
theorem cond7_at : ∀ (c : Fin 2) (s : Fin 16) (k : Fin 34), (k0_cond7 (coords c s) k (w10 k) = 1#1) ↔ 1 ≤ k.val := by decide +kernel

theorem cond1_iff (i : grid0.Coords) (k : Fin 34) : (k0_cond1 i k (w10 k) = 1#1) ↔ k.val + 1 < 34 := by
  have h := cond1_at (i 0) (i 1) k; rwa [coords_eta] at h
theorem cond2_eq (i : grid0.Coords) (k : Fin 34) : k0_cond2 i k (w10 k) = 1#1 := by
  have h := cond2_at (i 0) (i 1) k; rwa [coords_eta] at h
theorem cond5_eq (i : grid0.Coords) (k : Fin 34) : k0_cond5 i k (w10 k) = 1#1 := by
  have h := cond5_at (i 0) (i 1) k; rwa [coords_eta] at h
theorem cond7_iff (i : grid0.Coords) (k : Fin 34) : (k0_cond7 i k (w10 k) = 1#1) ↔ 1 ≤ k.val := by
  have h := cond7_at (i 0) (i 1) k; rwa [coords_eta] at h

/-! ## The bounds the program checks -/

theorem chk2_at : ∀ k : Fin 34, k0_chk2 (w7 k) := by decide +kernel
theorem chk3_at : ∀ k : Fin 34, k0_chk3 (w7 k) := by decide +kernel
instance (c : Fin 2) (s : Fin 16) (k : Fin 34) : Decidable (k0_chk1 (coords c s) k (w6 k) (w7 k) (w7 k) (w9 k) (w10 k)) :=
  k0_chk1.dec _ _ _ _ _ _ _
theorem chk1_at' : ∀ (c : Fin 2) (s : Fin 16) (k : Fin 34), k0_chk1 (coords c s) k (w6 k) (w7 k) (w7 k) (w9 k) (w10 k) := by decide +kernel
theorem chk4_at : k0_chk4 (w9 34) := by decide +kernel
theorem chk5_at' : ∀ (c : Fin 2) (s : Fin 16), k0_chk5 (coords c s) (w10 34) := by decide +kernel
theorem chk1_at (i : grid0.Coords) (k : Fin 34) : k0_chk1 i k (w6 k) (w7 k) (w7 k) (w9 k) (w10 k) := by
  have h := chk1_at' (i 0) (i 1) k; rwa [coords_eta] at h
theorem chk5_at (i : grid0.Coords) : k0_chk5 i (w10 34) := by
  have h := chk5_at' (i 0) (i 1); rwa [coords_eta] at h

/-! ## The words a trip yields -/

/-- The word of the tile's first window. -/
def v4w (i : grid0.Coords) : BitVec 32 :=
  Scalar.muli (Scalar.addi (Scalar.addi 0#32 (Scalar.muli (BitVec.ofNat 32 (i 1).val) 1#32)) (Scalar.muli (BitVec.ofNat 32 (i 0).val) 16#32)) 34#32
def ivw (k : Fin 34) : BitVec 32 := Scf.iv 0#32 1#32 k
def vcur (i : grid0.Coords) (k : Fin 34) : BitVec 32 := Scalar.addi (w10 k) (v4w i)
def vprev (i : grid0.Coords) (k : Fin 34) : BitVec 32 :=
  Scalar.addi (Scalar.select (Scalar.cmpi .eq (Scalar.select 1#1 (Scalar.subi (w10 k) 1#32) (w10 k)) 4294967295#32) 33#32
    (Scalar.select 1#1 (Scalar.subi (w10 k) 1#32) (w10 k))) (v4w i)
def vnext (i : grid0.Coords) (k : Fin 34) : BitVec 32 :=
  Scalar.addi (Scalar.select (Scalar.cmpi .eq (Scalar.select 1#1 (Scalar.addi (w10 k) 1#32) (w10 k)) 34#32) 0#32
    (Scalar.select 1#1 (Scalar.addi (w10 k) 1#32) (w10 k))) (v4w i)
/-- The five carried words after trip `k`, as the program computes them. -/
def yields (i : grid0.Coords) (k : Fin 34) : BitVec 32 × BitVec 32 × BitVec 32 × BitVec 32 × BitVec 32 :=
  (Scalar.select (Scalar.andi (Scalar.andi (Scalar.cmpi .ne (vcur i k) (vnext i k)) (Scalar.xori (Scalar.cmpi .sge (ivw k) 33#32) 1#1)) 1#1)
      (Scalar.addi (w6 k) 1#32) (w6 k),
    Scalar.select (Scalar.ori (Scalar.cmpi .ne (vcur i k) (vnext i k)) (Scalar.cmpi .eq (ivw k) 33#32)) (Scalar.addi (w7 k) 1#32) (w7 k),
    Scalar.select (Scalar.andi (Scalar.ori (Scalar.cmpi .ne (vcur i k) (vnext i k)) (Scalar.cmpi .eq (ivw k) 33#32)) 1#1) (Scalar.addi (w7 k) 1#32) (w7 k),
    Scalar.select (Scalar.andi (Scalar.andi (Scalar.cmpi .ne (vcur i k) (vprev i k)) (Scalar.xori (Scalar.cmpi .eq (ivw k) 0#32) 1#1)) 1#1)
      (Scalar.addi (w9 k) 1#32) (w9 k),
    Scalar.select (Scalar.cmpi .eq (Scalar.select 1#1 (Scalar.addi (w10 k) 1#32) (w10 k)) 34#32) 0#32
      (Scalar.select 1#1 (Scalar.addi (w10 k) 1#32) (w10 k)))
theorem yields_at : ∀ (c : Fin 2) (s : Fin 16) (k : Fin 34), yields (coords c s) k = ws (k.val + 1) := by decide +kernel
theorem yields_eq (i : grid0.Coords) (k : Fin 34) : yields i k = ws (k.val + 1) := by
  rw [← coords_eta i]; exact yields_at _ _ _

end Cert.Proof.Gather

end
-- ==== Proof.Slots.lean ====
/-
  The pieces a tile moves, by name: slot `s` of the two position lists and of the two row buffers, the semaphore of
  each, window `w` of the tile's 34 windows of the positions and of the result. The program computes the offset of
  each piece from the carried words; the equations here say which piece it is.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Gather

open Cert.Kernel Cert.Kernel.Gen
open Idealize.ShloMosaic

/-! ## The arrays, whole -/

abbrev rowsM : Memref sig .scVector .hbm S155648x2x128 .i32 := Memref.whole main_v0_scv
abbrev posM : Memref sig .scVector .hbm S1x139264 .i32 := Memref.whole main_arg1_scv
abbrev outM : Memref sig .scVector .hbm S139264x2x128 .i32 := Memref.whole main_v1_scv
abbrev idxM : Memref sig .scVector .vmem S2x1x128 .i32 := Memref.whole cc0_scoped0
abbrev stgM : Memref sig .scVector .vmem S2x128x2x128 .i32 := Memref.whole cc0_scoped2

/-! ## Their pieces -/

theorem semOff_inb (s : Fin 2) : ∀ a, (![s.val] : Fin 1 → ℕ) a + S1.size a ≤ S2.size a := by revert s; decide
theorem idxOff_inb (s : Fin 2) : ∀ a, (![s.val, 0, 0] : Fin 3 → ℕ) a + S1x1x128.size a ≤ S2x1x128.size a := by revert s; decide
theorem stgOff_inb (s : Fin 2) : ∀ a, (![s.val, 0, 0, 0] : Fin 4 → ℕ) a + S1x128x2x128.size a ≤ S2x128x2x128.size a := by revert s; decide
theorem rowOf_le (i : grid0.Coords) (w : Fin 34) : rowOf i w.val + 128 ≤ 139264 := by
  have := tileNo_lt i; have := w.isLt; unfold rowOf; omega
theorem posOff_inb (i : grid0.Coords) (w : Fin 34) : ∀ a, (![0, rowOf i w.val] : Fin 2 → ℕ) a + S1x128.size a ≤ S1x139264.size a := by
  have h := rowOf_le i w
  intro a; match a with
  | 0 => show 0 + 1 ≤ 1; omega
  | 1 => exact h
theorem outOff_inb (i : grid0.Coords) (w : Fin 34) : ∀ a, (![rowOf i w.val, 0, 0] : Fin 3 → ℕ) a + S128x2x128.size a ≤ S139264x2x128.size a := by
  have h := rowOf_le i w
  intro a; match a with
  | 0 => exact h
  | 1 => show 0 + 2 ≤ 2; omega
  | 2 => show 0 + 128 ≤ 128; omega

/-- Slot `s`'s semaphore for the fetch of positions, and for the write-out of rows. -/
def c5 (s : Fin 2) : DmaSems sig S_ := (cc0_scoped1.slice (Rect.unit (s := S2) ![s.val] S1.size (semOff_inb s))).squeeze S_ squeezes_S1_S_
def c6 (s : Fin 2) : DmaSems sig S_ := (cc0_scoped3.slice (Rect.unit (s := S2) ![s.val] S1.size (semOff_inb s))).squeeze S_ squeezes_S1_S_
/-- Slot `s` of the position lists, as the fetch writes it; -/
def idxS (s : Fin 2) : Memref sig .scVector .vmem S1x128 .i32 :=
  (idxM.slice (Rect.unit (s := S2x1x128) ![s.val, 0, 0] S1x1x128.size (idxOff_inb s)) (fun _ => rfl)).squeeze S1x128 squeezes_S1x1x128_S1x128
/-- and as the gather reads it, a flat list of 128. -/
def idxL (s : Fin 2) : Memref sig .scVector .vmem S128 .i32 :=
  ((idxS s).slice (Rect.unit (s := S1x128) ![0, 0] S1x128.size inb_S1x128_S1x128_0_0) (fun _ => rfl)).squeeze S128 squeezes_S1x128_S128
/-- Slot `s` of the row buffers. -/
def stgS (s : Fin 2) : Memref sig .scVector .vmem S128x2x128 .i32 :=
  (stgM.slice (Rect.unit (s := S2x128x2x128) ![s.val, 0, 0, 0] S1x128x2x128.size (stgOff_inb s)) (fun _ => rfl)).squeeze S128x2x128 squeezes_S1x128x2x128_S128x2x128
/-- Window `w` of tile `i`: of the positions, and of the result. -/
def posW (i : grid0.Coords) (w : Fin 34) : Memref sig .scVector .hbm S1x128 .i32 :=
  posM.slice (Rect.unit (s := S1x139264) ![0, rowOf i w.val] S1x128.size (posOff_inb i w)) (fun _ => rfl)
def outW (i : grid0.Coords) (w : Fin 34) : Memref sig .scVector .hbm S128x2x128 .i32 :=
  outM.slice (Rect.unit (s := S139264x2x128) ![rowOf i w.val, 0, 0] S128x2x128.size (outOff_inb i w)) (fun _ => rfl)
/-- The rows the gather reads: all of them. -/
def rowsA : Memref sig .scVector .hbm S155648x2x128 .i32 :=
  rowsM.slice (Rect.unit (s := S155648x2x128) ![0, 0, 0] S155648x2x128.size inb_S155648x2x128_S155648x2x128_0_0_0) (fun _ => rfl)
/-- The gather's own semaphore. -/
abbrev c4 : DmaSem sig := cc0_scoped4.sem

/-! ## Which piece an offset names -/

theorem c5_congr {off : Fin 1 → ℕ} {s : Fin 2} (e : off = ![s.val]) (hh) :
    (cc0_scoped1.slice (Rect.unit (s := S2) off S1.size hh)).squeeze S_ squeezes_S1_S_ = c5 s :=
  congrArg (fun A : DmaSems sig S1 => A.squeeze S_ squeezes_S1_S_) (SemArray.slice_unit_congr _ e _ _)
theorem c6_congr {off : Fin 1 → ℕ} {s : Fin 2} (e : off = ![s.val]) (hh) :
    (cc0_scoped3.slice (Rect.unit (s := S2) off S1.size hh)).squeeze S_ squeezes_S1_S_ = c6 s :=
  congrArg (fun A : DmaSems sig S1 => A.squeeze S_ squeezes_S1_S_) (SemArray.slice_unit_congr _ e _ _)
theorem idxS_congr {off : Fin 3 → ℕ} {s : Fin 2} (e : off = ![s.val, 0, 0]) (hh hs) :
    (idxM.slice (Rect.unit (s := S2x1x128) off S1x1x128.size hh) hs).squeeze S1x128 squeezes_S1x1x128_S1x128 = idxS s :=
  congrArg (fun M : Memref sig .scVector .vmem S1x1x128 .i32 => M.squeeze S1x128 squeezes_S1x1x128_S1x128) (Memref.slice_unit_congr _ e _ _ _ _)
theorem stgS_congr {off : Fin 4 → ℕ} {s : Fin 2} (e : off = ![s.val, 0, 0, 0]) (hh hs) :
    (stgM.slice (Rect.unit (s := S2x128x2x128) off S1x128x2x128.size hh) hs).squeeze S128x2x128 squeezes_S1x128x2x128_S128x2x128 = stgS s :=
  congrArg (fun M : Memref sig .scVector .vmem S1x128x2x128 .i32 => M.squeeze S128x2x128 squeezes_S1x128x2x128_S128x2x128) (Memref.slice_unit_congr _ e _ _ _ _)
theorem posW_congr {off : Fin 2 → ℕ} {i : grid0.Coords} {w : Fin 34} (e : off = ![0, rowOf i w.val]) (hh hs) :
    posM.slice (Rect.unit (s := S1x139264) off S1x128.size hh) hs = posW i w := Memref.slice_unit_congr _ e _ _ _ (fun _ => rfl)
theorem outW_congr {off : Fin 3 → ℕ} {i : grid0.Coords} {w : Fin 34} (e : off = ![rowOf i w.val, 0, 0]) (hh hs) :
    outM.slice (Rect.unit (s := S139264x2x128) off S128x2x128.size hh) hs = outW i w := Memref.slice_unit_congr _ e _ _ _ (fun _ => rfl)

/-- Slot of step `k`, by parity. -/
abbrev sl (k : ℕ) : Fin 2 := ⟨k % 2, Nat.mod_lt _ (by decide)⟩

end Cert.Proof.Gather

end
-- ==== Proof.Trip.lean ====
/-
  One trip of the tile's loop, and its head and tail, in the names of the pieces: start the fetch of the next window of
  positions, wait for this one's, gather its 128 rows, start writing them out, wait for the previous window's write-out.
-/
module

public import proofs.«01_k».proof.Proof.Slots

@[expose] public section

noncomputable section

namespace Cert.Proof.Gather

open Cert.Kernel Cert.Kernel.Gen
open Idealize.ShloMosaic Idealize.SL.Sem

variable {F : FTy → Type} [FloatOps F]

abbrev PT (F : FTy → Type) (i : grid0.Coords) (α : Type) : Type 1 := Prog (TpuEff nD τ sig (Elt F) Λ₀ (.scVector ((i 0).castLE hcore0) ((i 1).castLE hsub0))) α

/-- Start fetching window `w` of the positions into slot `s`; wait for it. -/
def fetch (i : grid0.Coords) (w : Fin 34) (s : Fin 2) : PT F i PUnit :=
  Prog.lift (.enqueueDma (posW i w) (.here (idxS s)) (.dma (c5 s).sem) (View.wordExact_bits rfl) ((View.wordExact_bits rfl).reshape _ _) ⟨Or.inl rfl, trivial⟩)
def fetched (i : grid0.Coords) (w : Fin 34) (s : Fin 2) : PT F i PUnit :=
  Prog.lift (.waitDma2 (c5 s).sem (posW i w) (idxS s) (View.wordExact_bits rfl) ((View.wordExact_bits rfl).reshape _ _))
/-- Gather the rows that slot `s` lists into row buffer `s`, and wait for them. -/
def gath (i : grid0.Coords) (s : Fin 2) : PT F i PUnit :=
  SparseCore.enqueueIndirectGather rfl rowsA (stgS s) gathers_S155648x2x128_S128x2x128 (idxL s) rfl c4 (View.wordExact_bits rfl) rfl (Or.inl rfl)
def gathed (i : grid0.Coords) (s : Fin 2) : PT F i PUnit :=
  SparseCore.waitIndirectGather c4 rowsA (stgS s) (View.wordExact_bits rfl) ((View.wordExact_bits rfl).reshape _ _)
/-- Start writing row buffer `s` out to window `w` of the result; wait for it. -/
def store (i : grid0.Coords) (w : Fin 34) (s : Fin 2) : PT F i PUnit :=
  Prog.lift (.enqueueDma (stgS s) (.here (outW i w)) (.dma (c6 s).sem) ((View.wordExact_bits rfl).reshape _ _) (View.wordExact_bits rfl) ⟨Or.inl rfl, trivial⟩)
def stored (i : grid0.Coords) (w : Fin 34) (s : Fin 2) : PT F i PUnit :=
  Prog.lift (.waitDma2 (c6 s).sem (stgS s) (outW i w) ((View.wordExact_bits rfl).reshape _ _) (View.wordExact_bits rfl))

/-- Trip `k`. -/
def trip (i : grid0.Coords) (k : Fin 34) : PT F i (BitVec 32 × BitVec 32 × BitVec 32 × BitVec 32 × BitVec 32) := do
  let _ ← Prog.lift (TpuEff.assume (k0_chk3 (w7 k)) (k0_chk3.dec (w7 k)))
  let _ ← Prog.lift (TpuEff.assume (k0_chk2 (w7 k)) (k0_chk2.dec (w7 k)))
  let _ ← Prog.lift (TpuEff.assume (k0_chk1 i k (w6 k) (w7 k) (w7 k) (w9 k) (w10 k)) (k0_chk1.dec i k (w6 k) (w7 k) (w7 k) (w9 k) (w10 k)))
  if h : k.val + 1 < 34 then fetch i ⟨k.val + 1, h⟩ (sl (k.val + 1)) else pure ⟨⟩
  fetched i k (sl k.val)
  gath i (sl k.val)
  gathed i (sl k.val)
  store i k (sl k.val)
  if h : 1 ≤ k.val then stored i ⟨k.val - 1, by omega⟩ (sl (k.val - 1)) else pure ⟨⟩
  pure (ws (k.val + 1))

/-- The tile's program: fetch window 0, 34 trips, wait for the last write-out. -/
abbrev theBody (i : grid0.Coords) := k0_t1_body (F := F) i rowsM (Memref.isWhole_whole _) posM (Memref.isWhole_whole _) outM (Memref.isWhole_whole _)
  idxM (Memref.isWhole_whole _) cc0_scoped1 stgM (Memref.isWhole_whole _) cc0_scoped3 cc0_scoped4 (v4w i)

set_option maxRecDepth 65536 in
set_option maxHeartbeats 4000000 in
theorem body_eq (i : grid0.Coords) (k : Fin 34) : theBody (F := F) i k (ws k.val) = trip i k := by
  unfold trip
  rw [← yields_eq i k]
  unfold theBody k0_t1_body ws
  simp only [k0_part1_eq_skeleton, k0_part2_eq_skeleton]
  unfold k0_part1_skel k0_part2_skel
  have h2 := cond2_eq i k
  have h5 := cond5_eq i k
  by_cases hk : k.val + 1 < 34 <;> by_cases hp : 1 ≤ k.val
  · have h1 := (cond1_iff i k).mpr hk
    have h7 := (cond7_iff i k).mpr hp
    simp only [dif_pos h1, dif_pos h2, dif_pos h5, dif_pos h7, dif_pos hk, dif_pos hp, bind_assoc, pure_bind, ite_self,
      c5_congr (s := sl (k.val + 1)) (off6_eq k hk), idxS_congr (s := sl (k.val + 1)) (off4_eq k hk), posW_congr (w := ⟨k.val + 1, hk⟩) (off5_eq i k hk),
      c5_congr (s := sl k.val) (off9_eq k), idxS_congr (s := sl k.val) (off7_eq k), posW_congr (w := k) (off8_eq i k),
      stgS_congr (s := sl k.val) (off10_eq k), idxS_congr (s := sl k.val) (off11_eq k), stgS_congr (s := sl k.val) (off12_eq k),
      outW_congr (w := k) (off13_eq i k), c6_congr (s := sl k.val) (off14_eq k),
      c6_congr (s := sl (k.val - 1)) (off17_eq k hp), stgS_congr (s := sl (k.val - 1)) (off15_eq k hp), outW_congr (w := ⟨k.val - 1, by omega⟩) (off16_eq i k hp)]
    rfl
  · have h1 := (cond1_iff i k).mpr hk
    have h7 := fun h => hp ((cond7_iff i k).mp h)
    simp only [dif_pos h1, dif_pos h2, dif_pos h5, dif_neg h7, dif_pos hk, dif_neg hp, bind_assoc, pure_bind, ite_self,
      c5_congr (s := sl (k.val + 1)) (off6_eq k hk), idxS_congr (s := sl (k.val + 1)) (off4_eq k hk), posW_congr (w := ⟨k.val + 1, hk⟩) (off5_eq i k hk),
      c5_congr (s := sl k.val) (off9_eq k), idxS_congr (s := sl k.val) (off7_eq k), posW_congr (w := k) (off8_eq i k),
      stgS_congr (s := sl k.val) (off10_eq k), idxS_congr (s := sl k.val) (off11_eq k), stgS_congr (s := sl k.val) (off12_eq k),
      outW_congr (w := k) (off13_eq i k), c6_congr (s := sl k.val) (off14_eq k)]
    rfl
  · have h1 := fun h => hk ((cond1_iff i k).mp h)
    have h7 := (cond7_iff i k).mpr hp
    simp only [dif_neg h1, dif_pos h2, dif_pos h5, dif_pos h7, dif_neg hk, dif_pos hp, bind_assoc, pure_bind, ite_self,
      c5_congr (s := sl k.val) (off9_eq k), idxS_congr (s := sl k.val) (off7_eq k), posW_congr (w := k) (off8_eq i k),
      stgS_congr (s := sl k.val) (off10_eq k), idxS_congr (s := sl k.val) (off11_eq k), stgS_congr (s := sl k.val) (off12_eq k),
      outW_congr (w := k) (off13_eq i k), c6_congr (s := sl k.val) (off14_eq k),
      c6_congr (s := sl (k.val - 1)) (off17_eq k hp), stgS_congr (s := sl (k.val - 1)) (off15_eq k hp), outW_congr (w := ⟨k.val - 1, by omega⟩) (off16_eq i k hp)]
    rfl
  · exact absurd hp (by omega)

/-- What follows the loop, over its last words: the wait for the last write-out. -/
def tail (i : grid0.Coords) (r : BitVec 32 × BitVec 32 × BitVec 32 × BitVec 32 × BitVec 32) : PT F i PUnit := do
  let h5 ← Prog.lift (TpuEff.assume (k0_chk5 i r.2.2.2.2) (k0_chk5.dec i r.2.2.2.2))
  let h4 ← Prog.lift (TpuEff.assume (k0_chk4 r.2.2.2.1) (k0_chk4.dec r.2.2.2.1))
  Prog.lift (.waitDma2 ((cc0_scoped3.slice (Rect.unit (s := S2) (k0_off20 r.2.2.2.1) S1.size (k0_off20_inb r.2.2.2.1 h4.down))).squeeze S_ squeezes_S1_S_).sem
    ((stgM.slice (Rect.unit (s := S2x128x2x128) (k0_off21 r.2.2.2.1) S1x128x2x128.size (k0_off21_inb r.2.2.2.1 h4.down)) (fun _ => rfl)).squeeze S128x2x128 squeezes_S1x128x2x128_S128x2x128)
    (outM.slice (Rect.unit (s := S139264x2x128) (k0_off19 i r.2.2.2.2) S128x2x128.size (k0_off19_inb i r.2.2.2.2 h5.down)) (fun _ => rfl))
    ((View.wordExact_bits rfl).reshape _ _) (View.wordExact_bits rfl))
  pure ⟨⟩

/-- At the words of the 34th trip it waits for window 33. -/
theorem tail_eq (i : grid0.Coords) : tail (F := F) i (ws 34) = (do
    let _ ← Prog.lift (TpuEff.assume (k0_chk5 i (w10 34)) (k0_chk5.dec i (w10 34)))
    let _ ← Prog.lift (TpuEff.assume (k0_chk4 (w9 34)) (k0_chk4.dec (w9 34)))
    stored i 33 1
    pure ⟨⟩) := by
  unfold tail ws
  simp only [c6_congr (s := 1) off20_eq, stgS_congr (s := 1) off21_eq, outW_congr (w := 33) (off19_eq i)]
  rfl

set_option maxRecDepth 65536 in
set_option maxHeartbeats 4000000 in
/-- The whole program of tile `i`. -/
theorem prog_eq (i : grid0.Coords) :
    cc0_gather (F := F) i rowsM (Memref.isWhole_whole _) posM (Memref.isWhole_whole _) outM (Memref.isWhole_whole _)
      idxM (Memref.isWhole_whole _) cc0_scoped1 stgM (Memref.isWhole_whole _) cc0_scoped3 cc0_scoped4 = (do
    fetch i 0 0
    let r ← Scf.Loop.for k0_t1_loop k0_t1_ok (ws 0) (theBody (F := F) i)
    tail i r) := by
  rw [cc0_gather_eq_skeleton]
  unfold cc0_gather_skel
  simp only [k0_part3_eq_skeleton, k0_part4_eq_skeleton]
  unfold k0_part3_skel k0_part4_skel tail
  simp only [bind_assoc, pure_bind, c5_congr (s := 0) k0_off3_eq, idxS_congr (s := 0) k0_off1_eq, posW_congr (w := 0) (off2_eq i)]
  rfl

end Cert.Proof.Gather

end
-- ==== Proof.Steps.lean ====
/-
  The steps of a tile, each with what it needs and what it leaves: a fetch in flight, a fetched list, a gather in
  flight, a filled row buffer, a write-out in flight.
-/
module

public import proofs.«01_k».proof.Proof.Trip
public import Idealize.ShloMosaic.Lib.Pipeline.ValueKit.Geometry

@[expose] public section

noncomputable section

namespace Cert.Proof.Gather

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it, and its ghost state -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
abbrev UH : Type := URounds (GSem nD τ sig) ℕ
abbrev UU : Type := UH × Counters
local notation "𝕄" => MT nD τ sig (HIx 1) (Elt F) ℕ UU ℕ
abbrev EH : Emb UH (MT nD τ sig (HIx 1) (Elt F) ℕ UU ℕ) := embL

abbrev cV (i : grid0.Coords) : Fin τ.nSC := (i 0).castLE hcore0
abbrev jV (i : grid0.Coords) : Fin τ.nSub := (i 1).castLE hsub0
/-- The thread of tile `i`. -/
abbrev th (d : Dev nD) (i : grid0.Coords) : Thread nD τ := V d (cV i) (jV i)
abbrev ι0 : HIx 1 := (default : HIx 1)

abbrev yLoc (d : Dev nD) : Loc nD τ sig := (SparseCore.T d).loc main_v0
abbrev pLoc (d : Dev nD) : Loc nD τ sig := (SparseCore.T d).loc main_arg1
abbrev oLoc (d : Dev nD) : Loc nD τ sig := (SparseCore.T d).loc main_v1

/-! ## What the kernel computes -/

/-- The three coordinates of a row's element. -/
def ix3 (r : Fin 155648) (a : Fin 2) (b : Fin 128) : S155648x2x128.Idx := fun | ⟨0, _⟩ => r | ⟨1, _⟩ => a | ⟨2, _⟩ => b
def ix2 (r : Fin 139264) : S1x139264.Idx := fun | ⟨0, _⟩ => (0 : Fin 1) | ⟨1, _⟩ => r
/-- Row `n` of the result is row `pos[n]` of the rows. -/
def OUT (fy : S155648x2x128.Idx → Elt F .i32) (fp : S1x139264.Idx → Elt F .i32) : S139264x2x128.Idx → Elt F .i32 :=
  fun j => fy (ix3 ⟨(fp (ix2 (j 0))).toNat % 155648, Nat.mod_lt _ (by decide)⟩ (j 1) (j 2))

variable [FloatOps F] (d : Dev nD) (i : grid0.Coords)
  (fy : Buf (Elt F) (yLoc d)) (fp : Buf (Elt F) (pLoc d)) (fo : Buf (Elt F) (oLoc d))
  (qp : Fin 2 → PosShare TreeShare) (qy : PosShare TreeShare)
  (O : CellTallies nD τ sig (HIx 1)) (W : Waits sig (HIx 1))

/-! ## The resources -/

/-- Share `s` of the positions. -/
abbrev posPts (s : Fin 2) : sProp 𝕄 := pLoc d ↦{qp s} fp
abbrev rowsPts : sProp 𝕄 := yLoc d ↦{qy} fy
abbrev sem5 (s : Fin 2) : sProp 𝕄 := semVal (th d i, SemLoc.dma (c5 s).sem) 0
abbrev sem6 (s : Fin 2) : sProp 𝕄 := semVal (th d i, SemLoc.dma (c6 s).sem) 0
abbrev sem4 : sProp 𝕄 := semVal (th d i, SemLoc.dma c4) 0
abbrev idxPts (s : Fin 2) (f : Buf (Elt F) ((idxS s).view.loc (th d i))) : sProp 𝕄 := (idxS s).view.loc (th d i) ↦[(idxS s).view.set]{fullShare} f
abbrev stgPts (s : Fin 2) (f : Buf (Elt F) ((stgS s).view.loc (th d i))) : sProp 𝕄 := (stgS s).view.loc (th d i) ↦[(stgS s).view.set]{fullShare} f
abbrev outPts (w : Fin 34) (f : Buf (Elt F) (oLoc d)) : sProp 𝕄 := oLoc d ↦[(outW i w).view.set]{fullShare} f
/-- What the tile owes and has waited for. -/
abbrev owesE : sProp 𝕄 := iprop(∃ W', ⌜∀ p ∈ W', p ∈ W ∨ p.2 = none⌝ ∗ owes (th d i) O W')
abbrev mayW : sProp 𝕄 := Transfers.MayWaits (th d i) ι0 O

/-- Slot `s` of the lists holds window `w` of the positions. -/
def idxHas (s : Fin 2) (w : Fin 34) : sProp 𝕄 :=
  iprop(∃ f, ⌜(idxS s).view.read (Elt F) f = (posW i w).view.read (Elt F) fp⌝ ∗ idxPts d i s f)
/-- The fetch of window `w` into slot `s` is in flight. -/
def idxFly (s : Fin 2) (w : Fin 34) : sProp 𝕄 :=
  iprop(Transfers.Flight countersEmb (th d i) (.dma (c5 s).sem) ι0 (idxS s).view.dmaCredit
      iprop(idxHas d i fp s w ∗ (pLoc d ↦[(posW i w).view.set]{qp s} fp))
    ∗ pLoc d ↦[Finset.univ \ (posW i w).view.set]{qp s} fp)

theorem idx_credit : ∀ s : Fin 2, 0 < (idxS s).view.dmaCredit := by decide +kernel
theorem out_credit (i : grid0.Coords) (w : Fin 34) : 0 < (outW i w).view.dmaCredit := by
  show 0 < (outM.slice (Rect.unit (s := S139264x2x128) ![0, 0, 0] S128x2x128.size (by decide)) (fun _ => rfl)).view.dmaCredit
  decide +kernel
theorem stg_rows : ∀ (s : Fin 2) (hg : S155648x2x128.Gathers 0 S128x2x128),
    ∑ j, ((stgS s).slice (S128x2x128.rowRect hg.axis' j) (S128x2x128.stride_rowRect hg.axis' j)).view.dmaCredit = (stgS s).view.dmaCredit := by
  decide +kernel

theorem fetch_wp (w : Fin 34) (s : Fin 2) (Q : PUnit → sProp 𝕄) :
    iprop((∃ f, idxPts d i s f) ∗ posPts d fp qp s ∗ sem5 d i s ∗ (idxFly d i fp qp s w -∗ Q ⟨⟩))
      ⊢ wp frame (wpE (defs₀ (F := F)) 𝒱₀ (th d i) none) Set.univ (fetch i w s) Q := by
  unfold fetch
  iintro ⟨⟨%f, Hi⟩, Hp, Hs, HQ⟩
  ihave Hp' := (pointsTo_split_subset (q := qp s) (f := fp) (S := Finset.univ) (Finset.subset_univ (posW i w).view.set)).1 $$ Hp
  icases Hp' with ⟨Hp, Hpr⟩
  iapply (Transfers.wp_dmaLocal countersEmb 𝒱₀ (th d i) none ι0 (idxS s).view.dmaCredit rfl (idx_credit s) (subset_refl _)) $$ [Hi Hp Hs]
  · isplitl [Hp]; · iexact Hp
    isplitl [Hi]; · iexact Hi
    iexact Hs
  iintro Hfl
  rw [wp_ret]; imodintro
  iapply HQ
  unfold idxFly
  isplitr [Hpr]; swap; · iexact Hpr
  iapply (Transfers.Flight_mono countersEmb (th d i) ?_) $$ Hfl
  unfold idxHas
  iintro ⟨H1, H2⟩
  isplitl [H1]
  · iexists _; isplitr; swap; · iexact H1
    ipureintro; exact View.read_write_univ _ _
  iexact H2

theorem fetched_wp (w : Fin 34) (s : Fin 2) (Q : PUnit → sProp 𝕄) :
    iprop(idxFly d i fp qp s w ∗ owesE d i O W ∗ mayW d i O
        ∗ (iprop(idxHas d i fp s w ∗ posPts d fp qp s ∗ sem5 d i s ∗ owesE d i O W) -∗ Q ⟨⟩))
      ⊢ wp frame (wpE (defs₀ (F := F)) 𝒱₀ (th d i) none) Set.univ (fetched i w s) Q := by
  unfold fetched idxFly
  iintro ⟨⟨Hfl, Hpr⟩, ⟨%W', %hW', HO⟩, Hmw, HQ⟩
  iapply (Transfers.wp_waitLocalO countersEmb 𝒱₀ (th d i) none ι0 (rfl : (idxS s).view.dmaCredit = _)) $$ [Hfl HO Hmw]
  · isplitl [Hfl]; · iexact Hfl
    isplitl [HO]; · iexact HO
    iapply (Transfers.MayWaits.elim (SemLoc.dma (c5 s).sem)) $$ Hmw
  iintro ⟨⟨Hi, Hp⟩, Hs, HO⟩
  rw [wp_ret]; imodintro
  iapply HQ
  isplitl [Hi]; · iexact Hi
  isplitl [Hp Hpr]
  · iapply (pointsTo_split_subset (q := qp s) (f := fp) (S := Finset.univ) (Finset.subset_univ (posW i w).view.set)).2
    isplitl [Hp] <;> iassumption
  isplitl [Hs]; · iexact Hs
  iexists _; isplitr; swap; · iexact HO
  ipureintro; intro p hp
  rcases Finset.mem_insert.mp hp with hp | hp; · exact .inr (hp ▸ rfl)
  exact hW' p hp

/-! ## What a window's gather brings -/

omit [FloatOps F] in
theorem emb_outW (w : Fin 34) (x : S128x2x128.Idx) (a : Fin 3) :
    ((outW i w).view.emb x a).val = (![rowOf i w.val, 0, 0] : Fin 3 → ℕ) a + (x a).val :=
  ValueKit.view_emb_slice_whole_unit_val main_v1_scv _ _ _ x a
omit [FloatOps F] in
theorem emb_posW (w : Fin 34) (x : S1x128.Idx) (a : Fin 2) :
    ((posW i w).view.emb x a).val = (![0, rowOf i w.val] : Fin 2 → ℕ) a + (x a).val :=
  ValueKit.view_emb_slice_whole_unit_val main_arg1_scv _ _ _ x a

omit [FloatOps F] in
theorem flat_at : ∀ x : S128.Idx, (Rect.unit (s := S1x128) ![0, 0] S1x128.size inb_S1x128_S1x128_0_0).emb
    (Shape.reshapeEquiv squeezes_S1x128_S128.numel_eq x) = (fun | ⟨0, _⟩ => (0 : Fin 1) | ⟨1, _⟩ => x 0) := by decide +kernel
omit [FloatOps F] in
theorem entry_at : ∀ (hg : S155648x2x128.Gathers 0 S128x2x128) (hn : S128.numel = S128x2x128.size hg.axis') (k : Fin (S128x2x128.size hg.axis')),
    ((S128.rowMajor.symm (k.cast hn.symm)) 0).val = k.val := by decide +kernel

omit [FloatOps F] in
/-- Word `x` of the list in slot `s`, read flat. -/
theorem list_at (w : Fin 34) (s : Fin 2) (f : Buf (Elt F) ((idxS s).view.loc (th d i)))
    (hf : (idxS s).view.read (Elt F) f = (posW i w).view.read (Elt F) fp) (x : S128.Idx) :
    (idxL s).view.read (Elt F) f x = fp (ix2 ⟨rowOf i w.val + (x 0).val, by have := rowOf_le i w; have := (x 0).isLt; change _ < 128 at this; omega⟩) := by
  have e : (idxL s).view.read (Elt F) f x = (idxS s).view.read (Elt F) f ((Rect.unit (s := S1x128) ![0, 0] S1x128.size inb_S1x128_S1x128_0_0).emb
    (Shape.reshapeEquiv squeezes_S1x128_S128.numel_eq x)) := rfl
  rw [e, hf, flat_at]
  refine (View.read_apply _ _).trans ((cast_eq _ _).trans (congrArg fp ?_))
  funext a
  apply Fin.ext
  refine (emb_posW i w _ a).trans ?_
  match a with
  | ⟨0, _⟩ => rfl
  | ⟨1, _⟩ => rfl

omit [FloatOps F] in
/-- The gather over slot `s`'s list brings window `w`'s rows of the result. -/
theorem payload_at (hp : ∀ j, (fp j).toNat < 155648) (w : Fin 34) (s : Fin 2) (f : Buf (Elt F) ((idxS s).view.loc (th d i)))
    (hf : (idxS s).view.read (Elt F) f = (posW i w).view.read (Elt F) fp) (hn)
    (hin : ∀ x, ((idxL s).view.read (Elt F) f x).toNat < S155648x2x128.size gathers_S155648x2x128_S128x2x128.axis) :
    SparseCore.gatherPayload gathers_S155648x2x128_S128x2x128 (rowsA.view.read (Elt F) fy) (SparseCore.rows ((idxL s).view.read (Elt F) f) hn hin)
      = fun x => OUT fy fp ((outW i w).view.emb x) := by
  funext x
  unfold SparseCore.gatherPayload OUT
  have e : ∀ y, rowsA.view.read (Elt F) fy y = fy y := fun y => by
    refine (View.read_apply _ _).trans ((cast_eq _ _).trans (congrArg fy ?_))
    funext a; apply Fin.ext
    refine (ValueKit.view_emb_slice_whole_unit_val main_v0_scv _ _ _ y a).trans ?_
    match a with
    | ⟨0, _⟩ => exact Nat.zero_add _
    | ⟨1, _⟩ => exact Nat.zero_add _
    | ⟨2, _⟩ => exact Nat.zero_add _
  rw [e]
  congr 1
  funext a
  apply Fin.ext
  match a with
  | ⟨0, _⟩ =>
    refine (congrArg Fin.val (Shape.Gathers.idx_axis gathers_S155648x2x128_S128x2x128 _ x)).trans ?_
    show ((idxL s).view.read (Elt F) f _).toNat = _
    rw [list_at d i fp w s f hf]
    show _ = (fp _).toNat % 155648
    rw [Nat.mod_eq_of_lt (hp _)]
    congr 3
    apply Fin.ext
    refine Eq.trans ?_ (emb_outW i w x 0).symm
    show _ + _ = _ + _
    congr 1
    exact entry_at gathers_S155648x2x128_S128x2x128 hn (x 0)
  | ⟨1, _⟩ =>
    refine (Shape.Gathers.idx_of_ne gathers_S155648x2x128_S128x2x128 _ x ⟨1, by decide⟩ (by decide)).trans ?_
    exact ((emb_outW i w x 1).trans (Nat.zero_add _)).symm
  | ⟨2, _⟩ =>
    refine (Shape.Gathers.idx_of_ne gathers_S155648x2x128_S128x2x128 _ x ⟨2, by decide⟩ (by decide)).trans ?_
    exact ((emb_outW i w x 2).trans (Nat.zero_add _)).symm

/-! ## The gather and the write-out -/

/-- Row buffer `s` holds window `w` of the result. -/
def stgHas (s : Fin 2) (w : Fin 34) : sProp 𝕄 :=
  iprop(∃ f, ⌜(stgS s).view.read (Elt F) f = fun x => OUT fy fp ((outW i w).view.emb x)⌝ ∗ stgPts d i s f)
def gathFly (s : Fin 2) (w : Fin 34) : sProp 𝕄 :=
  iprop(Transfers.Flight countersEmb (th d i) (.dma c4) ι0 (stgS s).view.dmaCredit
      iprop(stgHas d i fy fp s w ∗ (yLoc d ↦[rowsA.view.set]{qy} fy) ∗ ∃ f, idxPts d i s f)
    ∗ yLoc d ↦[Finset.univ \ rowsA.view.set]{qy} fy)
def outFly (s : Fin 2) (w : Fin 34) : sProp 𝕄 :=
  Transfers.Flight countersEmb (th d i) (.dma (c6 s).sem) ι0 (outW i w).view.dmaCredit
    iprop(outPts d i w (OUT fy fp) ∗ ∃ f, stgPts d i s f)

omit [FloatOps F] in
theorem idxL_set (s : Fin 2) : (idxL s).view.set = (idxS s).view.set := by
  refine (View.set_reshape _ _).trans ((View.set_slice _ _).trans ?_)
  rw [show (Rect.unit (s := S1x128) ![0, 0] S1x128.size inb_S1x128_S1x128_0_0).set = Finset.univ by decide +kernel]
  rfl

theorem gath_wp (hp : ∀ j, (fp j).toNat < 155648) (w : Fin 34) (s : Fin 2) (Q : PUnit → sProp 𝕄) :
    iprop(idxHas d i fp s w ∗ (∃ f, stgPts d i s f) ∗ rowsPts d fy qy ∗ sem4 d i ∗ (gathFly d i fy fp qy s w -∗ Q ⟨⟩))
      ⊢ wp frame (wpE (defs₀ (F := F)) 𝒱₀ (th d i) none) Set.univ (gath i s) Q := by
  rw [← bind_pure (gath (F := F) i s)]
  unfold gath idxHas
  iintro ⟨⟨%f, %hf, Hi⟩, ⟨%g, Hg⟩, Hy, Hs, HQ⟩
  ihave Hy' := (pointsTo_split_subset (q := qy) (f := fy) (S := Finset.univ) (Finset.subset_univ rowsA.view.set)).1 $$ Hy
  icases Hy' with ⟨Hy, Hyr⟩
  have hin : ∀ x, ((idxL s).view.read (Elt F) f x).toNat < S155648x2x128.size gathers_S155648x2x128_S128x2x128.axis := fun x => by
    rw [list_at d i fp w s f hf]; exact hp _
  ihave Hi' := (Entails.of_eq (show idxPts d i s f = ((idxL s).view.loc (th d i) ↦[(idxL s).view.set]{fullShare} f : sProp 𝕄) by rw [idxL_set]; rfl)) $$ Hi
  iapply (SparseCore.wp_indirectGatherLocal countersEmb 𝒱₀ (th d i) none (hg := gathers_S155648x2x128_S128x2x128) ι0
    (stgS s).view.dmaCredit (stg_rows s _) (by decide) hin) $$ [Hy Hg Hi' Hs]
  · isplitl [Hy]; · iexact Hy
    isplitl [Hg]; · iexact Hg
    isplitl [Hi']; · iexact Hi'
    iexact Hs
  iintro Hfl
  rw [wp_pure]; imodintro
  iapply HQ
  unfold gathFly
  isplitr [Hyr]; swap; · iexact Hyr
  iapply (Transfers.Flight_mono countersEmb (th d i) ?_) $$ Hfl
  unfold stgHas
  iintro ⟨H1, H2, H3⟩
  isplitl [H1]
  · iexists _; isplitr; swap; · iexact H1
    ipureintro; exact (View.read_write_univ _ _).trans (payload_at d i fy fp hp w s f hf _ hin)
  isplitl [H2]; · iexact H2
  iexists f
  iapply (Entails.of_eq (show ((idxL s).view.loc (th d i) ↦[(idxL s).view.set]{fullShare} f : sProp 𝕄) = idxPts d i s f by rw [idxL_set]; rfl)) $$ H3

theorem gathed_wp (w : Fin 34) (s : Fin 2) (Q : PUnit → sProp 𝕄) :
    iprop(gathFly d i fy fp qy s w ∗ owesE d i O W ∗ mayW d i O
        ∗ (iprop(stgHas d i fy fp s w ∗ rowsPts d fy qy ∗ (∃ f, idxPts d i s f) ∗ sem4 d i ∗ owesE d i O W) -∗ Q ⟨⟩))
      ⊢ wp frame (wpE (defs₀ (F := F)) 𝒱₀ (th d i) none) Set.univ (gathed i s) Q := by
  rw [show gathed (F := F) i s = Prog.lift (.waitDma2 c4 rowsA (stgS s) (View.wordExact_bits rfl) ((View.wordExact_bits rfl).reshape _ _)) from rfl]
  unfold gathFly
  iintro ⟨⟨Hfl, Hyr⟩, ⟨%W', %hW', HO⟩, Hmw, HQ⟩
  iapply (Transfers.wp_waitLocalO countersEmb 𝒱₀ (th d i) none ι0 (rfl : (stgS s).view.dmaCredit = _)) $$ [Hfl HO Hmw]
  · isplitl [Hfl]; · iexact Hfl
    isplitl [HO]; · iexact HO
    iapply (Transfers.MayWaits.elim (SemLoc.dma c4)) $$ Hmw
  iintro ⟨⟨Hg, Hy, Hi⟩, Hs, HO⟩
  rw [wp_ret]; imodintro
  iapply HQ
  isplitl [Hg]; · iexact Hg
  isplitl [Hy Hyr]
  · iapply (pointsTo_split_subset (q := qy) (f := fy) (S := Finset.univ) (Finset.subset_univ rowsA.view.set)).2
    isplitl [Hy] <;> iassumption
  isplitl [Hi]; · iexact Hi
  isplitl [Hs]; · iexact Hs
  iexists _; isplitr; swap; · iexact HO
  ipureintro; intro p hp
  rcases Finset.mem_insert.mp hp with hp | hp; · exact .inr (hp ▸ rfl)
  exact hW' p hp

theorem store_wp (w : Fin 34) (s : Fin 2) (Q : PUnit → sProp 𝕄) :
    iprop(stgHas d i fy fp s w ∗ outPts d i w fo ∗ sem6 d i s ∗ (outFly d i fy fp s w -∗ Q ⟨⟩))
      ⊢ wp frame (wpE (defs₀ (F := F)) 𝒱₀ (th d i) none) Set.univ (store i w s) Q := by
  unfold store stgHas
  iintro ⟨⟨%f, %hf, Hg⟩, Ho, Hs, HQ⟩
  iapply (Transfers.wp_dmaLocal countersEmb 𝒱₀ (th d i) none ι0 (outW i w).view.dmaCredit rfl (out_credit i w) (subset_refl _)) $$ [Hg Ho Hs]
  · isplitl [Hg]; · iexact Hg
    isplitl [Ho]; · iexact Ho
    iexact Hs
  iintro Hfl
  rw [wp_ret]; imodintro
  iapply HQ
  unfold outFly
  iapply (Transfers.Flight_mono countersEmb (th d i) ?_) $$ Hfl
  iintro ⟨H1, H2⟩
  isplitl [H1]
  · iapply (Entails.of_eq (pointsTo_congr (fun j hj => ?_))) $$ H1
    obtain ⟨x, -, rfl⟩ := Finset.mem_map.mp hj
    refine (View.write_emb_of_mem _ _ (Finset.mem_univ x)).trans ((cast_eq _ _).trans ?_)
    exact congrFun hf x
  iexists f; iexact H2

theorem stored_wp (w : Fin 34) (s : Fin 2) (Q : PUnit → sProp 𝕄) :
    iprop(outFly d i fy fp s w ∗ owesE d i O W ∗ mayW d i O
        ∗ (iprop(outPts d i w (OUT fy fp) ∗ (∃ f, stgPts d i s f) ∗ sem6 d i s ∗ owesE d i O W) -∗ Q ⟨⟩))
      ⊢ wp frame (wpE (defs₀ (F := F)) 𝒱₀ (th d i) none) Set.univ (stored i w s) Q := by
  unfold stored outFly
  iintro ⟨Hfl, ⟨%W', %hW', HO⟩, Hmw, HQ⟩
  iapply (Transfers.wp_waitLocalO countersEmb 𝒱₀ (th d i) none ι0 (rfl : (outW i w).view.dmaCredit = _)) $$ [Hfl HO Hmw]
  · isplitl [Hfl]; · iexact Hfl
    isplitl [HO]; · iexact HO
    iapply (Transfers.MayWaits.elim (SemLoc.dma (c6 s).sem)) $$ Hmw
  iintro ⟨⟨Ho, Hg⟩, Hs, HO⟩
  rw [wp_ret]; imodintro
  iapply HQ
  isplitl [Ho]; · iexact Ho
  isplitl [Hg]; · iexact Hg
  isplitl [Hs]; · iexact Hs
  iexists _; isplitr; swap; · iexact HO
  ipureintro; intro p hp
  rcases Finset.mem_insert.mp hp with hp | hp; · exact .inr (hp ▸ rfl)
  exact hW' p hp

end Cert.Proof.Gather

end
-- ==== Proof.Tile.lean ====
/-
  The tile: the loop's invariant — before trip `k` the fetch of window `k` is in flight, the write-out of window
  `k - 1` is in flight, windows below `k - 1` hold the result, windows from `k` on are as they were — and what the
  whole tile needs and leaves.
-/
module

public import proofs.«01_k».proof.Proof.Steps

@[expose] public section

noncomputable section

namespace Cert.Proof.Gather

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (d : Dev nD) (i : grid0.Coords)
  (fy : Buf (Elt F) (yLoc d)) (fp : Buf (Elt F) (pLoc d)) (fo : Buf (Elt F) (oLoc d))
  (qp : Fin 2 → PosShare TreeShare) (qy : PosShare TreeShare)
  (O : CellTallies nD τ sig (HIx 1)) (W : Waits sig (HIx 1))

/-- A list slot and a row buffer at rest. -/
def idxRest (s : Fin 2) : sProp 𝕄 := iprop((∃ f, idxPts d i s f) ∗ posPts d fp qp s ∗ sem5 d i s)
def stgRest (s : Fin 2) : sProp 𝕄 := iprop((∃ f, stgPts (F := F) d i s f) ∗ sem6 d i s)

def invA (k : ℕ) : sProp 𝕄 := if h : k < 34 then idxFly d i fp qp (sl k) ⟨k, h⟩ else idxRest d i fp qp (sl k)
def invC (k : ℕ) : sProp 𝕄 :=
  if h : 1 ≤ k ∧ k ≤ 34 then outFly d i fy fp (sl (k + 1)) ⟨k - 1, by omega⟩ else stgRest (F := F) d i (sl (k + 1))
def todo (k : ℕ) : sProp 𝕄 := bigSep (Finset.univ.filter fun w : Fin 34 => k ≤ w.val) fun w => outPts d i w fo
def done (k : ℕ) : sProp 𝕄 := bigSep (Finset.univ.filter fun w : Fin 34 => w.val + 1 < k) fun w => outPts d i w (OUT fy fp)

def inv (k : ℕ) (acc : BitVec 32 × BitVec 32 × BitVec 32 × BitVec 32 × BitVec 32) : sProp 𝕄 :=
  iprop(⌜acc = ws k⌝ ∗ mayW d i O ∗ owesE d i O W ∗ rowsPts d fy qy ∗ sem4 d i
    ∗ invA d i fp qp k ∗ idxRest d i fp qp (sl (k + 1)) ∗ invC d i fy fp k ∗ stgRest (F := F) d i (sl k)
    ∗ todo d i fo k ∗ done d i fy fp k)

theorem assume_wp {P : Prop} {dec : Decidable P} (h : P) (Q : PLift P → sProp 𝕄) :
    Q ⟨h⟩ ⊢ wp frame (wpE (defs₀ (F := F)) 𝒱₀ (th d i) none) Set.univ (Prog.lift (TpuEff.assume P dec)) Q := by
  refine BIBase.Entails.trans ?_ (wp_assume 𝒱₀ (th d i) none Set.univ h)
  rw [wp_ret]
  iintro H; imodintro; iexact H

theorem fetchIf_wp (k : ℕ) (Q : PUnit → sProp 𝕄) :
    iprop(idxRest d i fp qp (sl (k + 1)) ∗ (invA d i fp qp (k + 1) -∗ Q ⟨⟩))
      ⊢ wp frame (wpE (defs₀ (F := F)) 𝒱₀ (th d i) none) Set.univ
          (if h : k + 1 < 34 then fetch i ⟨k + 1, h⟩ (sl (k + 1)) else pure ⟨⟩) Q := by
  unfold invA
  by_cases h : k + 1 < 34
  · rw [dif_pos h, dif_pos h]
    refine BIBase.Entails.trans ?_ (fetch_wp d i fp qp _ _ Q)
    unfold idxRest
    iintro ⟨⟨H1, H2, H3⟩, HQ⟩
    isplitl [H1]; · iexact H1
    isplitl [H2]; · iexact H2
    isplitl [H3]; · iexact H3
    iexact HQ
  · rw [dif_neg h, dif_neg h, wp_pure]
    iintro ⟨H, HQ⟩
    imodintro
    iapply HQ
    iexact H

theorem todo_step (k : Fin 34) : todo d i fo k.val = iprop(outPts d i k fo ∗ todo d i fo (k.val + 1)) := by
  unfold todo
  rw [show (Finset.univ.filter fun w : Fin 34 => k.val ≤ w.val) = insert k (Finset.univ.filter fun w : Fin 34 => k.val + 1 ≤ w.val) by
      ext w; simp only [Finset.mem_filter, Finset.mem_univ, _root_.true_and, Finset.mem_insert, Fin.ext_iff]; omega,
    SparseCore.bigSep_insert' (by simp)]

theorem done_step (k : ℕ) (h : 1 ≤ k ∧ k ≤ 34) :
    done d i fy fp (k + 1) = iprop(outPts d i ⟨k - 1, by omega⟩ (OUT fy fp) ∗ done d i fy fp k) := by
  unfold done
  rw [show (Finset.univ.filter fun w : Fin 34 => w.val + 1 < k + 1) = insert ⟨k - 1, by omega⟩ (Finset.univ.filter fun w : Fin 34 => w.val + 1 < k) by
      ext w; simp only [Finset.mem_filter, Finset.mem_univ, _root_.true_and, Finset.mem_insert, Fin.ext_iff]; omega,
    SparseCore.bigSep_insert' (by simp; omega)]

theorem storedIf_wp (k : Fin 34) (Q : PUnit → sProp 𝕄) :
    iprop(invC d i fy fp k.val ∗ owesE d i O W ∗ mayW d i O ∗ done d i fy fp k.val
        ∗ (iprop(stgRest (F := F) d i (sl (k.val + 1)) ∗ owesE d i O W ∗ done d i fy fp (k.val + 1)) -∗ Q ⟨⟩))
      ⊢ wp frame (wpE (defs₀ (F := F)) 𝒱₀ (th d i) none) Set.univ
          (if h : 1 ≤ k.val then stored i ⟨k.val - 1, by omega⟩ (sl (k.val - 1)) else pure ⟨⟩) Q := by
  unfold invC
  by_cases h : 1 ≤ k.val
  · have h' : 1 ≤ k.val ∧ k.val ≤ 34 := ⟨h, k.isLt.le⟩
    rw [dif_pos h, dif_pos h', show sl (k.val - 1) = sl (k.val + 1) from Fin.ext (by show _ % 2 = _ % 2; omega), done_step d i fy fp k.val h']
    refine BIBase.Entails.trans ?_ (stored_wp d i fy fp O W _ _ Q)
    unfold stgRest
    iintro ⟨H1, HO, Hm, Hd, HQ⟩
    isplitl [H1]; · iexact H1
    isplitl [HO]; · iexact HO
    isplitl [Hm]; · iexact Hm
    iintro ⟨Ho, Hg, Hs, HO⟩
    iapply HQ
    isplitl [Hg Hs]
    · isplitl [Hg] <;> iassumption
    isplitl [HO]; · iexact HO
    isplitl [Ho] <;> iassumption
  · rw [dif_neg h, dif_neg (fun h' => h h'.1), wp_pure]
    rw [show done d i fy fp (k.val + 1) = done d i fy fp k.val by
      unfold done; congr 1; ext w; simp only [Finset.mem_filter, Finset.mem_univ, _root_.true_and]; omega]
    iintro ⟨H1, HO, Hm, Hd, HQ⟩
    imodintro
    iapply HQ
    isplitl [H1]; · iexact H1
    isplitl [HO] <;> iassumption

/-- The two waits that depend on the trip, as steps of their own. -/
abbrev fetchIf (k : ℕ) : PT F i PUnit := if h : k + 1 < 34 then fetch i ⟨k + 1, h⟩ (sl (k + 1)) else pure ⟨⟩
abbrev storedIf (k : Fin 34) : PT F i PUnit := if h : 1 ≤ k.val then stored i ⟨k.val - 1, by omega⟩ (sl (k.val - 1)) else pure ⟨⟩

theorem trip_flat (k : Fin 34) : trip (F := F) i k =
    (Prog.lift (TpuEff.assume (k0_chk3 (w7 k)) (k0_chk3.dec (w7 k))) >>= fun _ =>
     Prog.lift (TpuEff.assume (k0_chk2 (w7 k)) (k0_chk2.dec (w7 k))) >>= fun _ =>
     Prog.lift (TpuEff.assume (k0_chk1 i k (w6 k) (w7 k) (w7 k) (w9 k) (w10 k)) (k0_chk1.dec i k (w6 k) (w7 k) (w7 k) (w9 k) (w10 k))) >>= fun _ =>
     fetchIf i k.val >>= fun _ => fetched i k (sl k.val) >>= fun _ => gath i (sl k.val) >>= fun _ => gathed i (sl k.val) >>= fun _ =>
     store i k (sl k.val) >>= fun _ => storedIf i k >>= fun _ => pure (ws (k.val + 1))) := by
  unfold trip
  by_cases h : k.val + 1 < 34 <;> by_cases h' : 1 ≤ k.val <;> simp only [fetchIf, storedIf, h, h', dite_true, dite_false, pure_bind]

/-- One trip keeps the invariant. -/
theorem trip_wp (hp : ∀ j, (fp j).toNat < 155648) (k : Fin 34) :
    inv d i fy fp fo qp qy O W k.val (ws k.val)
      ⊢ wp frame (wpE (defs₀ (F := F)) 𝒱₀ (th d i) none) Set.univ (trip i k) (inv d i fy fp fo qp qy O W (k.val + 1)) := by
  rw [trip_flat]
  simp only [wp_bind]
  unfold inv
  iintro ⟨-, #Hm, HO, Hy, H4, HA, HB, HC, HD, Ht, Hd⟩
  iapply (assume_wp d i (chk3_at k))
  iapply (assume_wp d i (chk2_at k))
  iapply (assume_wp d i (chk1_at i k))
  iapply (fetchIf_wp d i fp qp k.val)
  isplitl [HB]; · iexact HB
  iintro HA'
  ihave HA1 := (Entails.of_eq (show invA d i fp qp k.val = idxFly d i fp qp (sl k.val) k from dif_pos k.isLt)) $$ HA
  iapply (fetched_wp d i fp qp O W k (sl k.val))
  isplitl [HA1]; · iexact HA1
  isplitl [HO]; · iexact HO
  isplitr; · iexact Hm
  iintro ⟨Hi, Hp, H5, HO⟩
  unfold stgRest
  icases HD with ⟨Hg, H6⟩
  iapply (gath_wp d i fy fp qy hp k (sl k.val))
  isplitl [Hi]; · iexact Hi
  isplitl [Hg]; · iexact Hg
  isplitl [Hy]; · iexact Hy
  isplitl [H4]; · iexact H4
  iintro Hfl
  iapply (gathed_wp d i fy fp qy O W k (sl k.val))
  isplitl [Hfl]; · iexact Hfl
  isplitl [HO]; · iexact HO
  isplitr; · iexact Hm
  iintro ⟨Hg, Hy, Hi, H4, HO⟩
  ihave Ht' := (Entails.of_eq (todo_step d i fo k)) $$ Ht
  icases Ht' with ⟨Hw, Ht⟩
  iapply (store_wp d i fy fp fo k (sl k.val))
  isplitl [Hg]; · iexact Hg
  isplitl [Hw]; · iexact Hw
  isplitl [H6]; · iexact H6
  iintro Hof
  iapply (storedIf_wp d i fy fp O W k)
  isplitl [HC]; · iexact HC
  isplitl [HO]; · iexact HO
  isplitr; · iexact Hm
  isplitl [Hd]; · iexact Hd
  iintro ⟨HD, HO, Hd⟩
  rw [wp_pure]; imodintro
  isplitr; · ipureintro; rfl
  isplitr; · iexact Hm
  isplitl [HO]; · iexact HO
  isplitl [Hy]; · iexact Hy
  isplitl [H4]; · iexact H4
  isplitl [HA']; · iexact HA'
  have es : sl (k.val + 1 + 1) = sl k.val := Fin.ext (by show _ % 2 = _ % 2; omega)
  isplitl [Hi Hp H5]
  · rw [es]; unfold idxRest
    isplitl [Hi]; · iexact Hi
    isplitl [Hp] <;> iassumption
  isplitl [Hof]
  · iapply (Entails.of_eq (show outFly d i fy fp (sl k.val) k = invC d i fy fp (k.val + 1) by
      unfold invC; rw [dif_pos (⟨by omega, by omega⟩ : 1 ≤ k.val + 1 ∧ k.val + 1 ≤ 34), es]; rfl)) $$ Hof
  isplitl [HD]; · unfold stgRest; iexact HD
  isplitl [Ht] <;> iassumption

/-- What the tile's pieces are at the start, -/
def tileIn : sProp 𝕄 :=
  iprop(rowsPts d fy qy ∗ sem4 d i ∗ idxRest d i fp qp 0 ∗ idxRest d i fp qp 1 ∗ stgRest (F := F) d i 0 ∗ stgRest (F := F) d i 1
    ∗ bigSep Finset.univ fun w : Fin 34 => outPts d i w fo)

/-- The whole tile: every window of the result written. -/
theorem tile_wp (hp : ∀ j, (fp j).toNat < 155648) :
    iprop(mayW d i O ∗ owesE d i O W ∗ tileIn d i fy fp fo qp qy)
      ⊢ wp frame (wpE (defs₀ (F := F)) 𝒱₀ (th d i) none) Set.univ
          (cc0_gather (F := F) i rowsM (Memref.isWhole_whole _) posM (Memref.isWhole_whole _) outM (Memref.isWhole_whole _)
            idxM (Memref.isWhole_whole _) cc0_scoped1 stgM (Memref.isWhole_whole _) cc0_scoped3 cc0_scoped4)
          fun _ => iprop(owesE d i O W ∗ tileIn d i fy fp (OUT fy fp) qp qy) := by
  rw [prog_eq, wp_bind]
  unfold tileIn
  iintro ⟨#Hm, HO, Hy, H4, Hi0, Hi1, Hg0, Hg1, Hw⟩
  iapply (fetch_wp d i fp qp 0 0)
  unfold idxRest
  icases Hi0 with ⟨Ha, Hb, Hc⟩
  isplitl [Ha]; · iexact Ha
  isplitl [Hb]; · iexact Hb
  isplitl [Hc]; · iexact Hc
  iintro HA
  iapply (Scf.wp_for_bind frame (wpE (defs₀ (F := F)) 𝒱₀ (th d i) none) Set.univ _ _ _ k0_t1_ok (ws 0) (theBody (F := F) i)
    (inv d i fy fp fo qp qy O W) ?_) $$ [HO Hy H4 HA Hi1 Hg0 Hg1 Hw]
  · intro k acc
    by_cases e : acc = ws k.val
    · subst e
      rw [show theBody (F := F) i k (ws k.val) = trip i k from body_eq i k]
      exact trip_wp d i fy fp fo qp qy O W hp k
    · unfold inv
      iintro ⟨%e', -⟩
      exact absurd e' e
  · unfold inv
    isplitr; · ipureintro; rfl
    isplitr; · iexact Hm
    isplitl [HO]; · iexact HO
    isplitl [Hy]; · iexact Hy
    isplitl [H4]; · iexact H4
    isplitl [HA]
    · iapply (Entails.of_eq (show idxFly d i fp qp 0 0 = invA d i fp qp 0 by unfold invA; rw [dif_pos (show 0 < 34 by decide)]; rfl)) $$ HA
    isplitl [Hi1]; · unfold idxRest; iexact Hi1
    isplitl [Hg1]
    · iapply (Entails.of_eq (show stgRest (F := F) d i 1 = invC d i fy fp 0 by unfold invC; rw [dif_neg (by omega)]; rfl)) $$ Hg1
    isplitl [Hg0]; · iexact Hg0
    isplitl [Hw]
    · unfold todo
      rw [show (Finset.univ.filter fun w : Fin 34 => 0 ≤ w.val) = Finset.univ by decide]
      iexact Hw
    · unfold done
      rw [show (Finset.univ.filter fun w : Fin 34 => w.val + 1 < 0) = ∅ by decide, bigSep_empty]
      iempintro
  iintro %acc Hinv
  rw [show Scf.trips (0#32) (Scalar.addi 0#32 34#32) 1#32 = 34 from rfl]
  unfold inv
  icases Hinv with ⟨%e, -, HO, Hy, H4, HA, HB, HC, HD, -, Hd⟩
  rw [e, tail_eq]
  simp only [wp_bind]
  iapply (assume_wp d i (chk5_at i))
  iapply (assume_wp d i chk4_at)
  ihave HC' := (Entails.of_eq (show invC d i fy fp 34 = outFly d i fy fp 1 33 from dif_pos (by decide))) $$ HC
  iapply (stored_wp d i fy fp O W 33 1)
  isplitl [HC']; · iexact HC'
  isplitl [HO]; · iexact HO
  isplitr; · iexact Hm
  iintro ⟨Ho, Hg, H6, HO⟩
  rw [wp_pure]; imodintro
  isplitl [HO]; · iexact HO
  isplitl [Hy]; · iexact Hy
  isplitl [H4]; · iexact H4
  isplitl [HA]
  · iapply (Entails.of_eq (show invA d i fp qp 34 = iprop((∃ f, idxPts d i 0 f) ∗ posPts d fp qp 0 ∗ sem5 d i 0) from dif_neg (by decide))) $$ HA
  isplitl [HB]
  · iapply (Entails.of_eq (show idxRest d i fp qp (sl (34 + 1)) = iprop((∃ f, idxPts d i 1 f) ∗ posPts d fp qp 1 ∗ sem5 d i 1) from rfl)) $$ HB
  isplitl [HD]; · iexact HD
  isplitl [Hg H6]
  · unfold stgRest; isplitl [Hg] <;> iassumption
  iapply (Entails.of_eq (show iprop(outPts d i 33 (OUT fy fp) ∗ done d i fy fp 34) = bigSep Finset.univ fun w : Fin 34 => outPts d i w (OUT fy fp) from by
    refine (done_step d i fy fp 34 ⟨by decide, by decide⟩).symm.trans ?_
    unfold done
    rw [show (Finset.univ.filter fun w : Fin 34 => w.val + 1 < 34 + 1) = Finset.univ by decide]))
  isplitl [Ho] <;> iassumption

end Cert.Proof.Gather

end
-- ==== Proof.Scoped.lean ====
/-
  A tile's own memory: the two list slots, the two row buffers and the five semaphore cells, out of what the subcore
  owns and back.
-/
module

public import proofs.«01_k».proof.Proof.Tile

@[expose] public section

noncomputable section

namespace Cert.Proof.Gather

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-! ## Which elements a piece holds -/

theorem two_idx : 2 ∣ S2x1x128.size 0 := ⟨1, rfl⟩
theorem two_stg : 2 ∣ S2x128x2x128.size 0 := ⟨1, rfl⟩
theorem win_out : 1088 ∣ S139264x2x128.size 0 := ⟨128, rfl⟩

theorem idxS_set (s : Fin 2) : (idxS s).view.set = (Rect.part (s := S2x1x128) (a₀ := 0) two_idx s).set := by
  have e : Rect.unit (s := S2x1x128) ![s.val, 0, 0] S1x1x128.size (idxOff_inb s) = Rect.part (s := S2x1x128) (a₀ := 0) two_idx s := by
    unfold Rect.part Rect.block
    congr 1 <;> funext a
    · match a with
      | 0 => simp [Shape.partIx, Shape.partSize]
      | 1 => simp [Shape.partIx, Shape.partSize]
      | 2 => simp [Shape.partIx, Shape.partSize]
    · match a with
      | 0 => simp [Shape.partSize]
      | 1 => simp [Shape.partSize]
      | 2 => simp [Shape.partSize]
  show ((View.slice (View.whole (cc0_scoped0 : Ref sig .scVector)) (Rect.unit (s := S2x1x128) ![s.val, 0, 0] S1x1x128.size (idxOff_inb s))).reshape S1x128
    squeezes_S1x1x128_S1x128.numel_eq).set = _
  rw [View.set_reshape, View.set_slice]
  exact Finset.map_refl.trans (congrArg (fun r : Rect S2x1x128 => r.set) e)

theorem stgS_set (s : Fin 2) : (stgS s).view.set = (Rect.part (s := S2x128x2x128) (a₀ := 0) two_stg s).set := by
  have e : Rect.unit (s := S2x128x2x128) ![s.val, 0, 0, 0] S1x128x2x128.size (stgOff_inb s) = Rect.part (s := S2x128x2x128) (a₀ := 0) two_stg s := by
    unfold Rect.part Rect.block
    congr 1 <;> funext a
    · match a with
      | 0 => simp [Shape.partIx, Shape.partSize]
      | 1 => simp [Shape.partIx, Shape.partSize]
      | 2 => simp [Shape.partIx, Shape.partSize]
      | 3 => simp [Shape.partIx, Shape.partSize]
    · match a with
      | 0 => simp [Shape.partSize]
      | 1 => simp [Shape.partSize]
      | 2 => simp [Shape.partSize]
      | 3 => simp [Shape.partSize]
  show ((View.slice (View.whole (cc0_scoped2 : Ref sig .scVector)) (Rect.unit (s := S2x128x2x128) ![s.val, 0, 0, 0] S1x128x2x128.size (stgOff_inb s))).reshape S128x2x128
    squeezes_S1x128x2x128_S128x2x128.numel_eq).set = _
  rw [View.set_reshape, View.set_slice]
  exact Finset.map_refl.trans (congrArg (fun r : Rect S2x128x2x128 => r.set) e)

/-- The number of a window of the result, over all tiles. -/
def winNo (i : grid0.Coords) (w : Fin 34) : Fin 1088 := ⟨34 * tileNo i + w.val, by have := tileNo_lt i; have := w.isLt; omega⟩

theorem outW_set (i : grid0.Coords) (w : Fin 34) : (outW i w).view.set = (Rect.part (s := S139264x2x128) (a₀ := 0) win_out (winNo i w)).set := by
  have e : Rect.unit (s := S139264x2x128) ![rowOf i w.val, 0, 0] S128x2x128.size (outOff_inb i w) = Rect.part (s := S139264x2x128) (a₀ := 0) win_out (winNo i w) := by
    unfold Rect.part Rect.block
    congr 1 <;> funext a
    · match a with
      | 0 => simp [Shape.partIx, Shape.partSize, rowOf, winNo]; omega
      | 1 => simp [Shape.partIx, Shape.partSize]
      | 2 => simp [Shape.partIx, Shape.partSize]
    · match a with
      | 0 => simp [Shape.partSize]
      | 1 => simp [Shape.partSize]
      | 2 => simp [Shape.partSize]
  show (View.slice (View.whole (main_v1_scv : Ref sig .scVector)) (Rect.unit (s := S139264x2x128) ![rowOf i w.val, 0, 0] S128x2x128.size (outOff_inb i w))).set = _
  rw [View.set_slice, e]
  exact Finset.map_refl

variable [FloatOps F] (d : Dev nD) (i : grid0.Coords)

/-! ## The two buffers by slots -/

omit [FloatOps F] in
theorem halves_split {ℓ : Loc nD τ sig} (K : Fin 2 → Finset (Idx ℓ)) (hd : ∀ a b, a ≠ b → Disjoint (K a) (K b)) (hc : Finset.univ.biUnion K = Finset.univ) :
    iprop(∃ f, (ℓ ↦{fullShare} f : sProp 𝕄)) ⊢ iprop((∃ f, ℓ ↦[K 0]{fullShare} f) ∗ ∃ f, ℓ ↦[K 1]{fullShare} f) := by
  iintro ⟨%f, H⟩
  ihave H' := (Entails.of_eq (show (ℓ ↦{fullShare} f : sProp 𝕄) = iprop((ℓ ↦[K 0]{fullShare} f) ∗ ℓ ↦[K 1]{fullShare} f) by
    rw [← hc, pointsTo_biUnion Finset.univ K fun a _ b _ h => hd a b h]
    exact BI.bigSep_fin_two _)) $$ H
  icases H' with ⟨H0, H1⟩
  isplitl [H0]; · iexists f; iexact H0
  iexists f; iexact H1

omit [FloatOps F] in
theorem halves_join {ℓ : Loc nD τ sig} (K : Fin 2 → Finset (Idx ℓ)) (hd : ∀ a b, a ≠ b → Disjoint (K a) (K b)) (hc : Finset.univ.biUnion K = Finset.univ) :
    iprop((∃ f, ℓ ↦[K 0]{fullShare} f) ∗ ∃ f, ℓ ↦[K 1]{fullShare} f) ⊢ iprop(∃ f, (ℓ ↦{fullShare} f : sProp 𝕄)) := by
  iintro ⟨⟨%f, H0⟩, ⟨%g, H1⟩⟩
  ihave H := (pointsTo_biUnion_join (ℓ := ℓ) (q := fullShare) (Val := Elt F) Finset.univ K (fun s => if s = 0 then f else g) f fun a _ b _ h => hd a b h) $$ [H0 H1]
  · iapply (Entails.of_eq (show iprop((ℓ ↦[K 0]{fullShare} f) ∗ ℓ ↦[K 1]{fullShare} g)
        = bigSep Finset.univ (fun t : Fin 2 => (ℓ ↦[K t]{fullShare} (if t = 0 then f else g) : sProp 𝕄)) from
          (BI.bigSep_fin_two (fun t : Fin 2 => (ℓ ↦[K t]{fullShare} (if t = 0 then f else g) : sProp 𝕄))).symm))
    isplitl [H0]; · iexact H0
    iexact H1
  rw [hc]
  icases H with ⟨%h, -, H⟩
  iexists h; iexact H

/-- The elements of a slot, as elements of the whole buffer. -/
def idxSet (s : Fin 2) : Finset S2x1x128.Idx := (Rect.part (s := S2x1x128) (a₀ := 0) two_idx s).set
def stgSet (s : Fin 2) : Finset S2x128x2x128.Idx := (Rect.part (s := S2x128x2x128) (a₀ := 0) two_stg s).set

theorem idxPts_eq (s : Fin 2) (f : Buf (Elt F) ((th d i).loc cc0_scoped0)) :
    (idxPts (F := F) d i s f : sProp 𝕄) = ((th d i).loc cc0_scoped0 ↦[idxSet s]{fullShare} f : sProp 𝕄) :=
  congrArg (fun A : Finset S2x1x128.Idx => ((th d i).loc cc0_scoped0 ↦[A]{fullShare} f : sProp 𝕄)) (idxS_set s)
theorem stgPts_eq (s : Fin 2) (f : Buf (Elt F) ((th d i).loc cc0_scoped2)) :
    (stgPts (F := F) d i s f : sProp 𝕄) = ((th d i).loc cc0_scoped2 ↦[stgSet s]{fullShare} f : sProp 𝕄) :=
  congrArg (fun A : Finset S2x128x2x128.Idx => ((th d i).loc cc0_scoped2 ↦[A]{fullShare} f : sProp 𝕄)) (stgS_set s)

theorem idxAny_eq (s : Fin 2) : (iprop(∃ f, idxPts (F := F) d i s f) : sProp 𝕄) = iprop(∃ f, (th d i).loc cc0_scoped0 ↦[idxSet s]{fullShare} f) := by
  refine congrArg _ (funext fun f => ?_)
  exact idxPts_eq d i s f
theorem stgAny_eq (s : Fin 2) : (iprop(∃ f, stgPts (F := F) d i s f) : sProp 𝕄) = iprop(∃ f, (th d i).loc cc0_scoped2 ↦[stgSet s]{fullShare} f) := by
  refine congrArg _ (funext fun f => ?_)
  exact stgPts_eq d i s f

theorem idx_split : iprop(∃ f, ((th d i).loc cc0_scoped0 ↦{fullShare} f : sProp 𝕄)) ⊢ iprop((∃ f, idxPts (F := F) d i 0 f) ∗ ∃ f, idxPts (F := F) d i 1 f) := by
  rw [idxAny_eq, idxAny_eq]
  exact halves_split (ℓ := (th d i).loc cc0_scoped0) idxSet (fun a b h => Rect.part_disjoint two_idx h) (Rect.biUnion_part two_idx)
theorem idx_join : iprop((∃ f, idxPts (F := F) d i 0 f) ∗ ∃ f, idxPts (F := F) d i 1 f) ⊢ iprop(∃ f, ((th d i).loc cc0_scoped0 ↦{fullShare} f : sProp 𝕄)) := by
  rw [idxAny_eq, idxAny_eq]
  exact halves_join (ℓ := (th d i).loc cc0_scoped0) idxSet (fun a b h => Rect.part_disjoint two_idx h) (Rect.biUnion_part two_idx)
theorem stg_split : iprop(∃ f, ((th d i).loc cc0_scoped2 ↦{fullShare} f : sProp 𝕄)) ⊢ iprop((∃ f, stgPts (F := F) d i 0 f) ∗ ∃ f, stgPts (F := F) d i 1 f) := by
  rw [stgAny_eq, stgAny_eq]
  exact halves_split (ℓ := (th d i).loc cc0_scoped2) stgSet (fun a b h => Rect.part_disjoint two_stg h) (Rect.biUnion_part two_stg)
theorem stg_join : iprop((∃ f, stgPts (F := F) d i 0 f) ∗ ∃ f, stgPts (F := F) d i 1 f) ⊢ iprop(∃ f, ((th d i).loc cc0_scoped2 ↦{fullShare} f : sProp 𝕄)) := by
  rw [stgAny_eq, stgAny_eq]
  exact halves_join (ℓ := (th d i).loc cc0_scoped2) stgSet (fun a b h => Rect.part_disjoint two_stg h) (Rect.biUnion_part two_stg)

/-! ## Out of what the subcore owns -/

/-- The five cells. -/
abbrev cell (n : Fin 5) : GSem nD τ sig := (th d i, SemLoc.dma (n : DmaSem sig))

theorem c5_sem (s : Fin 2) : (c5 s).sem = (⟨s.val, by omega⟩ : Fin 5) := by revert s; decide
theorem c6_sem (s : Fin 2) : (c6 s).sem = (⟨2 + s.val, by omega⟩ : Fin 5) := by revert s; decide
theorem c4_sem : c4 = (4 : Fin 5) := by decide

theorem cell_own (n : Fin 5) : cell d i n ∈ ownCells (th d i) := mem_ownCells.mpr ⟨rfl, by
  show (SemLoc.dma (n : DmaSem sig) : SemLoc sig).isScoped .scVector = true; revert n; decide⟩

theorem cell_ne {a b : Fin 5} (h : a ≠ b) : cell d i a ≠ cell d i b := fun e => h (SemLoc.dma.inj (Prod.mk.inj e).2)

/-- The cells beside the five. -/
def cellRest : sProp 𝕄 := bigSep ((((((ownCells (th d i)).erase (cell d i 0)).erase (cell d i 1)).erase (cell d i 2)).erase (cell d i 3)).erase (cell d i 4)) fun g => semVal g 0

theorem ownSems_eq : (ownSems0 (th d i) : sProp 𝕄)
    = iprop(sem5 d i 0 ∗ sem5 d i 1 ∗ sem6 d i 0 ∗ sem6 d i 1 ∗ sem4 d i ∗ cellRest (F := F) d i) := by
  unfold SparseCore.Cfg.ownSems0 cellRest sem5 sem6 sem4
  rw [c5_sem, c5_sem, c6_sem, c6_sem, c4_sem]
  have h := cell_own d i
  have n := fun a b => @cell_ne d i a b
  rw [SparseCore.bigSep_erase' (h 0),
    SparseCore.bigSep_erase' (Finset.mem_erase.mpr ⟨n 1 0 (by decide), h 1⟩),
    SparseCore.bigSep_erase' (Finset.mem_erase.mpr ⟨n 2 1 (by decide), Finset.mem_erase.mpr ⟨n 2 0 (by decide), h 2⟩⟩),
    SparseCore.bigSep_erase' (Finset.mem_erase.mpr ⟨n 3 2 (by decide), Finset.mem_erase.mpr ⟨n 3 1 (by decide), Finset.mem_erase.mpr ⟨n 3 0 (by decide), h 3⟩⟩⟩),
    SparseCore.bigSep_erase' (Finset.mem_erase.mpr ⟨n 4 3 (by decide), Finset.mem_erase.mpr ⟨n 4 2 (by decide), Finset.mem_erase.mpr ⟨n 4 1 (by decide),
      Finset.mem_erase.mpr ⟨n 4 0 (by decide), h 4⟩⟩⟩⟩)]
  rfl

/-- The buffers beside the two. -/
def bufRest : sProp 𝕄 := bigSep (((ownRefs (τ := τ) (.scVector (cV i) (jV i))).erase ((Proc.scVector (cV i) (jV i)).devRef cc0_scoped0)).erase
    ((Proc.scVector (cV i) (jV i)).devRef cc0_scoped2)) fun b => iprop(∃ f, ((d, b) : Loc nD τ sig) ↦{fullShare} f)

theorem ownBufs_eq : (ownBufs (th d i) : sProp 𝕄)
    = iprop((∃ f, (th d i).loc cc0_scoped0 ↦{fullShare} f) ∗ (∃ f, (th d i).loc cc0_scoped2 ↦{fullShare} f) ∗ bufRest (F := F) d i) := by
  unfold SparseCore.Cfg.ownBufs bufRest
  refine (SparseCore.bigSep_erase' (SparseCore.Cfg.mem_ownRefs_of_owner (p := Proc.scVector (cV i) (jV i))
    (b := (Proc.scVector (cV i) (jV i)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV i) (jV i)) (b := (Proc.scVector (cV i) (jV i)).devRef cc0_scoped2) rfl⟩)]

end Cert.Proof.Gather

end
-- ==== Proof.Task.lean ====
/-
  A tile as the launch asks for it: its shares of the rows and of the positions and its windows of the result, in and
  out, beside what the subcore owns.
-/
module

public import proofs.«01_k».proof.Proof.Scoped

@[expose] public section

noncomputable section

namespace Cert.Proof.Gather

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-! ## Shares -/

/-- Share `k` of the `2 ^ n` equal ones of `q`: bit by bit, left or right. -/
def piece : (n : ℕ) → PosShare TreeShare → ℕ → PosShare TreeShare
  | 0, q, _ => q
  | n + 1, q, k => piece n (if k % 2 = 0 then q.left else q.right) (k / 2)

theorem pointsTo_pieces {ℓ : Loc nD τ sig} (f : Buf (Elt F) ℓ) : ∀ (n : ℕ) (q : PosShare TreeShare),
    (ℓ ↦{q} f : sProp 𝕄) = bigSep Finset.univ fun k : Fin (2 ^ n) => ℓ ↦{piece n q k.val} f
  | 0, q => (bigSep_univ_of_subsingleton (0 : Fin 1) (Φ := fun k : Fin (2 ^ 0) => (ℓ ↦{piece 0 q k.val} f : sProp 𝕄))).symm
  | n + 1, q => by
    have e : (ℓ ↦{q} f : sProp 𝕄) = bigSep Finset.univ fun b : Fin 2 => (ℓ ↦{if b.val % 2 = 0 then q.left else q.right} f : sProp 𝕄) := by
      refine (BI.Entails.antisymm (pointsTo_share (PosShare.mem_left_op_right q)).1 (pointsTo_share (PosShare.mem_left_op_right q)).2).trans ?_
      exact (BI.bigSep_fin_two (fun b : Fin 2 => (ℓ ↦{if b.val % 2 = 0 then q.left else q.right} f : sProp 𝕄))).symm
    rw [e]
    show _ = bigSep Finset.univ fun k : Fin (2 ^ n * 2) => (ℓ ↦{piece (n + 1) q k.val} f : sProp 𝕄)
    rw [bigSep_univ_equiv (finProdFinEquiv (m := 2 ^ n) (n := 2)) (fun k : Fin (2 ^ n * 2) => (ℓ ↦{piece (n + 1) q k.val} f : sProp 𝕄)),
      bigSep_univ_equiv (Equiv.prodComm (Fin 2) (Fin (2 ^ n))), bigSep_univ_prod]
    refine bigSep_congr fun b _ => ?_
    rw [pointsTo_pieces f n]
    refine bigSep_congr fun a _ => ?_
    congr 1
    show piece n _ a.val = piece n (if (b.val + 2 * a.val) % 2 = 0 then q.left else q.right) ((b.val + 2 * a.val) / 2)
    rw [show (b.val + 2 * a.val) % 2 = b.val % 2 by omega, show (b.val + 2 * a.val) / 2 = a.val by omega]

/-- Tile `i`'s share of an array read by all. -/
def tileShare (i : grid0.Coords) : PosShare TreeShare := piece 4 (piece 1 fullShare (i 0).val) (i 1).val
/-- The two halves of it, one for each list slot. -/
def slotShare (i : grid0.Coords) (s : Fin 2) : PosShare TreeShare := piece 1 (tileShare i) s.val

variable [FloatOps F] (d : Dev nD) (i : grid0.Coords)
  (fy : Buf (Elt F) (yLoc d)) (fp : Buf (Elt F) (pLoc d)) (fo : Buf (Elt F) (oLoc d))

/-- What tile `i` is handed, and hands back: its share of the rows, of the positions, its windows of the result. -/
def task : sProp 𝕄 := iprop((yLoc d ↦{tileShare i} fy) ∗ (pLoc d ↦{tileShare i} fp) ∗ bigSep Finset.univ fun w : Fin 34 => outPts d i w fo)

theorem pos_slots : (pLoc d ↦{tileShare i} fp : sProp 𝕄) = iprop(posPts d fp (slotShare i) 0 ∗ posPts d fp (slotShare i) 1) :=
  (pointsTo_pieces fp 1 (tileShare i)).trans (BI.bigSep_fin_two _)

theorem task_wp (hF : (K (F := F)).Facts) (hp : ∀ j, (fp j).toNat < 155648) (O : CellTallies nD τ sig (HIx 1)) (W : Waits sig (HIx 1)) (hO : ∀ g, O g none = 0) :
    iprop(levAts (K (F := F)).L (K (F := F)).lev ∗ emp ∗ task d i fy fp fo
        ∗ scopedBufs (th d i) ∗ scopedSems0 (th d i) ∗ owes (th d i) O W)
      ⊢ wp frame (wpE (defs₀ (F := F)) 𝒱₀ (th d i) none) Set.univ
          (cc0_gather (F := F) i rowsM (Memref.isWhole_whole _) posM (Memref.isWhole_whole _) outM (Memref.isWhole_whole _)
            idxM (Memref.isWhole_whole _) cc0_scoped1 stgM (Memref.isWhole_whole _) cc0_scoped3 cc0_scoped4)
          fun _ => iprop(task d i fy fp (OUT fy fp) ∗ scopedBufs (th d i) ∗ scopedSems0 (th d i)
            ∗ ∃ W', ⌜∀ p ∈ W', p ∈ W ∨ p.2 = none⌝ ∗ owes (th d i) O W') := by
  rw [(K (F := F)).scopedBufs_V hF d (cV i) (jV i), SparseCore.Cfg.scopedSems0_V (Val := Elt F) d (cV i) (jV i), ownSems_eq, ownBufs_eq]
  unfold task
  rw [pos_slots]
  iintro ⟨#Hlv, -, ⟨Hy, ⟨Hp0, Hp1⟩, Hw⟩, ⟨Hi, Hg, Hb⟩, ⟨H50, H51, H60, H61, H4, Hc⟩, HO⟩
  ihave Hmw := (show levAts (K (F := F)).L (K (F := F)).lev ⊢ mayW d i O from (K (F := F)).mayWaits_none (thr := th d i) hO) $$ Hlv
  ihave Hi' := (idx_split d i) $$ Hi
  icases Hi' with ⟨Hi0, Hi1⟩
  ihave Hg' := (stg_split d i) $$ Hg
  icases Hg' with ⟨Hg0, Hg1⟩
  iapply (wp_wand frame (wpE (defs₀ (F := F)) 𝒱₀ (th d i) none) Set.univ) $$ [Hmw HO Hy H4 Hi0 Hi1 Hp0 Hp1 H50 H51 Hg0 Hg1 H60 H61 Hw]
  · iapply (tile_wp d i fy fp fo (slotShare i) (tileShare i) O W hp)
    isplitl [Hmw]; · iexact Hmw
    isplitl [HO]
    · unfold owesE
      iexists W
      isplitr; · ipureintro; exact fun p hp => Or.inl hp
      iexact HO
    unfold tileIn idxRest stgRest
    isplitl [Hy]; · iexact Hy
    isplitl [H4]; · iexact H4
    isplitl [Hi0 Hp0 H50]
    · isplitl [Hi0]; · iexact Hi0
      isplitl [Hp0] <;> iassumption
    isplitl [Hi1 Hp1 H51]
    · isplitl [Hi1]; · iexact Hi1
      isplitl [Hp1] <;> iassumption
    isplitl [Hg0 H60]
    · isplitl [Hg0] <;> iassumption
    isplitl [Hg1 H61]
    · isplitl [Hg1] <;> iassumption
    iexact Hw
  iintro %_ ⟨HO, H⟩
  unfold tileIn idxRest stgRest
  icases H with ⟨Hy, H4, ⟨Hi0, Hp0, H50⟩, ⟨Hi1, Hp1, H51⟩, ⟨Hg0, H60⟩, ⟨Hg1, H61⟩, Hw⟩
  isplitl [Hy Hp0 Hp1 Hw]
  · isplitl [Hy]; · iexact Hy
    isplitl [Hp0 Hp1]
    · isplitl [Hp0] <;> iassumption
    iexact Hw
  isplitl [Hi0 Hi1 Hg0 Hg1 Hb]
  · isplitl [Hi0 Hi1]
    · iapply (idx_join d i)
      isplitl [Hi0] <;> iassumption
    isplitl [Hg0 Hg1]
    · iapply (stg_join d i)
      isplitl [Hg0] <;> iassumption
    iexact Hb
  isplitl [H50 H51 H60 H61 H4 Hc]
  · isplitl [H50]; · iexact H50
    isplitl [H51]; · iexact H51
    isplitl [H60]; · iexact H60
    isplitl [H61]; · iexact H61
    isplitl [H4] <;> iassumption
  unfold owesE
  iexact HO

end Cert.Proof.Gather

end
-- ==== Proof.Launch.lean ====
/-
  The launch: the arrays shared out to the 32 tiles and back, the host's two reshapes around the call, and the
  program's run: it ends with the result's rows the listed rows, the arguments as they were.
-/
module

public import proofs.«01_k».proof.Proof.Task

@[expose] public section

noncomputable section

namespace Cert.Proof.Gather

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}
local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F] (m : (ℓ : Loc nD τ sig) → Buf (Elt F) ℓ) (ρ : Dev nD → PrngReg)

/-! ## The host's two reshapes -/

abbrev xLoc (d : Dev nD) : Loc nD τ sig := (SparseCore.T d).loc main_arg0
abbrev rLoc (d : Dev nD) : Loc nD τ sig := (SparseCore.T d).loc main_v2
abbrev x' : DevRef τ sig := Proc.devRef .tc (main_arg0 : Ref sig .tc)
abbrev p' : DevRef τ sig := Proc.devRef .tc (main_arg1 : Ref sig .tc)
abbrev y' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opIn : HloOp τ sig (Elt F) := StableHlo.reshape main_arg0 main_v0 (rfl : (.i32 : EltTy) = .i32) shapeCasts_S155648x256_S155648x2x128
abbrev opOut : HloOp τ sig (Elt F) := StableHlo.reshape main_v1 main_v2 (rfl : (.i32 : EltTy) = .i32) shapeCasts_S139264x2x128_S139264x256
abbrev S5 : Finset (DevRef τ sig) := {x', p', y', o', r'}

theorem held_S5 (d : Dev nD) (V : Valuation τ sig (Elt F)) :
    (held (T d) S5 V : sProp 𝕄)
      = iprop((xLoc d ↦{fullShare} V x') ∗ (pLoc d ↦{fullShare} V p') ∗ (yLoc d ↦{fullShare} V y') ∗ (oLoc d ↦{fullShare} V o') ∗ rLoc d ↦{fullShare} V r') := by
  unfold held S5
  rw [SparseCore.bigSep_insert' (by decide), SparseCore.bigSep_insert' (by decide), SparseCore.bigSep_insert' (by decide),
    SparseCore.bigSep_insert' (by decide), bigSep_singleton]

/-- The arrays at launch; after the first reshape; after the call. -/
def V0 (d : Dev nD) : Valuation τ sig (Elt F) := fun b => m (d, b)
def V1 (d : Dev nD) : Valuation τ sig (Elt F) := (opIn (F := F)).result (V0 m d)
/-- The rows as the call gets them, and the result's rows as it leaves them. -/
def rowsIn (d : Dev nD) : Buf (Elt F) (yLoc d) := V1 m d y'
def rowsOut (d : Dev nD) : Buf (Elt F) (oLoc d) := OUT (rowsIn m d) (m (pLoc d))
def V2 (d : Dev nD) : Valuation τ sig (Elt F) := Function.update (V1 m d) o' (rowsOut m d)
/-- The result. -/
def res (d : Dev nD) : Buf (Elt F) (rLoc d) := (opOut (F := F)).result (V2 m d) r'

theorem unscoped_held (d : Dev nD) : (unscopedBufs d (fun b => m ((SparseCore.T d).loc b)) : sProp 𝕄) = held (T d) S5 (V0 m d) := by
  rw [held_S5]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

theorem V1_x (d : Dev nD) : V1 m d x' = m (xLoc d) := (opIn (F := F)).result_of_not_mem _ (show x' ∉ ({y'} : Finset (DevRef τ sig)) by decide)
theorem V1_p (d : Dev nD) : V1 m d p' = m (pLoc d) := (opIn (F := F)).result_of_not_mem _ (show p' ∉ ({y'} : Finset (DevRef τ sig)) by decide)
theorem V2_x (d : Dev nD) : V2 m d x' = m (xLoc d) := (Function.update_of_ne (show x' ≠ o' by decide) _ _).trans (V1_x m d)
theorem V2_p (d : Dev nD) : V2 m d p' = m (pLoc d) := (Function.update_of_ne (show p' ≠ o' by decide) _ _).trans (V1_p m d)
theorem V2_y (d : Dev nD) : V2 m d y' = rowsIn m d := Function.update_of_ne (show y' ≠ o' by decide) _ _
theorem V2_o (d : Dev nD) : V2 m d o' = rowsOut m d := Function.update_self _ _ _
theorem V2_r (d : Dev nD) : V2 m d r' = V1 m d r' := Function.update_of_ne (show r' ≠ o' by decide) _ _
theorem V3_x (d : Dev nD) : (opOut (F := F)).result (V2 m d) x' = m (xLoc d) :=
  ((opOut (F := F)).result_of_not_mem _ (show x' ∉ ({r'} : Finset (DevRef τ sig)) by decide)).trans (V2_x m d)
theorem V3_p (d : Dev nD) : (opOut (F := F)).result (V2 m d) p' = m (pLoc d) :=
  ((opOut (F := F)).result_of_not_mem _ (show p' ∉ ({r'} : Finset (DevRef τ sig)) by decide)).trans (V2_p m d)

theorem hIn : (opIn (F := F)).bufs ⊆ S5 := show ({x', y'} : Finset (DevRef τ sig)) ⊆ S5 by decide
theorem hOut : (opOut (F := F)).bufs ⊆ S5 := show ({o', r'} : Finset (DevRef τ sig)) ⊆ S5 by decide

/-! ## What the handshakes carry -/

/-- The elements of window `w`, of all the result's. -/
def winSet (n : Fin 1088) : Finset S139264x2x128.Idx := (Rect.part (s := S139264x2x128) (a₀ := 0) win_out n).set

theorem outPts_eq (d : Dev nD) (i : grid0.Coords) (w : Fin 34) (f : Buf (Elt F) (oLoc d)) :
    (outPts d i w f : sProp 𝕄) = (oLoc d ↦[winSet (winNo i w)]{fullShare} f : sProp 𝕄) :=
  congrArg (fun A : Finset S139264x2x128.Idx => (oLoc d ↦[A]{fullShare} f : sProp 𝕄)) (outW_set i w)

/-- Tile `s` of core `c`, and what it is handed; `fo` the result's contents. -/
def job (d : Dev nD) (fo : Buf (Elt F) (oLoc d)) (c : Fin 2) (s : Fin 16) : sProp 𝕄 := task d (coords c s) (rowsIn m d) (m (pLoc d)) fo
def jobs (d : Dev nD) (fo : Buf (Elt F) (oLoc d)) (c : Fin 2) : sProp 𝕄 := bigSep Finset.univ fun s : Fin 16 => job m d fo c s

theorem nCore_zero : (K (F := F)).nCore 0 = 2 := rfl
theorem nSub_zero : (K (F := F)).nSub 0 = 16 := rfl

def P : (K (F := F)).Pay (nD := nD) (Val := Elt F) (Name := ℕ) (U := UU) where
  st := fun q d c => match q with | 0 => jobs m d (V1 m d o') (Fin.cast nCore_zero c)
  dn := fun q d c => match q with | 0 => jobs m d (rowsOut m d) (Fin.cast nCore_zero c)
  go := fun q d c s => match q with | 0 => job m d (V1 m d o') (Fin.cast nCore_zero c) (Fin.cast nSub_zero s)
  td := fun q d c s => match q with | 0 => job m d (rowsOut m d) (Fin.cast nCore_zero c) (Fin.cast nSub_zero s)
  x := fun _ _ => iprop(emp)

instance job_storable (d : Dev nD) (fo : Buf (Elt F) (oLoc d)) (c : Fin 2) (s : Fin 16) :
    BI.Storable (upEmb : UEmb _ 𝕄) (job m d fo c s) := by
  unfold job task
  have h : ∀ w : Fin 34, BI.Storable (upEmb : UEmb _ 𝕄) (outPts d (coords c s) w fo) := fun w => by rw [outPts_eq]; infer_instance
  infer_instance
instance jobs_storable (d : Dev nD) (fo : Buf (Elt F) (oLoc d)) (c : Fin 2) :
    BI.Storable (upEmb : UEmb _ 𝕄) (jobs m d fo c) := by unfold jobs; infer_instance

instance P_storable : (P (F := F) m).IsStorable where
  st q d c := match q with | 0 => jobs_storable m d (V1 m d o') (Fin.cast nCore_zero c)
  dn q d c := match q with | 0 => jobs_storable m d (rowsOut m d) (Fin.cast nCore_zero c)
  go q d c s := match q with | 0 => job_storable m d (V1 m d o') (Fin.cast nCore_zero c) (Fin.cast nSub_zero s)
  td q d c s := match q with | 0 => job_storable m d (rowsOut m d) (Fin.cast nCore_zero c) (Fin.cast nSub_zero s)

/-- What the proof asks of the launch memory: every position is a row. -/
def PreOK : Prop := ∀ (d : Dev nD) (j : S1x139264.Idx), (m (pLoc d) j).toNat < 155648

/-! ## Each tile's obligation -/

theorem defs₀_vector (c : Fin τ.nSC) (s : Fin τ.nSub) :
    defs₀ (F := F) (.scVector c s) 0 ()
      = SparseCore.onTile hcore0 hsub0 (fun c s => cc0_gather (coords c s)
          rowsM (Memref.isWhole_whole _) posM (Memref.isWhole_whole _) outM (Memref.isWhole_whole _)
          idxM (Memref.isWhole_whole _) cc0_scoped1 stgM (Memref.isWhole_whole _) cc0_scoped3 cc0_scoped4) ⟨⟩ c s := rfl

theorem wait_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task_wp d (coords ⟨_, hci.1⟩ ⟨_, hci.2⟩) (rowsIn m d) (m (pLoc d)) (V1 m d o') hF (hpre d) O W hO).trans
    (wp_mono frame _ _ fun _ => wait_weaken)

theorem vecSplit : (K (F := F)).VecSplit' (P m) 0 := by
  intro d c
  show jobs m d (V1 m d o') (Fin.cast nCore_zero c) ⊢ |={Set.univ}=> iprop(jobs m d (V1 m d o') (Fin.cast nCore_zero c)
    ∗ (jobs m d (rowsOut m d) (Fin.cast nCore_zero c) -∗ jobs m d (rowsOut m d) (Fin.cast nCore_zero c)))
  iintro H; imodintro
  isplitl [H]; · iexact H
  iintro H; iexact H

/-! ## The launch element of the ghost state -/

theorem nothing {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing]
  iempintro

/-! ## Sharing out -/

theorem shared_all {ℓ : Loc nD τ sig} (f : Buf (Elt F) ℓ) :
    (ℓ ↦{fullShare} f : sProp 𝕄) = bigSep Finset.univ fun c : Fin 2 => bigSep Finset.univ fun s : Fin 16 => ℓ ↦{tileShare (coords c s)} f :=
  (pointsTo_pieces f 1 fullShare).trans (bigSep_congr fun c _ => pointsTo_pieces f 4 _)

/-- The windows numbered by core, subcore and step. -/
def winEquiv : Fin 2 × Fin 16 × Fin 34 ≃ Fin 1088 :=
  (Equiv.prodCongr (Equiv.refl _) finProdFinEquiv).trans finProdFinEquiv

theorem winEquiv_eq (c : Fin 2) (s : Fin 16) (w : Fin 34) : winEquiv (c, s, w) = winNo (coords c s) w := by
  apply Fin.ext
  show w.val + 34 * s.val + 16 * 34 * c.val = 34 * (s.val + 16 * c.val) + w.val
  omega

theorem out_all (d : Dev nD) (f : Buf (Elt F) (oLoc d)) :
    (oLoc d ↦{fullShare} f : sProp 𝕄)
      = bigSep Finset.univ fun c : Fin 2 => bigSep Finset.univ fun s : Fin 16 => bigSep Finset.univ fun w : Fin 34 => outPts d (coords c s) w f := by
  have e : (oLoc d ↦{fullShare} f : sProp 𝕄) = bigSep Finset.univ fun n : Fin 1088 => (oLoc d ↦[winSet n]{fullShare} f : sProp 𝕄) := by
    exact (congrArg (fun A : Finset S139264x2x128.Idx => (oLoc d ↦[A]{fullShare} f : sProp 𝕄)) (Rect.biUnion_part win_out).symm).trans
      (pointsTo_biUnion (ℓ := oLoc d) Finset.univ winSet (fun a _ b _ h => Rect.part_disjoint win_out h))
  rw [e, bigSep_univ_equiv winEquiv, bigSep_univ_prod]
  refine bigSep_congr fun c _ => ?_
  rw [bigSep_univ_prod]
  refine bigSep_congr fun s _ => bigSep_congr fun w _ => ?_
  rw [outPts_eq, winEquiv_eq]

theorem jobs_all (d : Dev nD) (f : Buf (Elt F) (oLoc d)) :
    (bigSep Finset.univ fun c : Fin 2 => jobs m d f c)
      = iprop((yLoc d ↦{fullShare} rowsIn m d) ∗ (pLoc d ↦{fullShare} m (pLoc d)) ∗ oLoc d ↦{fullShare} f) := by
  rw [shared_all (rowsIn m d), shared_all (m (pLoc d)), out_all d f, ← bigSep_sep', ← bigSep_sep']
  refine bigSep_congr fun c _ => ?_
  unfold jobs
  rw [← bigSep_sep', ← bigSep_sep']
  rfl

theorem st0_eq (d : Dev nD) : (bigSep Finset.univ fun c : Fin ((K (F := F)).nCore 0) => (P m).st 0 d c)
    = iprop((yLoc d ↦{fullShare} rowsIn m d) ∗ (pLoc d ↦{fullShare} m (pLoc d)) ∗ oLoc d ↦{fullShare} V1 m d o') := jobs_all m d _
theorem dn0_eq (d : Dev nD) : (bigSep Finset.univ fun c : Fin ((K (F := F)).nCore 0) => (P m).dn 0 d c)
    = iprop((yLoc d ↦{fullShare} rowsIn m d) ∗ (pLoc d ↦{fullShare} m (pLoc d)) ∗ oLoc d ↦{fullShare} rowsOut m d) := jobs_all m d _

/-! ## @main -/

abbrev FIN (d : Dev nD) : sProp 𝕄 := iprop((xLoc d ↦{fullShare} m (xLoc d)) ∗ (pLoc d ↦{fullShare} m (pLoc d)) ∗ rLoc d ↦{fullShare} res m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  ihave Hh := (Entails.of_eq (show (held (T d) S5 ((opIn (F := F)).result (V0 m d)) : sProp 𝕄)
      = iprop((xLoc d ↦{fullShare} m (xLoc d)) ∗ (pLoc d ↦{fullShare} m (pLoc d)) ∗ (yLoc d ↦{fullShare} rowsIn m d) ∗ (oLoc d ↦{fullShare} V1 m d o')
          ∗ rLoc d ↦{fullShare} V1 m d r') by
    show held (T d) S5 (V1 m d) = _
    rw [held_S5, V1_x, V1_p]; rfl)) $$ Hheld
  icases Hh with ⟨Hx, Hp, Hy, Ho, Hr⟩
  iapply ((K (F := F)).wp_run (D (F := F)) 𝒱 (EH := EH) (P := P m) κ d 0) $$ [Hst Hx Hp Hy Ho Hr Hb Hts]
  isplitr; · iexact Hctx
  isplitl [Hst]; · iexact Hst
  isplitl [Hp Hy Ho]
  · rw [st0_eq]
    isplitl [Hy]; · iexact Hy
    isplitl [Hp] <;> iassumption
  iintro ⟨Hst, Hdn⟩
  ihave Hdn' := (Entails.of_eq (dn0_eq m d)) $$ Hdn
  icases Hdn' with ⟨Hy, Hp, Ho⟩
  iapply (wp_hlo_within 𝒱 (SparseCore.T d) none Set.univ (op := opOut) (S := S5) hOut (V := V2 m d)) $$ [Hb Hx Hp Hy Ho Hr]
  · isplitl [Hb]; · iexact Hb
    rw [held_S5, V2_x, V2_p, V2_y, V2_o, V2_r]
    isplitl [Hx]; · iexact Hx
    isplitl [Hp]; · iexact Hp
    isplitl [Hy]; · iexact Hy
    isplitl [Ho] <;> iassumption
  iintro ⟨Hb, Hheld⟩
  ihave Hh := (Entails.of_eq (show (held (T d) S5 ((opOut (F := F)).result (V2 m d)) : sProp 𝕄)
      = iprop((xLoc d ↦{fullShare} m (xLoc d)) ∗ (pLoc d ↦{fullShare} m (pLoc d)) ∗ (yLoc d ↦{fullShare} (opOut (F := F)).result (V2 m d) y')
          ∗ (oLoc d ↦{fullShare} (opOut (F := F)).result (V2 m d) o') ∗ rLoc d ↦{fullShare} res m d) by
    rw [held_S5, V3_x, V3_p]; rfl)) $$ Hheld
  icases Hh with ⟨Hx, Hp, -, -, Hr⟩
  rw [wp_ret]; imodintro; imodintro
  isplitl [Hst]; · iexact Hst
  isplitr [Hb Hts]
  · isplitl [Hx]; · iexact Hx
    isplitl [Hp] <;> iassumption
  isplitl [Hb] <;> iassumption

/-- What the claims read of a final state. -/
def fq (d : Dev nD) (s : Phys nD τ sig (Elt F)) : Prop :=
  s.mem.mem (xLoc d) = m (xLoc d) ∧ s.mem.mem (pLoc d) = m (pLoc d) ∧ s.mem.mem (rLoc d) = res m d

theorem reads {ℓ : Loc nD τ sig} (f : Buf (Elt F) ℓ) (s : Phys nD τ sig (Elt F)) :
    iprop(SI s ∗ ℓ ↦{fullShare} f) ⊢ (iprop(⌜s.mem.mem ℓ = f⌝ ∗ SI s) : sProp 𝕄) := by
  iintro H
  ihave H' := (persistent_entails_right (SI_pointsTo_agree (st := s) (ℓ := ℓ) (I := Finset.univ) (q := fullShare) (f := f))) $$ H
  icases H' with ⟨%h, HSI, -⟩
  isplitr
  · ipureintro; exact funext fun i => h i (Finset.mem_univ i)
  · iexact HSI

theorem hfin (d : Dev nD) (s : Phys nD τ sig (Elt F)) : iprop(FIN m d ∗ SI s) ⊢ (⌜fq m d s⌝ : sProp 𝕄) := by
  iintro ⟨⟨Hx, Hp, Hr⟩, HSI⟩
  ihave H := (reads (m (xLoc d)) s) $$ [HSI Hx]
  · isplitl [HSI] <;> iassumption
  icases H with ⟨%h1, HSI⟩
  ihave H := (reads (m (pLoc d)) s) $$ [HSI Hp]
  · isplitl [HSI] <;> iassumption
  icases H with ⟨%h2, HSI⟩
  ihave H := (reads (res m d) s) $$ [HSI Hr]
  · isplitl [HSI] <;> iassumption
  icases H with ⟨%h3, HSI⟩
  ipureintro; exact ⟨h1, h2, h3⟩

/-! ## The run -/

def QC : PUnit × MemSt nD τ sig (Elt F) → Prop := fun r =>
  (∀ c : Dev nD, r.2.mem (xLoc c) = m (xLoc c) ∧ r.2.mem (pLoc c) = m (pLoc c) ∧ r.2.mem (rLoc c) = res m c) ∧ r.2.sem = fun _ => 0

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Value.lean ====
/-
  The result, element by element, and the reference's: row `n` is row `pos[n]` of the argument.
-/
module

public import proofs.«01_k».proof.Proof.Launch
public import proofs.«01_k».proof.Proof.Gen.Reference.Run
public import proofs.«01_k».proof.Proof.Gen.Pre_in_range
public import proofs.«01_k».proof.Defs
public import Idealize.ShloMosaic.Lib.ReduceAll
public import Idealize.ShloMosaic.Lib.Routing.Ops
public import Idealize.ShloMosaic.Lib.Pipeline.Value

@[expose] public section

noncomputable section

namespace Cert.Proof.Gather

open Cert.Kernel Cert.Kernel.Gen
open Idealize.ShloMosaic

variable {F : FTy → Type} [FloatOps F] (m : (ℓ : Loc nD τ sig) → Buf (Elt F) ℓ)

/-- An element of the rows as the host has them, by row and lane. -/
def ixX (r : Fin 155648) (b : Fin 256) : S155648x256.Idx := fun | ⟨0, _⟩ => r | ⟨1, _⟩ => b
def ixR (r : Fin 139264) (b : Fin 256) : S139264x256.Idx := fun | ⟨0, _⟩ => r | ⟨1, _⟩ => b
def ixO (r : Fin 139264) (a : Fin 2) (b : Fin 128) : S139264x2x128.Idx := fun | ⟨0, _⟩ => r | ⟨1, _⟩ => a | ⟨2, _⟩ => b

theorem ixR_eta (j : S139264x256.Idx) : j = ixR (j 0) (j 1) := by
  funext a; match a with
  | ⟨0, _⟩ => rfl
  | ⟨1, _⟩ => rfl

theorem cast_in {α : Type} (x : S155648x256.Idx → α) (r : Fin 155648) (b : Fin 256) :
    shapeCast S155648x2x128 x shapeCasts_S155648x256_S155648x2x128 (ix3 r ⟨b.val / 128, by omega⟩ ⟨b.val % 128, by omega⟩) = x (ixX r b) := by
  refine shapeCast_apply _ _ _ _ ?_
  rw [Shape.rowMajor_val_three, Shape.rowMajor_val_two]
  show r.val * 256 + b.val = (r.val * 2 + b.val / 128) * 128 + b.val % 128
  omega

theorem cast_out {α : Type} (x : S139264x2x128.Idx → α) (n : Fin 139264) (b : Fin 256) :
    shapeCast S139264x256 x shapeCasts_S139264x2x128_S139264x256 (ixR n b) = x (ixO n ⟨b.val / 128, by omega⟩ ⟨b.val % 128, by omega⟩) := by
  refine shapeCast_apply _ _ _ _ ?_
  rw [Shape.rowMajor_val_three, Shape.rowMajor_val_two]
  show (n.val * 2 + b.val / 128) * 128 + b.val % 128 = n.val * 256 + b.val
  omega

theorem rowsIn_eq (d : Dev nD) : rowsIn m d = shapeCast S155648x2x128 (m (xLoc d)) shapeCasts_S155648x256_S155648x2x128 := by
  unfold rowsIn V1
  exact StableHlo.reshape_result main_arg0 main_v0 rfl shapeCasts_S155648x256_S155648x2x128 _ _ (V0 m d)

theorem res_eq (d : Dev nD) : res m d = shapeCast S139264x256 (rowsOut m d) shapeCasts_S139264x2x128_S139264x256 := by
  unfold res
  refine (StableHlo.reshape_result main_v1 main_v2 rfl shapeCasts_S139264x2x128_S139264x256 _ _ (V2 m d)).trans ?_
  exact congrArg (fun v : S139264x2x128.Idx → Elt F .i32 => shapeCast S139264x256 v shapeCasts_S139264x2x128_S139264x256) (V2_o m d)

/-- Element `(n, b)` of the kernel's result. -/
theorem res_apply (d : Dev nD) (n : Fin 139264) (b : Fin 256) :
    res m d (ixR n b) = m (xLoc d) (ixX ⟨(m (pLoc d) (ix2 n)).toNat % 155648, Nat.mod_lt _ (by decide)⟩ b) := by
  rw [res_eq]
  refine (cast_out (rowsOut m d) n b).trans ?_
  show rowsIn m d (ix3 _ _ _) = _
  rw [rowsIn_eq]
  exact cast_in (m (xLoc d)) _ b

/-! ## The reference -/

/-- The start index the reference computes for each row; -/
abbrev startIdx (p : S1x139264.Idx → BitVec 32) : IVec Cert.Reference.S139264x1 32 :=
  broadcastInDim Cert.Reference.S139264x1 ![0] Cert.Reference.Gen.bcast_S139264_S139264x1_0
      (select (cmpi .slt (shapeCast Cert.Reference.S139264 p Cert.Reference.Gen.shapeCasts_S1x139264_S139264)
          (broadcastInDim Cert.Reference.S139264 ![] Cert.Reference.Gen.bcast_S_S139264 (constantI Cert.Reference.S_ 32 0#32)))
        (addi (shapeCast Cert.Reference.S139264 p Cert.Reference.Gen.shapeCasts_S1x139264_S139264)
          (broadcastInDim Cert.Reference.S139264 ![] Cert.Reference.Gen.bcast_S_S139264 (constantI Cert.Reference.S_ 32 155648#32)))
        (shapeCast Cert.Reference.S139264 p Cert.Reference.Gen.shapeCasts_S1x139264_S139264))

theorem notNeg (v : BitVec 32) (h : v.toNat < 155648) : IntOp.cmpi .slt v 0#32 = 0#1 := by
  have h0 : v.slt 0#32 = false := by
    rw [BitVec.slt_eq_decide, BitVec.toInt_eq_toNat_cond]
    simp
    omega
  show BitVec.ofBool (v.slt 0#32) = 0#1
  rw [h0]; rfl

/-- where the position is a row, it is the position. -/
theorem start_apply (p : S1x139264.Idx → BitVec 32) (n : Fin 139264) (hp : (p (ix2 n)).toNat < 155648) :
    startIdx p (ValueIdx.ix2 n (0 : Fin 1)) = p (ix2 n) := by
  have hc : ∀ j : Cert.Reference.S139264.Idx, (j 0).val = n.val → shapeCast Cert.Reference.S139264 p Cert.Reference.Gen.shapeCasts_S1x139264_S139264 j = p (ix2 n) := by
    intro j hj
    refine shapeCast_apply _ _ _ _ ?_
    rw [Shape.rowMajor_val_two, Shape.rowMajor_val_one, hj]
    show 0 * 139264 + n.val = n.val
    omega
  have hs : ∀ j : Cert.Reference.S139264.Idx, (j 0).val = n.val →
      select (cmpi .slt (shapeCast Cert.Reference.S139264 p Cert.Reference.Gen.shapeCasts_S1x139264_S139264)
          (broadcastInDim Cert.Reference.S139264 ![] Cert.Reference.Gen.bcast_S_S139264 (constantI Cert.Reference.S_ 32 0#32)))
        (addi (shapeCast Cert.Reference.S139264 p Cert.Reference.Gen.shapeCasts_S1x139264_S139264)
          (broadcastInDim Cert.Reference.S139264 ![] Cert.Reference.Gen.bcast_S_S139264 (constantI Cert.Reference.S_ 32 155648#32)))
        (shapeCast Cert.Reference.S139264 p Cert.Reference.Gen.shapeCasts_S1x139264_S139264) j = p (ix2 n) := by
    intro j hj
    unfold select cmpi
    rw [hc j hj]
    show Scalar.select (IntOp.cmpi .slt (p (ix2 n)) 0#32) _ _ = _
    rw [notNeg _ hp]
    rfl
  exact hs _ rfl

/-- Element `(n, b)` of the reference's result. -/
theorem ref_apply {α : Type} (x : S155648x256.Idx → α) (p : S1x139264.Idx → BitVec 32) (n : Fin 139264) (b : Fin 256) (hp : (p (ix2 n)).toNat < 155648) :
    Host.gather Cert.Reference.gather_S155648x256_S139264x1_S139264x256_1_0_n_n_0_1_1256 x (startIdx p) (ixR n b)
      = x (ixX ⟨(p (ix2 n)).toNat % 155648, Nat.mod_lt _ (by decide)⟩ b) := by
  have e : ixR n b = ValueIdx.ix2 n b := by funext a; match a with | ⟨0, _⟩ => rfl | ⟨1, _⟩ => rfl
  have e' : ∀ r : Fin 155648, ixX r b = ValueIdx.ix2 r b := fun r => by funext a; match a with | ⟨0, _⟩ => rfl | ⟨1, _⟩ => rfl
  rw [e, e']
  refine Routing.gather_row (nb := 155648) (B := 256) (n := 139264) _ rfl rfl rfl rfl rfl x (startIdx p) n b _ ?_ (by decide)
  rw [start_apply p n hp]
  apply BitVec.eq_of_toNat_eq
  rw [BitVec.toNat_ofNat]
  show _ = (p (ix2 n)).toNat % 155648 % 2 ^ 32
  rw [Nat.mod_eq_of_lt hp]
  omega

/-! ## The precondition -/

theorem ok_of_pre (m : (ℓ : Loc nD τ sig) → Buf (Elt Bits) ℓ) (h : Cert.Pre_Kernel m) : PreOK (F := Bits) m := by
  have key : ∀ v : BitVec 32, IntOp.andi (IntOp.cmpi .sge v 0#32) (IntOp.cmpi .slt v 155648#32) = 1#1 → v.toNat < 155648 := by
    intro v e
    have andi_ofBool (p q : Bool) : IntOp.andi (BitVec.ofBool p) (BitVec.ofBool q) = BitVec.ofBool (p && q) := by
      cases p <;> cases q <;> decide
    have ofBool_eq_one (p : Bool) : (BitVec.ofBool p = 1#1) ↔ p = true := by cases p <;> decide
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  intro d j
  have : Subsingleton Cert.Pre_in_range.S_.Idx := ⟨fun a b => funext fun k => k.elim0⟩
  have e := congrFun (h d) (fun k => k.elim0)
  exact key _ (Host.reduce_andi_all _ _ _ _ _ e j)

end Cert.Proof.Gather

end
-- ==== Proof.Proj.Host.lean ====
/-
  What the projection's launch finds in its three input arrays: the rows of the prompt, the packed weights and the
  rotation tables, each as one term over the two arguments.
-/
module

public import proofs.«01_k».proof.Proof.Gen.Kernel2Ideal.Frame
public import Idealize.ShloMosaic.Lib.StableHlo.Run

@[expose] public section

noncomputable section

namespace Cert.Proof.Project

open Cert.Kernel2Ideal Cert.Kernel2Ideal.Gen
open Idealize.ShloMosaic Idealize.ShloMosaic.TcCoe Idealize.SL.Sem Idealize.ShloMosaic.StableHlo

variable {F : FTy → Type} [FloatOps F]

/-! ## The arrays laid side by side, by name -/

def catHalves (a b : FVec F S2048x64 .f32) : FVec F S2048x128 .f32 :=
  concatenate S2048x128 1 [⟨S2048x64, a⟩, ⟨S2048x64, b⟩] concatenates_S2048x64_S2048x64_S2048x128_d1

def catPart (a : FVec F S2048x8 .f32) (b : FVec F S2048x56 .f32) : FVec F S2048x64 .f32 :=
  concatenate S2048x64 1 [⟨S2048x8, a⟩, ⟨S2048x56, b⟩] concatenates_S2048x8_S2048x56_S2048x64_d1

def catThree (a b : FVec F S2048x8 .f32) (c : FVec F S2048x48 .f32) : FVec F S2048x64 .f32 :=
  concatenate S2048x64 1 [⟨S2048x8, a⟩, ⟨S2048x8, b⟩, ⟨S2048x48, c⟩] concatenates_S2048x8_S2048x8_S2048x48_S2048x64_d1

def catIndexer (a : FVec F S2048x64 .f32) (b : FVec F S2048x8 .f32) (c : FVec F S2048x56 .f32) : FVec F S2048x128 .f32 :=
  concatenate S2048x128 1 [⟨S2048x64, a⟩, ⟨S2048x8, b⟩, ⟨S2048x56, c⟩] concatenates_S2048x64_S2048x8_S2048x56_S2048x128_d1

def catTables (t0 t1 t2 t3 t4 t5 t6 t7 : FVec F S2048x128 .f32) : FVec F S2048x1024 .f32 :=
  concatenate S2048x1024 1 [⟨S2048x128, t0⟩, ⟨S2048x128, t1⟩, ⟨S2048x128, t2⟩, ⟨S2048x128, t3⟩, ⟨S2048x128, t4⟩, ⟨S2048x128, t5⟩, ⟨S2048x128, t6⟩, ⟨S2048x128, t7⟩]
    concatenates_S2048x128_S2048x128_S2048x128_S2048x128_S2048x128_S2048x128_S2048x128_S2048x128_S2048x1024_d1

def catWeights (w0 : FVec F S1024x512 .f32) (w1 : FVec F S1024x512 .f32) (w2 : FVec F S1024x1024 .f32) (w3 : FVec F S1024x1024 .f32) (w4 : FVec F S1024x512 .f32) (w5 : FVec F S1024x128 .f32) (w6 : FVec F S1024x128 .f32) (w7 : FVec F S1024x512 .f32) (w8 : FVec F S1024x64 .f32) (w9 : FVec F S1024x8 .f32) (w10 : FVec F S1024x56 .f32) (w11 : FVec F S1024x1024 .f32) (w12 : FVec F S1024x1024 .f32) : FVec F S1024x6528 .f32 :=
  concatenate S1024x6528 1 [⟨S1024x512, w0⟩, ⟨S1024x512, w1⟩, ⟨S1024x1024, w2⟩, ⟨S1024x1024, w3⟩, ⟨S1024x512, w4⟩, ⟨S1024x128, w5⟩, ⟨S1024x128, w6⟩, ⟨S1024x512, w7⟩, ⟨S1024x64, w8⟩, ⟨S1024x8, w9⟩, ⟨S1024x56, w10⟩, ⟨S1024x1024, w11⟩, ⟨S1024x1024, w12⟩]
    concatenates_S1024x512_S1024x512_S1024x1024_S1024x1024_S1024x512_S1024x128_S1024x128_S1024x512_S1024x64_S1024x8_S1024x56_S1024x1024_S1024x1024_S1024x6528_d1

/-- The operations before the launch, the arrays laid side by side by name. -/
abbrev hostOps : List (HloOp τ sig (Elt F)) :=
  [ StableHlo.unary main_v3 main_v4 (Host.negf : (⟨S64, .f32⟩ : BufTy).Contents (Elt F) → (⟨S64, .f32⟩ : BufTy).Contents (Elt F)),
    StableHlo.nullary main_cst_1 (constant S_ .f32 0x461C4000#32),
    StableHlo.unary main_cst_1 main_v5 (broadcastInDim S64 ![] bcast_S_S64 : (⟨S_, .f32⟩ : BufTy).Contents (Elt F) → (⟨S64, .f32⟩ : BufTy).Contents (Elt F)),
    StableHlo.binary main_v5 main_v4 main_v6 (Host.powf : (⟨S64, .f32⟩ : BufTy).Contents (Elt F) → (⟨S64, .f32⟩ : BufTy).Contents (Elt F) → (⟨S64, .f32⟩ : BufTy).Contents (Elt F)),
    StableHlo.unary main_v6 main_v7 (broadcastInDim S1x64 ![1] bcast_S64_S1x64_1 : (⟨S64, .f32⟩ : BufTy).Contents (Elt F) → (⟨S1x64, .f32⟩ : BufTy).Contents (Elt F)),
    StableHlo.unary main_v2 main_v8 (broadcastInDim S2048x64 ![0, 1] bcast_S2048x1_S2048x64_0_1 : (⟨S2048x1, .f32⟩ : BufTy).Contents (Elt F) → (⟨S2048x64, .f32⟩ : BufTy).Contents (Elt F)),
    StableHlo.unary main_v7 main_v9 (broadcastInDim S2048x64 ![0, 1] bcast_S1x64_S2048x64_0_1 : (⟨S1x64, .f32⟩ : BufTy).Contents (Elt F) → (⟨S2048x64, .f32⟩ : BufTy).Contents (Elt F)),
    StableHlo.binary main_v8 main_v9 main_v10 (mulf : (⟨S2048x64, .f32⟩ : BufTy).Contents (Elt F) → (⟨S2048x64, .f32⟩ : BufTy).Contents (Elt F) → (⟨S2048x64, .f32⟩ : BufTy).Contents (Elt F)),
    StableHlo.unary main_v10 main_v11 (Host.cos : (⟨S2048x64, .f32⟩ : BufTy).Contents (Elt F) → (⟨S2048x64, .f32⟩ : BufTy).Contents (Elt F)),
    StableHlo.unary main_v10 main_v12 (Host.sin : (⟨S2048x64, .f32⟩ : BufTy).Contents (Elt F) → (⟨S2048x64, .f32⟩ : BufTy).Contents (Elt F)),
    StableHlo.binary main_v11 main_v11 main_v13 (catHalves (F := F)),
    StableHlo.unary main_v12 main_v14 (Host.negf : (⟨S2048x64, .f32⟩ : BufTy).Contents (Elt F) → (⟨S2048x64, .f32⟩ : BufTy).Contents (Elt F)),
    StableHlo.binary main_v14 main_v12 main_v15 (catHalves (F := F)),
    StableHlo.nullary main_v16 (sitofp .f32 (iotaInDim S8 32 0)),
    StableHlo.nullary main_cst_2 (constant S_ .f32 0x40000000#32),
    StableHlo.unary main_cst_2 main_v17 (broadcastInDim S8 ![] bcast_S_S8 : (⟨S_, .f32⟩ : BufTy).Contents (Elt F) → (⟨S8, .f32⟩ : BufTy).Contents (Elt F)),
    StableHlo.binary main_v17 main_v16 main_v18 (mulf : (⟨S8, .f32⟩ : BufTy).Contents (Elt F) → (⟨S8, .f32⟩ : BufTy).Contents (Elt F) → (⟨S8, .f32⟩ : BufTy).Contents (Elt F)),
    StableHlo.nullary main_cst_3 (constant S_ .f32 0x00000000#32),
    StableHlo.unary main_cst_3 main_v19 (broadcastInDim S8 ![] bcast_S_S8 : (⟨S_, .f32⟩ : BufTy).Contents (Elt F) → (⟨S8, .f32⟩ : BufTy).Contents (Elt F)),
    StableHlo.binary main_v19 main_v18 main_v20 (addf : (⟨S8, .f32⟩ : BufTy).Contents (Elt F) → (⟨S8, .f32⟩ : BufTy).Contents (Elt F) → (⟨S8, .f32⟩ : BufTy).Contents (Elt F)),
    StableHlo.unary main_v20 main_v21 (Host.negf : (⟨S8, .f32⟩ : BufTy).Contents (Elt F) → (⟨S8, .f32⟩ : BufTy).Contents (Elt F)),
    StableHlo.nullary main_cst_4 (constant S_ .f32 0x41800000#32),
    StableHlo.unary main_cst_4 main_v22 (broadcastInDim S8 ![] bcast_S_S8 : (⟨S_, .f32⟩ : BufTy).Contents (Elt F) → (⟨S8, .f32⟩ : BufTy).Contents (Elt F)),
    StableHlo.binary main_v21 main_v22 main_v23 (Host.divf : (⟨S8, .f32⟩ : BufTy).Contents (Elt F) → (⟨S8, .f32⟩ : BufTy).Contents (Elt F) → (⟨S8, .f32⟩ : BufTy).Contents (Elt F)),
    StableHlo.nullary main_cst_5 (constant S_ .f32 0x48F42400#32),
    StableHlo.unary main_cst_5 main_v24 (broadcastInDim S8 ![] bcast_S_S8 : (⟨S_, .f32⟩ : BufTy).Contents (Elt F) → (⟨S8, .f32⟩ : BufTy).Contents (Elt F)),
    StableHlo.binary main_v24 main_v23 main_v25 (Host.powf : (⟨S8, .f32⟩ : BufTy).Contents (Elt F) → (⟨S8, .f32⟩ : BufTy).Contents (Elt F) → (⟨S8, .f32⟩ : BufTy).Contents (Elt F)),
    StableHlo.unary main_v25 main_v26 (broadcastInDim S1x8 ![1] bcast_S8_S1x8_1 : (⟨S8, .f32⟩ : BufTy).Contents (Elt F) → (⟨S1x8, .f32⟩ : BufTy).Contents (Elt F)),
    StableHlo.unary main_v2 main_v27 (broadcastInDim S2048x8 ![0, 1] bcast_S2048x1_S2048x8_0_1 : (⟨S2048x1, .f32⟩ : BufTy).Contents (Elt F) → (⟨S2048x8, .f32⟩ : BufTy).Contents (Elt F)),
    StableHlo.unary main_v26 main_v28 (broadcastInDim S2048x8 ![0, 1] bcast_S1x8_S2048x8_0_1 : (⟨S1x8, .f32⟩ : BufTy).Contents (Elt F) → (⟨S2048x8, .f32⟩ : BufTy).Contents (Elt F)),
    StableHlo.binary main_v27 main_v28 main_v29 (mulf : (⟨S2048x8, .f32⟩ : BufTy).Contents (Elt F) → (⟨S2048x8, .f32⟩ : BufTy).Contents (Elt F) → (⟨S2048x8, .f32⟩ : BufTy).Contents (Elt F)),
    StableHlo.unary main_v29 main_v30 (Host.cos : (⟨S2048x8, .f32⟩ : BufTy).Contents (Elt F) → (⟨S2048x8, .f32⟩ : BufTy).Contents (Elt F)),
    StableHlo.unary main_v29 main_v31 (Host.sin : (⟨S2048x8, .f32⟩ : BufTy).Contents (Elt F) → (⟨S2048x8, .f32⟩ : BufTy).Contents (Elt F)),
    StableHlo.nullary main_cst_6 (constant S_ .f32 0x3F800000#32),
    StableHlo.unary main_cst_6 main_v32 (broadcastInDim S2048x48 ![] bcast_S_S2048x48 : (⟨S_, .f32⟩ : BufTy).Contents (Elt F) → (⟨S2048x48, .f32⟩ : BufTy).Contents (Elt F)),
    StableHlo.nary ![main_v30, main_v30, main_v32] main_v33 (fun u => catThree (F := F) (u 0) (u 1) (u 2)),
    StableHlo.unary main_v31 main_v34 (Host.negf : (⟨S2048x8, .f32⟩ : BufTy).Contents (Elt F) → (⟨S2048x8, .f32⟩ : BufTy).Contents (Elt F)),
    StableHlo.nullary main_cst_7 (constant S_ .f32 0x00000000#32),
    StableHlo.unary main_cst_7 main_v35 (broadcastInDim S2048x56 ![] bcast_S_S2048x56 : (⟨S_, .f32⟩ : BufTy).Contents (Elt F) → (⟨S2048x56, .f32⟩ : BufTy).Contents (Elt F)),
    StableHlo.binary main_v34 main_v35 main_v36 (catPart (F := F)),
    StableHlo.nullary main_cst_8 (constant S_ .f32 0x00000000#32),
    StableHlo.unary main_cst_8 main_v37 (broadcastInDim S2048x8 ![] bcast_S_S2048x8 : (⟨S_, .f32⟩ : BufTy).Contents (Elt F) → (⟨S2048x8, .f32⟩ : BufTy).Contents (Elt F)),
    StableHlo.nullary main_cst_9 (constant S_ .f32 0x00000000#32),
    StableHlo.unary main_cst_9 main_v38 (broadcastInDim S2048x48 ![] bcast_S_S2048x48 : (⟨S_, .f32⟩ : BufTy).Contents (Elt F) → (⟨S2048x48, .f32⟩ : BufTy).Contents (Elt F)),
    StableHlo.nary ![main_v37, main_v31, main_v38] main_v39 (fun u => catThree (F := F) (u 0) (u 1) (u 2)),
    StableHlo.nullary main_cst_10 (constant S_ .f32 0x00000000#32),
    StableHlo.unary main_cst_10 main_v40 (broadcastInDim S2048x64 ![] bcast_S_S2048x64 : (⟨S_, .f32⟩ : BufTy).Contents (Elt F) → (⟨S2048x64, .f32⟩ : BufTy).Contents (Elt F)),
    StableHlo.nullary main_cst_11 (constant S_ .f32 0x3EB504F3#32),
    StableHlo.unary main_cst_11 main_v41 (broadcastInDim S2048x8 ![] bcast_S_S2048x8 : (⟨S_, .f32⟩ : BufTy).Contents (Elt F) → (⟨S2048x8, .f32⟩ : BufTy).Contents (Elt F)),
    StableHlo.nullary main_cst_12 (constant S_ .f32 0x00000000#32),
    StableHlo.unary main_cst_12 main_v42 (broadcastInDim S2048x56 ![] bcast_S_S2048x56 : (⟨S_, .f32⟩ : BufTy).Contents (Elt F) → (⟨S2048x56, .f32⟩ : BufTy).Contents (Elt F)),
    StableHlo.nary ![main_v33, main_v41, main_v42] main_v43 (fun u => catIndexer (F := F) (u 0) (u 1) (u 2)),
    StableHlo.binary main_v33 main_v33 main_v44 (catHalves (F := F)),
    StableHlo.binary main_v36 main_v36 main_v45 (catHalves (F := F)),
    StableHlo.binary main_v39 main_v39 main_v46 (catHalves (F := F)),
    StableHlo.binary main_v36 main_v40 main_v47 (catHalves (F := F)),
    StableHlo.binary main_v39 main_v40 main_v48 (catHalves (F := F)),
    StableHlo.nary ![main_v13, main_v15, main_v44, main_v45, main_v46, main_v43, main_v47, main_v48] main_v49 (fun u => catTables (F := F) (u 0) (u 1) (u 2) (u 3) (u 4) (u 5) (u 6) (u 7)),
    StableHlo.reshape main_arg0 main_v50 (rfl : (.f32 : EltTy) = .f32) shapeCasts_S16x2048x1024_S32768x1024,
    StableHlo.unary main_arg1 main_v51 ((extractStridedSlice S1024x512 ![0, 0] · slices_S1024x6472_S1024x512_0_0) : (⟨S1024x6472, .f32⟩ : BufTy).Contents (Elt F) → (⟨S1024x512, .f32⟩ : BufTy).Contents (Elt F)),
    StableHlo.unary main_arg1 main_v52 ((extractStridedSlice S1024x512 ![0, 512] · slices_S1024x6472_S1024x512_0_512) : (⟨S1024x6472, .f32⟩ : BufTy).Contents (Elt F) → (⟨S1024x512, .f32⟩ : BufTy).Contents (Elt F)),
    StableHlo.unary main_arg1 main_v53 ((extractStridedSlice S1024x1024 ![0, 1024] · slices_S1024x6472_S1024x1024_0_1024) : (⟨S1024x6472, .f32⟩ : BufTy).Contents (Elt F) → (⟨S1024x1024, .f32⟩ : BufTy).Contents (Elt F)),
    StableHlo.unary main_arg1 main_v54 ((extractStridedSlice S1024x1024 ![0, 2048] · slices_S1024x6472_S1024x1024_0_2048) : (⟨S1024x6472, .f32⟩ : BufTy).Contents (Elt F) → (⟨S1024x1024, .f32⟩ : BufTy).Contents (Elt F)),
    StableHlo.unary main_arg1 main_v55 ((extractStridedSlice S1024x512 ![0, 3072] · slices_S1024x6472_S1024x512_0_3072) : (⟨S1024x6472, .f32⟩ : BufTy).Contents (Elt F) → (⟨S1024x512, .f32⟩ : BufTy).Contents (Elt F)),
    StableHlo.unary main_arg1 main_v56 ((extractStridedSlice S1024x128 ![0, 3584] · slices_S1024x6472_S1024x128_0_3584) : (⟨S1024x6472, .f32⟩ : BufTy).Contents (Elt F) → (⟨S1024x128, .f32⟩ : BufTy).Contents (Elt F)),
    StableHlo.unary main_arg1 main_v57 ((extractStridedSlice S1024x128 ![0, 3712] · slices_S1024x6472_S1024x128_0_3712) : (⟨S1024x6472, .f32⟩ : BufTy).Contents (Elt F) → (⟨S1024x128, .f32⟩ : BufTy).Contents (Elt F)),
    StableHlo.unary main_arg1 main_v58 ((extractStridedSlice S1024x512 ![0, 3840] · slices_S1024x6472_S1024x512_0_3840) : (⟨S1024x6472, .f32⟩ : BufTy).Contents (Elt F) → (⟨S1024x512, .f32⟩ : BufTy).Contents (Elt F)),
    StableHlo.unary main_arg1 main_v59 ((extractStridedSlice S1024x64 ![0, 4352] · slices_S1024x6472_S1024x64_0_4352) : (⟨S1024x6472, .f32⟩ : BufTy).Contents (Elt F) → (⟨S1024x64, .f32⟩ : BufTy).Contents (Elt F)),
    StableHlo.unary main_arg1 main_v60 ((extractStridedSlice S1024x8 ![0, 4416] · slices_S1024x6472_S1024x8_0_4416) : (⟨S1024x6472, .f32⟩ : BufTy).Contents (Elt F) → (⟨S1024x8, .f32⟩ : BufTy).Contents (Elt F)),
    StableHlo.unary main_arg1 main_v61 ((extractStridedSlice S1024x1024 ![0, 4424] · slices_S1024x6472_S1024x1024_0_4424) : (⟨S1024x6472, .f32⟩ : BufTy).Contents (Elt F) → (⟨S1024x1024, .f32⟩ : BufTy).Contents (Elt F)),
    StableHlo.unary main_arg1 main_v62 ((extractStridedSlice S1024x1024 ![0, 5448] · slices_S1024x6472_S1024x1024_0_5448) : (⟨S1024x6472, .f32⟩ : BufTy).Contents (Elt F) → (⟨S1024x1024, .f32⟩ : BufTy).Contents (Elt F)),
    StableHlo.nullary main_cst_13 (constant S_ .f32 0x00000000#32),
    StableHlo.unary main_cst_13 main_v63 (broadcastInDim S1024x56 ![] bcast_S_S1024x56 : (⟨S_, .f32⟩ : BufTy).Contents (Elt F) → (⟨S1024x56, .f32⟩ : BufTy).Contents (Elt F)),
    StableHlo.nary ![main_v51, main_v52, main_v53, main_v54, main_v55, main_v56, main_v57, main_v58, main_v59, main_v60, main_v63, main_v61, main_v62] main_v64 (fun u => catWeights (F := F) (u 0) (u 1) (u 2) (u 3) (u 4) (u 5) (u 6) (u 7) (u 8) (u 9) (u 10) (u 11) (u 12)),
    StableHlo.unary main_v64 main_v65 ((truncf .bf16 · bitsLt_bf16_f32) : (⟨S1024x6528, .f32⟩ : BufTy).Contents (Elt F) → (⟨S1024x6528, .bf16⟩ : BufTy).Contents (Elt F)) ]

set_option maxHeartbeats 4000000 in
theorem hostOps_eq : (hostOps0_2 : List (HloOp τ sig (Elt F))) = hostOps := rfl

/-! ## The three arrays -/

/-- The packed weights: the columns of `w` in order, 56 columns of zeros after the indexer's weights. -/
def packed (w : FVec F S1024x6472 .f32) : FVec F S1024x6528 .bf16 :=
  truncf .bf16 (catWeights
    (extractStridedSlice S1024x512 ![0, 0] w slices_S1024x6472_S1024x512_0_0)
    (extractStridedSlice S1024x512 ![0, 512] w slices_S1024x6472_S1024x512_0_512)
    (extractStridedSlice S1024x1024 ![0, 1024] w slices_S1024x6472_S1024x1024_0_1024)
    (extractStridedSlice S1024x1024 ![0, 2048] w slices_S1024x6472_S1024x1024_0_2048)
    (extractStridedSlice S1024x512 ![0, 3072] w slices_S1024x6472_S1024x512_0_3072)
    (extractStridedSlice S1024x128 ![0, 3584] w slices_S1024x6472_S1024x128_0_3584)
    (extractStridedSlice S1024x128 ![0, 3712] w slices_S1024x6472_S1024x128_0_3712)
    (extractStridedSlice S1024x512 ![0, 3840] w slices_S1024x6472_S1024x512_0_3840)
    (extractStridedSlice S1024x64 ![0, 4352] w slices_S1024x6472_S1024x64_0_4352)
    (extractStridedSlice S1024x8 ![0, 4416] w slices_S1024x6472_S1024x8_0_4416)
    (broadcastInDim S1024x56 ![] bcast_S_S1024x56 (constant S_ .f32 0x00000000#32))
    (extractStridedSlice S1024x1024 ![0, 4424] w slices_S1024x6472_S1024x1024_0_4424)
    (extractStridedSlice S1024x1024 ![0, 5448] w slices_S1024x6472_S1024x1024_0_5448)) bitsLt_bf16_f32

/-- The positions 0 … 2047. -/
def posCol : FVec F S2048x1 .f32 := broadcastInDim S2048x1 ![0] bcast_S2048_S2048x1_0 (sitofp .f32 (iotaInDim S2048 32 0))

def zeroS : FVec F S_ .f32 := constant S_ .f32 0x00000000#32
def oneS : FVec F S_ .f32 := constant S_ .f32 0x3F800000#32

/-- `i / 63`, for the 63 entries before the last. -/
def steps63 : FVec F S63 .f32 :=
  Host.divf (sitofp .f32 (iotaInDim S63 32 0)) (broadcastInDim S63 ![] bcast_S_S63 (constant S_ .f32 0x427C0000#32))

/-- 64 equal steps from 0 to 1. -/
def lin64 : FVec F S64 .f32 :=
  concatenate S64 0 [⟨S63, addf
      (mulf (broadcastInDim S63 ![0] bcast_S1_S63_0 (shapeCast _ (zeroS (F := F)) shapeCasts_S_S1))
        (subf (broadcastInDim S63 ![] bcast_S_S63 (constant S_ .f32 0x3F800000#32)) steps63))
      (mulf (broadcastInDim S63 ![0] bcast_S1_S63_0 (shapeCast _ (oneS (F := F)) shapeCasts_S_S1)) steps63)⟩,
    ⟨S1, broadcastInDim S1 ![] bcast_S_S1 (oneS (F := F))⟩] concatenates_S63_S1_S64_d0

/-- The retention's angles: position times inverse frequency. -/
def angR : FVec F S2048x64 .f32 :=
  mulf (broadcastInDim S2048x64 ![0, 1] bcast_S2048x1_S2048x64_0_1 posCol)
    (broadcastInDim S2048x64 ![0, 1] bcast_S1x64_S2048x64_0_1 (broadcastInDim S1x64 ![1] bcast_S64_S1x64_1
      (Host.powf (broadcastInDim S64 ![] bcast_S_S64 (constant S_ .f32 0x461C4000#32)) (Host.negf lin64))))

/-- The attention's and the indexer's angles. -/
def angP : FVec F S2048x8 .f32 :=
  mulf (broadcastInDim S2048x8 ![0, 1] bcast_S2048x1_S2048x8_0_1 posCol)
    (broadcastInDim S2048x8 ![0, 1] bcast_S1x8_S2048x8_0_1 (broadcastInDim S1x8 ![1] bcast_S8_S1x8_1
      (Host.powf (broadcastInDim S8 ![] bcast_S_S8 (constant S_ .f32 0x48F42400#32))
        (Host.divf (Host.negf (addf (broadcastInDim S8 ![] bcast_S_S8 (constant S_ .f32 0x00000000#32))
            (mulf (broadcastInDim S8 ![] bcast_S_S8 (constant S_ .f32 0x40000000#32)) (sitofp .f32 (iotaInDim S8 32 0)))))
          (broadcastInDim S8 ![] bcast_S_S8 (constant S_ .f32 0x41800000#32))))))

/-- The multipliers of a head's own column: cosines for its first 16 columns, ones for the rest. -/
def tabC : FVec F S2048x64 .f32 :=
  catThree (Host.cos angP) (Host.cos angP) (broadcastInDim S2048x48 ![] bcast_S_S2048x48 (constant S_ .f32 0x3F800000#32))

/-- The multipliers of the column 8 to the right: minus the sines for a head's first 8 columns, 0 for the rest. -/
def tabM : FVec F S2048x64 .f32 :=
  catPart (Host.negf (Host.sin angP)) (broadcastInDim S2048x56 ![] bcast_S_S2048x56 (constant S_ .f32 0x00000000#32))

/-- The multipliers of the column 8 to the left: the sines for a head's second 8 columns, 0 for the rest. -/
def tabS : FVec F S2048x64 .f32 :=
  catThree (broadcastInDim S2048x8 ![] bcast_S_S2048x8 (constant S_ .f32 0x00000000#32)) (Host.sin angP)
    (broadcastInDim S2048x48 ![] bcast_S_S2048x48 (constant S_ .f32 0x00000000#32))

def zero64 : FVec F S2048x64 .f32 := broadcastInDim S2048x64 ![] bcast_S_S2048x64 (constant S_ .f32 0x00000000#32)

/-- The rotation tables, eight groups of 128 columns. -/
def tables : FVec F S2048x1024 .f32 :=
  catTables (catHalves (Host.cos angR) (Host.cos angR)) (catHalves (Host.negf (Host.sin angR)) (Host.sin angR))
    (catHalves tabC tabC) (catHalves tabM tabM) (catHalves tabS tabS)
    (catIndexer tabC (broadcastInDim S2048x8 ![] bcast_S_S2048x8 (constant S_ .f32 0x3EB504F3#32))
      (broadcastInDim S2048x56 ![] bcast_S_S2048x56 (constant S_ .f32 0x00000000#32)))
    (catHalves tabM zero64) (catHalves tabS zero64)

variable (m : (ℓ : Loc nD τ sig) → Buf (Elt F) ℓ)

/-- The rows the projection reads: the prompt with its two leading axes merged. -/
theorem V_rows (c : Dev nD) : V m c main_v50 = shapeCast S32768x1024 (m ((c : Thread nD τ).loc main_arg0)) shapeCasts_S16x2048x1024_S32768x1024 := by
  show StableHlo.after (hostOps0 ++ (hostOps0_1 ++ hostOps0_2)) (fun b => m (c, b)) main_v50 = _
  rw [hostOps_eq]
  simp only [hostOps0, hostOps0_1, hostOps, List.cons_append, List.nil_append, TRef.binary, TRef.nullary, TRef.reshape, TRef.unary, TRef.toBuf, TRef.ofBuf, cast_eq]
  after_results_simp
  all_goals rfl

set_option maxRecDepth 16384 in
set_option maxHeartbeats 4000000 in
/-- The packed weights it reads. -/
theorem V_weights (c : Dev nD) : V m c main_v65 = packed (m ((c : Thread nD τ).loc main_arg1)) := by
  show StableHlo.after (hostOps0 ++ (hostOps0_1 ++ hostOps0_2)) (fun b => m (c, b)) main_v65 = _
  rw [hostOps_eq]
  simp only [hostOps0, hostOps0_1, hostOps, List.cons_append, List.nil_append, TRef.binary, TRef.nullary, TRef.reshape, TRef.unary, TRef.toBuf, TRef.ofBuf, cast_eq]
  after_results_simp
  dsimp only [Matrix.cons_val]
  after_results_simp
  all_goals rfl

set_option maxRecDepth 16384 in
set_option maxHeartbeats 4000000 in
/-- The tables it reads. -/
theorem V_tables (c : Dev nD) : V m c main_v49 = tables := by
  show StableHlo.after (hostOps0 ++ (hostOps0_1 ++ hostOps0_2)) (fun b => m (c, b)) main_v49 = _
  rw [hostOps_eq]
  simp only [hostOps0, hostOps0_1, hostOps, List.cons_append, List.nil_append, TRef.binary, TRef.nullary, TRef.reshape, TRef.unary, TRef.toBuf, TRef.ofBuf, cast_eq]
  after_results_simp
  dsimp only [Matrix.cons_val]
  after_results_simp
  dsimp only [Matrix.cons_val]
  after_results_simp
  dsimp only [Matrix.cons_val]
  after_results_simp
  all_goals rfl

end Cert.Proof.Project

end
-- ==== Proof.Proj.Reads.lean ====
/-
  Reading a two-axis array of extended reals at natural coordinates, so that two reads are the same once their
  coordinates are equal numbers, and the sums of products that a matrix product is made of.
-/
module

public import Idealize.ShloMosaic.Lib.Pointwise

@[expose] public section

noncomputable section

namespace Cert.Proof.Project

open Idealize.ShloMosaic

/-- Entry `(p, a)` of an array, 0 outside it. -/
def rd2 {M N : ℕ} (A : (⟨2, ![M, N]⟩ : Shape).Idx → EReal) (p a : ℕ) : EReal :=
  if h : p < M ∧ a < N then A (ix2 ⟨p, h.1⟩ ⟨a, h.2⟩) else 0

theorem rd2_ix {M N : ℕ} (A : (⟨2, ![M, N]⟩ : Shape).Idx → EReal) (i : Fin M) (j : Fin N) :
    A (ix2 i j) = rd2 A i j := by
  unfold rd2
  rw [dif_pos ⟨i.isLt, j.isLt⟩]

/-- Entry `(b, p, a)` of a three-axis array, 0 outside it. -/
def rd3 {B M N : ℕ} (A : (⟨3, ![B, M, N]⟩ : Shape).Idx → EReal) (b p a : ℕ) : EReal :=
  if h : b < B ∧ p < M ∧ a < N then A (ix3 ⟨b, h.1⟩ ⟨p, h.2.1⟩ ⟨a, h.2.2⟩) else 0

theorem rd3_ix {B M N : ℕ} (A : (⟨3, ![B, M, N]⟩ : Shape).Idx → EReal) (b : Fin B) (i : Fin M) (j : Fin N) :
    A (ix3 b i j) = rd3 A b i j := by
  unfold rd3
  rw [dif_pos ⟨b.isLt, i.isLt, j.isLt⟩]

/-- Entry `(r, j)` of the product of an array of 1024 columns with an array of 1024 rows. -/
def dot2 {M N : ℕ} (A : (⟨2, ![M, 1024]⟩ : Shape).Idx → EReal) (B : (⟨2, ![1024, N]⟩ : Shape).Idx → EReal)
    (r j : ℕ) : EReal :=
  ∑ k : Fin 1024, rd2 A r k * rd2 B k j

end Cert.Proof.Project

end
-- ==== Proof.Proj.Tables.lean ====
/-
  The packed weights and the rotation tables, entry by entry: a column of the packed weights is a column of the weights
  or zero, a column of the tables a cosine, a sine, its negative, a constant or zero.
-/
module

public import proofs.«01_k».proof.Proof.Proj.Host
public import proofs.«01_k».proof.Proof.Proj.Reads

@[expose] public section

set_option maxRecDepth 16384

noncomputable section

namespace Cert.Proof.Project

open Cert.Kernel2Ideal Cert.Kernel2Ideal.Gen
open Idealize.ShloMosaic

/-- A read at an index whose coordinates are given by proofs is a read at the numbers. -/
theorem rd2_mk {M N : ℕ} (A : (⟨2, ![M, N]⟩ : Shape).Idx → EReal) (i : Fin M) (j : ℕ) (h : j < N) :
    A (ix2 i ⟨j, h⟩) = rd2 A i j := rd2_ix A i ⟨j, h⟩

theorem dite_to {p : Prop} [Decidable p] {a : p → EReal} {b : ¬p → EReal} {z : EReal} (h1 : ∀ h, a h = z)
    (h2 : ∀ h, b h = z) : dite p a b = z := by
  by_cases h : p
  · rw [dif_pos h]; exact h1 h
  · rw [dif_neg h]; exact h2 h

theorem ite_to {p : Prop} [Decidable p] {a b z : EReal} (h1 : p → a = z) (h2 : ¬p → b = z) : ite p a b = z := by
  by_cases h : p
  · rw [if_pos h]; exact h1 h
  · rw [if_neg h]; exact h2 h

/-- Column `j` of the packed weights at row `k`. -/
def packAt (w : (⟨2, ![1024, 6472]⟩ : Shape).Idx → EReal) (k j : ℕ) : EReal :=
  if j < 4424 then rd2 w k j else if j < 4480 then 0 else rd2 w k (j - 56)

theorem packAt_lo (w : (⟨2, ![1024, 6472]⟩ : Shape).Idx → EReal) (k j i : ℕ) (h : j < 4424) (e : i = j) :
    rd2 w k i = packAt w k j := by
  unfold packAt
  rw [if_pos h, e]

theorem packAt_mid (w : (⟨2, ![1024, 6472]⟩ : Shape).Idx → EReal) (k j : ℕ) (h : 4424 ≤ j) (h' : j < 4480) :
    0 = packAt w k j := by
  unfold packAt
  rw [if_neg (by omega), if_pos h']

theorem packAt_hi (w : (⟨2, ![1024, 6472]⟩ : Shape).Idx → EReal) (k j i : ℕ) (h : 4480 ≤ j) (e : i = j - 56) :
    rd2 w k i = packAt w k j := by
  unfold packAt
  rw [if_neg (by omega), if_neg (by omega), e]

set_option maxHeartbeats 2000000 in
theorem packed_ix (w : FVec Ideal S1024x6472 .f32) (k : Fin 1024) (j : Fin 6528) :
    packed w (ix2 k j) = packAt w k j := by
  pointwise [packed, catWeights]
  simp only [rd2_ix]
  repeat' first | with_reducible refine dite_to (fun _ => ?_) (fun _ => ?_) | with_reducible refine ite_to (fun _ => ?_) (fun _ => ?_)
  all_goals first
    | exact packAt_mid _ _ _ (by omega) (by omega)
    | exact packAt_lo _ _ _ _ (by omega) (by first | omega | (dsimp only; omega) | dsimp only)
    | exact packAt_hi _ _ _ _ (by omega) (by first | omega | (dsimp only; omega) | dsimp only)

/-- The cosines and the sines of the retention's angles, and of the attention's and the indexer's. -/
def cosR (p a : ℕ) : EReal := rd2 (Host.cos (angR (F := Ideal))) p a
def sinR (p a : ℕ) : EReal := rd2 (Host.sin (angR (F := Ideal))) p a
def cosP (p a : ℕ) : EReal := rd2 (Host.cos (angP (F := Ideal))) p a
def sinP (p a : ℕ) : EReal := rd2 (Host.sin (angP (F := Ideal))) p a

/-- `tabC`, `tabM` and `tabS` at row `p`, column `a`. -/
def tC (p a : ℕ) : EReal := if a < 8 then cosP p a else if a < 16 then cosP p (a - 8) else 1
def tM (p a : ℕ) : EReal := if a < 8 then -sinP p a else 0
def tS (p a : ℕ) : EReal := if a < 8 then 0 else if a < 16 then sinP p (a - 8) else 0

theorem cosR_ix (p : Fin 2048) (a : ℕ) (h : a < 64) : Ideal.cos (angR (F := Ideal) (ix2 p ⟨a, h⟩)) = cosR p a :=
  rd2_mk (Host.cos (angR (F := Ideal))) p a h
theorem sinR_ix (p : Fin 2048) (a : ℕ) (h : a < 64) : Ideal.sin (angR (F := Ideal) (ix2 p ⟨a, h⟩)) = sinR p a :=
  rd2_mk (Host.sin (angR (F := Ideal))) p a h
theorem cosP_ix (p : Fin 2048) (a : ℕ) (h : a < 8) : Ideal.cos (angP (F := Ideal) (ix2 p ⟨a, h⟩)) = cosP p a :=
  rd2_mk (Host.cos (angP (F := Ideal))) p a h
theorem sinP_ix (p : Fin 2048) (a : ℕ) (h : a < 8) : Ideal.sin (angP (F := Ideal) (ix2 p ⟨a, h⟩)) = sinP p a :=
  rd2_mk (Host.sin (angP (F := Ideal))) p a h

theorem tabC_ix (p : Fin 2048) (a : Fin 64) : tabC (F := Ideal) (ix2 p a) = tC p a := by
  unfold tC
  pointwise [tabC, catThree]
  simp only [cosP_ix]
  split_ifs <;> first | (exfalso; omega) | rfl

theorem tabM_ix (p : Fin 2048) (a : Fin 64) : tabM (F := Ideal) (ix2 p a) = tM p a := by
  unfold tM
  pointwise [tabM, catPart]
  simp only [sinP_ix]
  split_ifs <;> first | (exfalso; omega) | rfl

theorem tabS_ix (p : Fin 2048) (a : Fin 64) : tabS (F := Ideal) (ix2 p a) = tS p a := by
  unfold tS
  pointwise [tabS, catThree]
  simp only [sinP_ix]
  split_ifs <;> first | (exfalso; omega) | rfl

/-- The constant the indexer's weights are scaled by. -/
def iScale : EReal := Ideal.ofBits .f32 0x3EB504F3#32

/-- The tables at row `p`, group by group. -/
def tabAt (p a : ℕ) : EReal :=
  if a < 128 then cosR p (a % 64)
  else if a < 256 then (if a % 128 < 64 then -sinR p (a % 64) else sinR p (a % 64))
  else if a < 384 then tC p (a % 64)
  else if a < 512 then tM p (a % 64)
  else if a < 640 then tS p (a % 64)
  else if a < 768 then (if a % 128 < 64 then tC p (a % 64) else if a % 128 < 72 then iScale else 0)
  else if a < 896 then (if a % 128 < 64 then tM p (a % 64) else 0)
  else (if a % 128 < 64 then tS p (a % 64) else 0)

set_option maxHeartbeats 2000000 in
theorem tables_ix (p : Fin 2048) (a : Fin 1024) : tables (F := Ideal) (ix2 p a) = tabAt p a := by
  unfold tabAt
  pointwise [tables, catTables, catHalves, catIndexer, zero64]
  simp only [cosR_ix, sinR_ix, tabC_ix, tabM_ix, tabS_ix]
  split_ifs <;> first | (exfalso; omega) | rfl | (congr 1; omega) | (congr 2; omega)

end Cert.Proof.Project

end
-- ==== Proof.Proj.Body.lean ====
/-
  What one grid point of the projection leaves in each output block, entry by entry: entry `(r, c)` of a block is the
  product of row `r` of the point's block of rows with a packed weight column, or a rotation of such products by entries
  of the point's block of the rotation tables.
-/
module

public import proofs.«01_k».proof.Proof.Gen.Kernel2Ideal.Frame
public import proofs.«01_k».proof.Proof.Proj.Reads
public import Idealize.ShloMosaic.Lib.Pipeline.Value

@[expose] public section

set_option maxRecDepth 16384

noncomputable section

namespace Cert.Proof.Project

open Cert.Kernel2Ideal Cert.Kernel2Ideal.Gen
open Idealize.ShloMosaic

/-! ## The two rotations, over any rows, packed weights and tables -/

section Forms

variable {R C T : ℕ} (A : (⟨2, ![R, 1024]⟩ : Shape).Idx → EReal) (B : (⟨2, ![1024, C]⟩ : Shape).Idx → EReal)
  (t : (⟨2, ![R, T]⟩ : Shape).Idx → EReal)

/-- A group of 128 columns from `off` on, rotated by half of it: the column times its table entry plus the column 64
    lanes away times its entry of the next table. -/
def fullK (off r c : ℕ) : EReal :=
  dot2 A B r (off + c) * rd2 t r (c % 128)
    + dot2 A B r (off + c / 128 * 128 + (c % 128 + 64) % 128) * rd2 t r (128 + c % 128)

/-- A group of 128 columns rotated by 8 lanes both ways, against three tables from column `tb` on. -/
def partK (off tb r c : ℕ) : EReal :=
  dot2 A B r (off + c) * rd2 t r (tb + c % 128)
    + dot2 A B r (off + c / 128 * 128 + (c % 128 + 8) % 128) * rd2 t r (tb + 128 + c % 128)
    + dot2 A B r (off + c / 128 * 128 + (c % 128 + 120) % 128) * rd2 t r (tb + 256 + c % 128)

theorem full_close (off o a b j1 j2 u v : ℕ) (ho : o % 128 = 0) (hb : b < 128) (h1 : j1 = off + o + b)
    (h2 : j2 = off + o + (b + 64) % 128) (hu : u = b) (hv : v = 128 + b)
    (cc : ℕ) (hc : cc = o + b) :
    (∑ k : Fin 1024, rd2 A a k * rd2 B k j1) * rd2 t a u + (∑ k : Fin 1024, rd2 A a k * rd2 B k j2) * rd2 t a v
      = fullK A B t off a cc := by
  subst hc
  unfold fullK dot2
  have e1 : off + (o + b) = j1 := by omega
  have e2 : (o + b) % 128 = b := by omega
  have e3 : off + (o + b) / 128 * 128 + (b + 64) % 128 = j2 := by omega
  rw [e1, e2, e3, hu, hv]

theorem part_close (off tb o a b j1 j2 j3 u v w : ℕ) (ho : o % 128 = 0) (hb : b < 128) (h1 : j1 = off + o + b)
    (h2 : j2 = off + o + (b + 8) % 128) (h3 : j3 = off + o + (b + 120) % 128) (hu : u = tb + b)
    (hv : v = tb + 128 + b) (hw : w = tb + 256 + b)
    (cc : ℕ) (hc : cc = o + b) :
    (∑ k : Fin 1024, rd2 A a k * rd2 B k j1) * rd2 t a u + (∑ k : Fin 1024, rd2 A a k * rd2 B k j2) * rd2 t a v
        + (∑ k : Fin 1024, rd2 A a k * rd2 B k j3) * rd2 t a w
      = partK A B t off tb a cc := by
  subst hc
  unfold partK dot2
  have e1 : off + (o + b) = j1 := by omega
  have e2 : (o + b) % 128 = b := by omega
  have e3 : off + (o + b) / 128 * 128 + (b + 8) % 128 = j2 := by omega
  have e4 : off + (o + b) / 128 * 128 + (b + 120) % 128 = j3 := by omega
  rw [e1, e2, e3, e4, hu, hv, hw]

theorem dot_close (a j j' : ℕ) (h : j = j') : (∑ k : Fin 1024, rd2 A a k * rd2 B k j) = dot2 A B a j' := by
  subst h
  rfl

end Forms

/-- A function of two coordinates at an index under a store's rectangle of all 512 rows and the columns from `o` on. -/
theorem at_piece {N W o : ℕ} (inb : ∀ a, (![0, o] : Fin 2 → ℕ) a + (![512, W] : Fin 2 → ℕ) a ≤ (⟨2, ![512, N]⟩ : Shape).size a)
    (G : ℕ → ℕ → EReal) (a : Fin 512) (b : Fin W) :
    G ((Rect.unit (s := ⟨2, ![512, N]⟩) ![0, o] ![512, W] inb).emb (ix2 a b) 0).val
      ((Rect.unit (s := ⟨2, ![512, N]⟩) ![0, o] ![512, W] inb).emb (ix2 a b) 1).val = G a (o + b) := by
  have h0 : ((Rect.unit (s := ⟨2, ![512, N]⟩) ![0, o] ![512, W] inb).emb (ix2 a b) 0).val = a.val := by
    show 0 + 1 * a.val = a.val
    omega
  have h1 : ((Rect.unit (s := ⟨2, ![512, N]⟩) ![0, o] ![512, W] inb).emb (ix2 a b) 1).val = o + b.val := by
    show o + 1 * b.val = o + b.val
    omega
  rw [h0, h1]

/-! ## The blocks -/

variable (bx : Vec Ideal S512x1024 .f32) (bw : Vec Ideal S1024x6528 .bf16) (bt : Vec Ideal S512x1024 .f32)

/-- The block of retention queries. -/
theorem out3_ix (r : Fin 512) (c : Fin 512) :
    out0_3 (F := Ideal) bx bw bt (ix2 r c) = fullK bx bw bt 0 r c := by
  unfold_out out0_3
  refine (View.canon_apply_of_pieces (Val := Elt Ideal) (fun y : S512x512.Idx => fullK bx bw bt 0 (y 0).val (y 1).val)
    _ ?_ _ (cover0_3 _ _ _ _ _)).trans rfl
  simp only [List.forall_mem_cons, List.not_mem_nil, false_imp_iff, implies_true, and_true]
  refine ⟨?_, ?_, ?_, ?_⟩
  · intro x
    obtain ⟨a, b, rfl⟩ : ∃ (a : Fin 512) (b : Fin 128), x = ix2 a b := ⟨x 0, x 1, eq_ix2 x⟩
    refine Eq.trans ?_ (at_piece (N := 512) (W := 128) (o := 384) (by decide) (fun r c => fullK bx bw bt 0 r c) a b).symm
    pointwise [k0_pay11, k0_pay6, k0_pay4]
    simp only [rd2_ix bx, rd2_ix bw, rd2_ix bt]
    refine full_close bx bw bt 0 384 a b _ _ _ _ rfl b.isLt ?_ ?_ ?_ ?_ _ ?_ <;> omega
  · intro x
    obtain ⟨a, b, rfl⟩ : ∃ (a : Fin 512) (b : Fin 128), x = ix2 a b := ⟨x 0, x 1, eq_ix2 x⟩
    refine Eq.trans ?_ (at_piece (N := 512) (W := 128) (o := 256) (by decide) (fun r c => fullK bx bw bt 0 r c) a b).symm
    pointwise [k0_pay10, k0_pay9, k0_pay6, k0_pay4]
    simp only [rd2_ix bx, rd2_ix bw, rd2_ix bt]
    refine full_close bx bw bt 0 256 a b _ _ _ _ rfl b.isLt ?_ ?_ ?_ ?_ _ ?_ <;> omega
  · intro x
    obtain ⟨a, b, rfl⟩ : ∃ (a : Fin 512) (b : Fin 128), x = ix2 a b := ⟨x 0, x 1, eq_ix2 x⟩
    refine Eq.trans ?_ (at_piece (N := 512) (W := 128) (o := 128) (by decide) (fun r c => fullK bx bw bt 0 r c) a b).symm
    pointwise [k0_pay8, k0_pay6, k0_pay4]
    simp only [rd2_ix bx, rd2_ix bw, rd2_ix bt]
    refine full_close bx bw bt 0 128 a b _ _ _ _ rfl b.isLt ?_ ?_ ?_ ?_ _ ?_ <;> omega
  · intro x
    obtain ⟨a, b, rfl⟩ : ∃ (a : Fin 512) (b : Fin 128), x = ix2 a b := ⟨x 0, x 1, eq_ix2 x⟩
    refine Eq.trans ?_ (at_piece (N := 512) (W := 128) (o := 0) (by decide) (fun r c => fullK bx bw bt 0 r c) a b).symm
    pointwise [k0_pay7, k0_pay6, k0_pay4]
    simp only [rd2_ix bx, rd2_ix bw, rd2_ix bt]
    refine full_close bx bw bt 0 0 a b _ _ _ _ rfl b.isLt ?_ ?_ ?_ ?_ _ ?_ <;> omega

/-- The block of retention keys. -/
theorem out4_ix (r : Fin 512) (c : Fin 512) :
    out0_4 (F := Ideal) bx bw bt (ix2 r c) = fullK bx bw bt 512 r c * Ideal.ofBits .f32 0x3DB504F3#32 := by
  unfold_out out0_4
  refine (View.canon_apply_of_pieces (Val := Elt Ideal) (fun y : S512x512.Idx => fullK bx bw bt 512 (y 0).val (y 1).val * Ideal.ofBits .f32 0x3DB504F3#32)
    _ ?_ _ (cover0_4 _ _ _ _ _)).trans rfl
  simp only [List.forall_mem_cons, List.not_mem_nil, false_imp_iff, implies_true, and_true]
  refine ⟨?_, ?_, ?_, ?_⟩
  · intro x
    obtain ⟨a, b, rfl⟩ : ∃ (a : Fin 512) (b : Fin 128), x = ix2 a b := ⟨x 0, x 1, eq_ix2 x⟩
    refine Eq.trans ?_ (at_piece (N := 512) (W := 128) (o := 384) (by decide) (fun r c => fullK bx bw bt 512 r c * Ideal.ofBits .f32 0x3DB504F3#32) a b).symm
    pointwise [k0_pay17, k0_pay16, k0_pay12, k0_pay4]
    simp only [rd2_ix bx, rd2_ix bw, rd2_ix bt]
    refine congrArg (· * _) (full_close bx bw bt 512 384 a b _ _ _ _ rfl b.isLt ?_ ?_ ?_ ?_ _ ?_) <;> omega
  · intro x
    obtain ⟨a, b, rfl⟩ : ∃ (a : Fin 512) (b : Fin 128), x = ix2 a b := ⟨x 0, x 1, eq_ix2 x⟩
    refine Eq.trans ?_ (at_piece (N := 512) (W := 128) (o := 256) (by decide) (fun r c => fullK bx bw bt 512 r c * Ideal.ofBits .f32 0x3DB504F3#32) a b).symm
    pointwise [k0_pay15, k0_pay12, k0_pay4]
    simp only [rd2_ix bx, rd2_ix bw, rd2_ix bt]
    refine congrArg (· * _) (full_close bx bw bt 512 256 a b _ _ _ _ rfl b.isLt ?_ ?_ ?_ ?_ _ ?_) <;> omega
  · intro x
    obtain ⟨a, b, rfl⟩ : ∃ (a : Fin 512) (b : Fin 128), x = ix2 a b := ⟨x 0, x 1, eq_ix2 x⟩
    refine Eq.trans ?_ (at_piece (N := 512) (W := 128) (o := 128) (by decide) (fun r c => fullK bx bw bt 512 r c * Ideal.ofBits .f32 0x3DB504F3#32) a b).symm
    pointwise [k0_pay14, k0_pay12, k0_pay4]
    simp only [rd2_ix bx, rd2_ix bw, rd2_ix bt]
    refine congrArg (· * _) (full_close bx bw bt 512 128 a b _ _ _ _ rfl b.isLt ?_ ?_ ?_ ?_ _ ?_) <;> omega
  · intro x
    obtain ⟨a, b, rfl⟩ : ∃ (a : Fin 512) (b : Fin 128), x = ix2 a b := ⟨x 0, x 1, eq_ix2 x⟩
    refine Eq.trans ?_ (at_piece (N := 512) (W := 128) (o := 0) (by decide) (fun r c => fullK bx bw bt 512 r c * Ideal.ofBits .f32 0x3DB504F3#32) a b).symm
    pointwise [k0_pay13, k0_pay12, k0_pay4]
    simp only [rd2_ix bx, rd2_ix bw, rd2_ix bt]
    refine congrArg (· * _) (full_close bx bw bt 512 0 a b _ _ _ _ rfl b.isLt ?_ ?_ ?_ ?_ _ ?_) <;> omega

/-- The block of retention values. -/
theorem out5_ix (r : Fin 512) (c : Fin 1024) :
    out0_5 (F := Ideal) bx bw bt (ix2 r c) = dot2 bx bw r (1024 + c) := by
  unfold_out out0_5
  refine (View.canon_apply_of_pieces (Val := Elt Ideal) (fun y : S512x1024.Idx => dot2 bx bw (y 0).val (1024 + (y 1).val))
    _ ?_ _ (cover0_5 _ _ _)).trans rfl
  simp only [List.forall_mem_cons, List.not_mem_nil, false_imp_iff, implies_true, and_true]
  refine ⟨?_, ?_⟩
  · intro x
    obtain ⟨a, b, rfl⟩ : ∃ (a : Fin 512) (b : Fin 512), x = ix2 a b := ⟨x 0, x 1, eq_ix2 x⟩
    refine Eq.trans ?_ (at_piece (N := 1024) (W := 512) (o := 512) (by decide) (fun r c => dot2 bx bw r (1024 + c)) a b).symm
    pointwise [k0_pay19, k0_pay4]
    simp only [rd2_ix bx, rd2_ix bw, rd2_ix bt]
    refine dot_close bx bw _ _ _ ?_
    omega
  · intro x
    obtain ⟨a, b, rfl⟩ : ∃ (a : Fin 512) (b : Fin 512), x = ix2 a b := ⟨x 0, x 1, eq_ix2 x⟩
    refine Eq.trans ?_ (at_piece (N := 1024) (W := 512) (o := 0) (by decide) (fun r c => dot2 bx bw r (1024 + c)) a b).symm
    pointwise [k0_pay18, k0_pay4]
    simp only [rd2_ix bx, rd2_ix bw, rd2_ix bt]
    refine dot_close bx bw _ _ _ ?_
    omega

/-- The block of retention gates. -/
theorem out6_ix (r : Fin 512) (c : Fin 1024) :
    out0_6 (F := Ideal) bx bw bt (ix2 r c) = dot2 bx bw r (2048 + c) := by
  unfold_out out0_6
  refine (View.canon_apply_of_pieces (Val := Elt Ideal) (fun y : S512x1024.Idx => dot2 bx bw (y 0).val (2048 + (y 1).val))
    _ ?_ _ (cover0_6 _ _ _)).trans rfl
  simp only [List.forall_mem_cons, List.not_mem_nil, false_imp_iff, implies_true, and_true]
  refine ⟨?_, ?_⟩
  · intro x
    obtain ⟨a, b, rfl⟩ : ∃ (a : Fin 512) (b : Fin 512), x = ix2 a b := ⟨x 0, x 1, eq_ix2 x⟩
    refine Eq.trans ?_ (at_piece (N := 1024) (W := 512) (o := 512) (by decide) (fun r c => dot2 bx bw r (2048 + c)) a b).symm
    pointwise [k0_pay21, k0_pay4]
    simp only [rd2_ix bx, rd2_ix bw, rd2_ix bt]
    refine dot_close bx bw _ _ _ ?_
    omega
  · intro x
    obtain ⟨a, b, rfl⟩ : ∃ (a : Fin 512) (b : Fin 512), x = ix2 a b := ⟨x 0, x 1, eq_ix2 x⟩
    refine Eq.trans ?_ (at_piece (N := 1024) (W := 512) (o := 0) (by decide) (fun r c => dot2 bx bw r (2048 + c)) a b).symm
    pointwise [k0_pay20, k0_pay4]
    simp only [rd2_ix bx, rd2_ix bw, rd2_ix bt]
    refine dot_close bx bw _ _ _ ?_
    omega

/-- The block of attention queries. -/
theorem out7_ix (r : Fin 512) (c : Fin 512) :
    out0_7 (F := Ideal) bx bw bt (ix2 r c) = partK bx bw bt 3072 256 r c := by
  unfold_out out0_7
  refine (View.canon_apply_of_pieces (Val := Elt Ideal) (fun y : S512x512.Idx => partK bx bw bt 3072 256 (y 0).val (y 1).val)
    _ ?_ _ (cover0_7 _ _ _ _ _)).trans rfl
  simp only [List.forall_mem_cons, List.not_mem_nil, false_imp_iff, implies_true, and_true]
  refine ⟨?_, ?_, ?_, ?_⟩
  · intro x
    obtain ⟨a, b, rfl⟩ : ∃ (a : Fin 512) (b : Fin 128), x = ix2 a b := ⟨x 0, x 1, eq_ix2 x⟩
    refine Eq.trans ?_ (at_piece (N := 512) (W := 128) (o := 384) (by decide) (fun r c => partK bx bw bt 3072 256 r c) a b).symm
    pointwise [k0_pay30, k0_pay22, k0_pay4]
    simp only [rd2_ix bx, rd2_ix bw, rd2_ix bt]
    refine part_close bx bw bt 3072 256 384 a b _ _ _ _ _ _ rfl b.isLt ?_ ?_ ?_ ?_ ?_ ?_ _ ?_ <;> omega
  · intro x
    obtain ⟨a, b, rfl⟩ : ∃ (a : Fin 512) (b : Fin 128), x = ix2 a b := ⟨x 0, x 1, eq_ix2 x⟩
    refine Eq.trans ?_ (at_piece (N := 512) (W := 128) (o := 256) (by decide) (fun r c => partK bx bw bt 3072 256 r c) a b).symm
    pointwise [k0_pay29, k0_pay26, k0_pay27, k0_pay28, k0_pay22, k0_pay4]
    simp only [rd2_ix bx, rd2_ix bw, rd2_ix bt]
    refine part_close bx bw bt 3072 256 256 a b _ _ _ _ _ _ rfl b.isLt ?_ ?_ ?_ ?_ ?_ ?_ _ ?_ <;> omega
  · intro x
    obtain ⟨a, b, rfl⟩ : ∃ (a : Fin 512) (b : Fin 128), x = ix2 a b := ⟨x 0, x 1, eq_ix2 x⟩
    refine Eq.trans ?_ (at_piece (N := 512) (W := 128) (o := 128) (by decide) (fun r c => partK bx bw bt 3072 256 r c) a b).symm
    pointwise [k0_pay25, k0_pay22, k0_pay4]
    simp only [rd2_ix bx, rd2_ix bw, rd2_ix bt]
    refine part_close bx bw bt 3072 256 128 a b _ _ _ _ _ _ rfl b.isLt ?_ ?_ ?_ ?_ ?_ ?_ _ ?_ <;> omega
  · intro x
    obtain ⟨a, b, rfl⟩ : ∃ (a : Fin 512) (b : Fin 128), x = ix2 a b := ⟨x 0, x 1, eq_ix2 x⟩
    refine Eq.trans ?_ (at_piece (N := 512) (W := 128) (o := 0) (by decide) (fun r c => partK bx bw bt 3072 256 r c) a b).symm
    pointwise [k0_pay24, k0_pay23, k0_pay22, k0_pay4]
    simp only [rd2_ix bx, rd2_ix bw, rd2_ix bt]
    refine part_close bx bw bt 3072 256 0 a b _ _ _ _ _ _ rfl b.isLt ?_ ?_ ?_ ?_ ?_ ?_ _ ?_ <;> omega

/-- The block of attention keys. -/
theorem out8_ix (r : Fin 512) (c : Fin 128) :
    out0_8 (F := Ideal) bx bw bt (ix2 r c) = partK bx bw bt 3584 256 r c := by
  unfold_out out0_8
  refine (View.canon_apply_of_pieces (Val := Elt Ideal) (fun y : S512x128.Idx => partK bx bw bt 3584 256 (y 0).val (y 1).val)
    _ ?_ _ (cover0_8 _ _)).trans rfl
  simp only [List.forall_mem_cons, List.not_mem_nil, false_imp_iff, implies_true, and_true]
  · intro x
    obtain ⟨a, b, rfl⟩ : ∃ (a : Fin 512) (b : Fin 128), x = ix2 a b := ⟨x 0, x 1, eq_ix2 x⟩
    refine Eq.trans ?_ (at_piece (N := 128) (W := 128) (o := 0) (by decide) (fun r c => partK bx bw bt 3584 256 r c) a b).symm
    pointwise [k0_pay35, k0_pay32, k0_pay33, k0_pay34, k0_pay31, k0_pay4]
    simp only [rd2_ix bx, rd2_ix bw, rd2_ix bt]
    refine part_close bx bw bt 3584 256 0 a b _ _ _ _ _ _ rfl b.isLt ?_ ?_ ?_ ?_ ?_ ?_ _ ?_ <;> omega

/-- The block of attention values. -/
theorem out9_ix (r : Fin 512) (c : Fin 128) :
    out0_9 (F := Ideal) bx bw bt (ix2 r c) = dot2 bx bw r (3712 + c) := by
  unfold_out out0_9
  refine (View.canon_apply_of_pieces (Val := Elt Ideal) (fun y : S512x128.Idx => dot2 bx bw (y 0).val (3712 + (y 1).val))
    _ ?_ _ (cover0_9 _ _)).trans rfl
  simp only [List.forall_mem_cons, List.not_mem_nil, false_imp_iff, implies_true, and_true]
  · intro x
    obtain ⟨a, b, rfl⟩ : ∃ (a : Fin 512) (b : Fin 128), x = ix2 a b := ⟨x 0, x 1, eq_ix2 x⟩
    refine Eq.trans ?_ (at_piece (N := 128) (W := 128) (o := 0) (by decide) (fun r c => dot2 bx bw r (3712 + c)) a b).symm
    pointwise [k0_pay36, k0_pay31, k0_pay4]
    simp only [rd2_ix bx, rd2_ix bw, rd2_ix bt]
    refine dot_close bx bw _ _ _ ?_
    omega

/-- The block of indexer queries. -/
theorem out10_ix (r : Fin 512) (c : Fin 512) :
    out0_10 (F := Ideal) bx bw bt (ix2 r c) = partK bx bw bt 3840 256 r c := by
  unfold_out out0_10
  refine (View.canon_apply_of_pieces (Val := Elt Ideal) (fun y : S512x512.Idx => partK bx bw bt 3840 256 (y 0).val (y 1).val)
    _ ?_ _ (cover0_10 _ _ _ _ _)).trans rfl
  simp only [List.forall_mem_cons, List.not_mem_nil, false_imp_iff, implies_true, and_true]
  refine ⟨?_, ?_, ?_, ?_⟩
  · intro x
    obtain ⟨a, b, rfl⟩ : ∃ (a : Fin 512) (b : Fin 128), x = ix2 a b := ⟨x 0, x 1, eq_ix2 x⟩
    refine Eq.trans ?_ (at_piece (N := 512) (W := 128) (o := 384) (by decide) (fun r c => partK bx bw bt 3840 256 r c) a b).symm
    pointwise [k0_pay47, k0_pay43, k0_pay44, k0_pay45, k0_pay46, k0_pay37, k0_pay4]
    simp only [rd2_ix bx, rd2_ix bw, rd2_ix bt]
    refine part_close bx bw bt 3840 256 384 a b _ _ _ _ _ _ rfl b.isLt ?_ ?_ ?_ ?_ ?_ ?_ _ ?_ <;> omega
  · intro x
    obtain ⟨a, b, rfl⟩ : ∃ (a : Fin 512) (b : Fin 128), x = ix2 a b := ⟨x 0, x 1, eq_ix2 x⟩
    refine Eq.trans ?_ (at_piece (N := 512) (W := 128) (o := 256) (by decide) (fun r c => partK bx bw bt 3840 256 r c) a b).symm
    pointwise [k0_pay42, k0_pay37, k0_pay4]
    simp only [rd2_ix bx, rd2_ix bw, rd2_ix bt]
    refine part_close bx bw bt 3840 256 256 a b _ _ _ _ _ _ rfl b.isLt ?_ ?_ ?_ ?_ ?_ ?_ _ ?_ <;> omega
  · intro x
    obtain ⟨a, b, rfl⟩ : ∃ (a : Fin 512) (b : Fin 128), x = ix2 a b := ⟨x 0, x 1, eq_ix2 x⟩
    refine Eq.trans ?_ (at_piece (N := 512) (W := 128) (o := 128) (by decide) (fun r c => partK bx bw bt 3840 256 r c) a b).symm
    pointwise [k0_pay41, k0_pay39, k0_pay40, k0_pay37, k0_pay4]
    simp only [rd2_ix bx, rd2_ix bw, rd2_ix bt]
    refine part_close bx bw bt 3840 256 128 a b _ _ _ _ _ _ rfl b.isLt ?_ ?_ ?_ ?_ ?_ ?_ _ ?_ <;> omega
  · intro x
    obtain ⟨a, b, rfl⟩ : ∃ (a : Fin 512) (b : Fin 128), x = ix2 a b := ⟨x 0, x 1, eq_ix2 x⟩
    refine Eq.trans ?_ (at_piece (N := 512) (W := 128) (o := 0) (by decide) (fun r c => partK bx bw bt 3840 256 r c) a b).symm
    pointwise [k0_pay38, k0_pay37, k0_pay4]
    simp only [rd2_ix bx, rd2_ix bw, rd2_ix bt]
    refine part_close bx bw bt 3840 256 0 a b _ _ _ _ _ _ rfl b.isLt ?_ ?_ ?_ ?_ ?_ ?_ _ ?_ <;> omega

/-- The block of indexer keys and weights. -/
theorem out11_ix (r : Fin 512) (c : Fin 128) :
    out0_11 (F := Ideal) bx bw bt (ix2 r c) = partK bx bw bt 4352 640 r c := by
  unfold_out out0_11
  refine (View.canon_apply_of_pieces (Val := Elt Ideal) (fun y : S512x128.Idx => partK bx bw bt 4352 640 (y 0).val (y 1).val)
    _ ?_ _ (cover0_11 _ _)).trans rfl
  simp only [List.forall_mem_cons, List.not_mem_nil, false_imp_iff, implies_true, and_true]
  · intro x
    obtain ⟨a, b, rfl⟩ : ∃ (a : Fin 512) (b : Fin 128), x = ix2 a b := ⟨x 0, x 1, eq_ix2 x⟩
    refine Eq.trans ?_ (at_piece (N := 128) (W := 128) (o := 0) (by decide) (fun r c => partK bx bw bt 4352 640 r c) a b).symm
    pointwise [k0_pay48, k0_pay4]
    simp only [rd2_ix bx, rd2_ix bw, rd2_ix bt]
    refine part_close bx bw bt 4352 640 0 a b _ _ _ _ _ _ rfl b.isLt ?_ ?_ ?_ ?_ ?_ ?_ _ ?_ <;> omega

/-- The block of first merge gates. -/
theorem out12_ix (r : Fin 512) (c : Fin 1024) :
    out0_12 (F := Ideal) bx bw bt (ix2 r c) = dot2 bx bw r (4480 + c) := by
  unfold_out out0_12
  refine (View.canon_apply_of_pieces (Val := Elt Ideal) (fun y : S512x1024.Idx => dot2 bx bw (y 0).val (4480 + (y 1).val))
    _ ?_ _ (cover0_12 _ _ _)).trans rfl
  simp only [List.forall_mem_cons, List.not_mem_nil, false_imp_iff, implies_true, and_true]
  refine ⟨?_, ?_⟩
  · intro x
    obtain ⟨a, b, rfl⟩ : ∃ (a : Fin 512) (b : Fin 512), x = ix2 a b := ⟨x 0, x 1, eq_ix2 x⟩
    refine Eq.trans ?_ (at_piece (N := 1024) (W := 512) (o := 512) (by decide) (fun r c => dot2 bx bw r (4480 + c)) a b).symm
    pointwise [k0_pay1, k0_pay50, k0_pay4]
    simp only [rd2_ix bx, rd2_ix bw, rd2_ix bt]
    refine dot_close bx bw _ _ _ ?_
    omega
  · intro x
    obtain ⟨a, b, rfl⟩ : ∃ (a : Fin 512) (b : Fin 512), x = ix2 a b := ⟨x 0, x 1, eq_ix2 x⟩
    refine Eq.trans ?_ (at_piece (N := 1024) (W := 512) (o := 0) (by decide) (fun r c => dot2 bx bw r (4480 + c)) a b).symm
    pointwise [k0_pay49, k0_pay4]
    simp only [rd2_ix bx, rd2_ix bw, rd2_ix bt]
    refine dot_close bx bw _ _ _ ?_
    omega

/-- The block of second merge gates. -/
theorem out13_ix (r : Fin 512) (c : Fin 1024) :
    out0_13 (F := Ideal) bx bw bt (ix2 r c) = dot2 bx bw r (5504 + c) := by
  unfold_out out0_13
  refine (View.canon_apply_of_pieces (Val := Elt Ideal) (fun y : S512x1024.Idx => dot2 bx bw (y 0).val (5504 + (y 1).val))
    _ ?_ _ (cover0_13 _ _ _)).trans rfl
  simp only [List.forall_mem_cons, List.not_mem_nil, false_imp_iff, implies_true, and_true]
  refine ⟨?_, ?_⟩
  · intro x
    obtain ⟨a, b, rfl⟩ : ∃ (a : Fin 512) (b : Fin 512), x = ix2 a b := ⟨x 0, x 1, eq_ix2 x⟩
    refine Eq.trans ?_ (at_piece (N := 1024) (W := 512) (o := 512) (by decide) (fun r c => dot2 bx bw r (5504 + c)) a b).symm
    pointwise [k0_pay3, k0_pay4]
    simp only [rd2_ix bx, rd2_ix bw, rd2_ix bt]
    refine dot_close bx bw _ _ _ ?_
    omega
  · intro x
    obtain ⟨a, b, rfl⟩ : ∃ (a : Fin 512) (b : Fin 512), x = ix2 a b := ⟨x 0, x 1, eq_ix2 x⟩
    refine Eq.trans ?_ (at_piece (N := 1024) (W := 512) (o := 0) (by decide) (fun r c => dot2 bx bw r (5504 + c)) a b).symm
    pointwise [k0_pay2, k0_pay4]
    simp only [rd2_ix bx, rd2_ix bw, rd2_ix bt]
    refine dot_close bx bw _ _ _ ?_
    omega

end Cert.Proof.Project

end
-- ==== Proof.Proj.Arrays.lean ====
/-
  From blocks to arrays: entry `(n, c)` of an output array of the projection, over the rows of the prompt, the packed
  weights and the rotation tables as whole arrays. Row `n` is read in grid point `n / 512`'s block, and its row of the
  tables is `n % 2048`, its position.
-/
module

public import proofs.«01_k».proof.Proof.Gen.Kernel2Ideal.Value
public import proofs.«01_k».proof.Proof.Proj.Body
public import Idealize.ShloMosaic.Lib.Pipeline.ValueKit

@[expose] public section

set_option maxRecDepth 16384

noncomputable section

namespace Cert.Proof.Project

open Cert.Kernel2Ideal Cert.Kernel2Ideal.Gen
open Idealize.ShloMosaic Idealize.ShloMosaic.TcCoe Idealize.SL.Sem

/-! ## The two rotations, over whole arrays -/

section Forms

variable {R C T P : ℕ} (A : (⟨2, ![R, 1024]⟩ : Shape).Idx → EReal) (B : (⟨2, ![1024, C]⟩ : Shape).Idx → EReal)
  (t : (⟨2, ![P, T]⟩ : Shape).Idx → EReal)

def fullA (off n c : ℕ) : EReal :=
  dot2 A B n (off + c) * rd2 t (n % 2048) (c % 128)
    + dot2 A B n (off + c / 128 * 128 + (c % 128 + 64) % 128) * rd2 t (n % 2048) (128 + c % 128)

def partA (off tb n c : ℕ) : EReal :=
  dot2 A B n (off + c) * rd2 t (n % 2048) (tb + c % 128)
    + dot2 A B n (off + c / 128 * 128 + (c % 128 + 8) % 128) * rd2 t (n % 2048) (tb + 128 + c % 128)
    + dot2 A B n (off + c / 128 * 128 + (c % 128 + 120) % 128) * rd2 t (n % 2048) (tb + 256 + c % 128)

variable {r : ℕ} (bx : (⟨2, ![512, 1024]⟩ : Shape).Idx → EReal) (bw : (⟨2, ![1024, C]⟩ : Shape).Idx → EReal)
  (bt : (⟨2, ![512, T]⟩ : Shape).Idx → EReal)

theorem full_at (n r : ℕ) (hD : ∀ j, dot2 bx bw r j = dot2 A B n j) (hT : ∀ a, rd2 bt r a = rd2 t (n % 2048) a) (off c : ℕ) :
    fullK bx bw bt off r c = fullA A B t off n c := by
  unfold fullK fullA
  rw [hD, hD, hT, hT]

theorem part_at (n r : ℕ) (hD : ∀ j, dot2 bx bw r j = dot2 A B n j) (hT : ∀ a, rd2 bt r a = rd2 t (n % 2048) a) (off tb c : ℕ) :
    partK bx bw bt off tb r c = partA A B t off tb n c := by
  unfold partK partA
  rw [hD, hD, hD, hT, hT, hT]

end Forms

variable (m : (ℓ : Loc nD τ sig) → Buf (Elt Ideal) ℓ) (c : Dev nD)

/-! ## The input blocks -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val % 4, 0] := (by decide +kernel : ∀ t : Fin grid0.N, _)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)
theorem idx10 : ∀ t : Fin cfg0.N, win0_10.index t 0 = t.val ∧ win0_10.index t 1 = 0 :=
  (by decide +kernel : ∀ t : Fin grid0.N, win0_10.index t 0 = t.val ∧ win0_10.index t 1 = 0)
theorem idx11 : ∀ t : Fin cfg0.N, win0_11.index t 0 = t.val ∧ win0_11.index t 1 = 0 :=
  (by decide +kernel : ∀ t : Fin grid0.N, win0_11.index t 0 = t.val ∧ win0_11.index t 1 = 0)
theorem idx12 : ∀ t : Fin cfg0.N, win0_12.index t 0 = t.val ∧ win0_12.index t 1 = 0 :=
  (by decide +kernel : ∀ t : Fin grid0.N, win0_12.index t 0 = t.val ∧ win0_12.index t 1 = 0)
theorem idx13 : ∀ t : Fin cfg0.N, win0_13.index t 0 = t.val ∧ win0_13.index t 1 = 0 :=
  (by decide +kernel : ∀ t : Fin grid0.N, win0_13.index t 0 = t.val ∧ win0_13.index t 1 = 0)

/-- The three arrays the projection's launch reads. -/
abbrev rows : (⟨2, ![32768, 1024]⟩ : Shape).Idx → EReal := V m c main_v50
abbrev wts : (⟨2, ![1024, 6528]⟩ : Shape).Idx → EReal := V m c main_v65
abbrev tabs : (⟨2, ![2048, 1024]⟩ : Shape).Idx → EReal := V m c main_v49

theorem blk0 (t : Fin cfg0.N) (r : Fin 512) (k : Fin 1024) :
    iblk m c 0 t (ix2 r k) = rd2 (rows m c) (512 * t.val + r.val) k := by
  have hN : cfg0.N = 64 := N_0
  have ht := t.isLt
  unfold rd2
  rw [dif_pos ⟨by omega, k.isLt⟩]
  blk_ext! [iblk, idx0 t]

theorem blk1 (t : Fin cfg0.N) : iblk m c 1 t = wts m c := by
  funext i
  blk_ext! [iblk, idx1 t]

theorem blk2 (t : Fin cfg0.N) (r : Fin 512) (a : Fin 1024) :
    iblk m c 2 t (ix2 r a) = rd2 (tabs m c) ((512 * t.val + r.val) % 2048) a := by
  unfold rd2
  rw [dif_pos ⟨by omega, a.isLt⟩]
  blk_ext! [iblk, idx2 t]

theorem rd2_out {M N : ℕ} (A : (⟨2, ![M, N]⟩ : Shape).Idx → EReal) (p a : ℕ) (h : ¬a < N) : rd2 A p a = 0 := by
  unfold rd2
  rw [dif_neg (fun e => h e.2)]

theorem dot_blk (t : Fin cfg0.N) (r : Fin 512) (j : ℕ) :
    dot2 (iblk m c 0 t) (iblk m c 1 t) r j = dot2 (rows m c) (wts m c) (512 * t.val + r.val) j := by
  unfold dot2
  refine Finset.sum_congr rfl fun k _ => ?_
  rw [blk1 m c t]
  refine congrArg (· * _) ((rd2_ix (M := 512) (N := 1024) (iblk m c 0 t) r k).symm.trans (blk0 m c t r k))

theorem tab_blk (t : Fin cfg0.N) (r : Fin 512) (a : ℕ) :
    rd2 (iblk m c 2 t) r a = rd2 (tabs m c) ((512 * t.val + r.val) % 2048) a := by
  by_cases h : a < 1024
  · exact (rd2_ix (M := 512) (N := 1024) (iblk m c 2 t) r ⟨a, h⟩).symm.trans (blk2 m c t r ⟨a, h⟩)
  · rw [rd2_out _ _ _ h, rd2_out _ _ _ h]

theorem row_of_block (a t r : ℕ) (h : a = t) : a * 512 + r = 512 * t + r := by
  subst h
  omega

theorem col_of_block (a N q : ℕ) (h : a = 0) : a * N + q = q := by
  subst h
  omega

/-! ## The output arrays -/

/-- The retention queries. -/
theorem arr3 (n : Fin 32768) (j : Fin 512) :
    (dats m 0 c).arrAt 3 cfg0.N (ix2 n j) = fullA (rows m c) (wts m c) (tabs m c) 0 n j := by
  refine (congrFun ((dats m 0 c).arrAt_eq_of_covers 3
    (fun i => fullA (rows m c) (wts m c) (tabs m c) 0 (i 0).val (i 1).val) (by decide +kernel) fun t hf y => ?_) (ix2 n j)).trans rfl
  blk_simp
  rw [after0_3]
  obtain ⟨r, q, rfl⟩ : ∃ (r : Fin 512) (q : Fin 512), y = ix2 r q := ⟨y 0, y 1, eq_ix2 y⟩
  refine (out3_ix _ _ _ r q).trans ((full_at (rows m c) (wts m c) (tabs m c) (iblk m c 0 t) (iblk m c 1 t) (iblk m c 2 t) (512 * t.val + r.val) r (dot_blk m c t r) (tab_blk m c t r) 0 q).trans ?_)
  have e0 : win0_3.index t 0 * 512 + r.val = 512 * t.val + r.val := row_of_block _ _ _ (idx3 t).1
  have e1 : win0_3.index t 1 * 512 + q.val = q.val := col_of_block _ _ _ (idx3 t).2
  show _ = fullA (rows m c) (wts m c) (tabs m c) 0 (win0_3.index t 0 * 512 + r.val) (win0_3.index t 1 * 512 + q.val)
  rw [e0, e1]

/-- The retention keys. -/
theorem arr4 (n : Fin 32768) (j : Fin 512) :
    (dats m 0 c).arrAt 4 cfg0.N (ix2 n j) = fullA (rows m c) (wts m c) (tabs m c) 512 n j * Ideal.ofBits .f32 0x3DB504F3#32 := by
  refine (congrFun ((dats m 0 c).arrAt_eq_of_covers 4
    (fun i => fullA (rows m c) (wts m c) (tabs m c) 512 (i 0).val (i 1).val * Ideal.ofBits .f32 0x3DB504F3#32) (by decide +kernel) fun t hf y => ?_) (ix2 n j)).trans rfl
  blk_simp
  rw [after0_4]
  obtain ⟨r, q, rfl⟩ : ∃ (r : Fin 512) (q : Fin 512), y = ix2 r q := ⟨y 0, y 1, eq_ix2 y⟩
  refine (out4_ix _ _ _ r q).trans ((congrArg (· * _) (full_at (rows m c) (wts m c) (tabs m c) (iblk m c 0 t) (iblk m c 1 t) (iblk m c 2 t) (512 * t.val + r.val) r (dot_blk m c t r) (tab_blk m c t r) 512 q)).trans ?_)
  have e0 : win0_4.index t 0 * 512 + r.val = 512 * t.val + r.val := row_of_block _ _ _ (idx4 t).1
  have e1 : win0_4.index t 1 * 512 + q.val = q.val := col_of_block _ _ _ (idx4 t).2
  show _ = fullA (rows m c) (wts m c) (tabs m c) 512 (win0_4.index t 0 * 512 + r.val) (win0_4.index t 1 * 512 + q.val) * Ideal.ofBits .f32 0x3DB504F3#32
  rw [e0, e1]

/-- The retention values. -/
theorem arr5 (n : Fin 32768) (j : Fin 1024) :
    (dats m 0 c).arrAt 5 cfg0.N (ix2 n j) = dot2 (rows m c) (wts m c) n (1024 + j) := by
  refine (congrFun ((dats m 0 c).arrAt_eq_of_covers 5
    (fun i => dot2 (rows m c) (wts m c) (i 0).val (1024 + (i 1).val)) (by decide +kernel) fun t hf y => ?_) (ix2 n j)).trans rfl
  blk_simp
  rw [after0_5]
  obtain ⟨r, q, rfl⟩ : ∃ (r : Fin 512) (q : Fin 1024), y = ix2 r q := ⟨y 0, y 1, eq_ix2 y⟩
  refine (out5_ix _ _ _ r q).trans ((dot_blk m c t r (1024 + q)).trans ?_)
  have e0 : win0_5.index t 0 * 512 + r.val = 512 * t.val + r.val := row_of_block _ _ _ (idx5 t).1
  have e1 : win0_5.index t 1 * 1024 + q.val = q.val := col_of_block _ _ _ (idx5 t).2
  show _ = dot2 (rows m c) (wts m c) (win0_5.index t 0 * 512 + r.val) (1024 + (win0_5.index t 1 * 1024 + q.val))
  rw [e0, e1]

/-- The retention gates. -/
theorem arr6 (n : Fin 32768) (j : Fin 1024) :
    (dats m 0 c).arrAt 6 cfg0.N (ix2 n j) = dot2 (rows m c) (wts m c) n (2048 + j) := by
  refine (congrFun ((dats m 0 c).arrAt_eq_of_covers 6
    (fun i => dot2 (rows m c) (wts m c) (i 0).val (2048 + (i 1).val)) (by decide +kernel) fun t hf y => ?_) (ix2 n j)).trans rfl
  blk_simp
  rw [after0_6]
  obtain ⟨r, q, rfl⟩ : ∃ (r : Fin 512) (q : Fin 1024), y = ix2 r q := ⟨y 0, y 1, eq_ix2 y⟩
  refine (out6_ix _ _ _ r q).trans ((dot_blk m c t r (2048 + q)).trans ?_)
  have e0 : win0_6.index t 0 * 512 + r.val = 512 * t.val + r.val := row_of_block _ _ _ (idx6 t).1
  have e1 : win0_6.index t 1 * 1024 + q.val = q.val := col_of_block _ _ _ (idx6 t).2
  show _ = dot2 (rows m c) (wts m c) (win0_6.index t 0 * 512 + r.val) (2048 + (win0_6.index t 1 * 1024 + q.val))
  rw [e0, e1]

/-- The attention queries. -/
theorem arr7 (n : Fin 32768) (j : Fin 512) :
    (dats m 0 c).arrAt 7 cfg0.N (ix2 n j) = partA (rows m c) (wts m c) (tabs m c) 3072 256 n j := by
  refine (congrFun ((dats m 0 c).arrAt_eq_of_covers 7
    (fun i => partA (rows m c) (wts m c) (tabs m c) 3072 256 (i 0).val (i 1).val) (by decide +kernel) fun t hf y => ?_) (ix2 n j)).trans rfl
  blk_simp
  rw [after0_7]
  obtain ⟨r, q, rfl⟩ : ∃ (r : Fin 512) (q : Fin 512), y = ix2 r q := ⟨y 0, y 1, eq_ix2 y⟩
  refine (out7_ix _ _ _ r q).trans ((part_at (rows m c) (wts m c) (tabs m c) (iblk m c 0 t) (iblk m c 1 t) (iblk m c 2 t) (512 * t.val + r.val) r (dot_blk m c t r) (tab_blk m c t r) 3072 256 q).trans ?_)
  have e0 : win0_7.index t 0 * 512 + r.val = 512 * t.val + r.val := row_of_block _ _ _ (idx7 t).1
  have e1 : win0_7.index t 1 * 512 + q.val = q.val := col_of_block _ _ _ (idx7 t).2
  show _ = partA (rows m c) (wts m c) (tabs m c) 3072 256 (win0_7.index t 0 * 512 + r.val) (win0_7.index t 1 * 512 + q.val)
  rw [e0, e1]

/-- The attention keys. -/
theorem arr8 (n : Fin 32768) (j : Fin 128) :
    (dats m 0 c).arrAt 8 cfg0.N (ix2 n j) = partA (rows m c) (wts m c) (tabs m c) 3584 256 n j := by
  refine (congrFun ((dats m 0 c).arrAt_eq_of_covers 8
    (fun i => partA (rows m c) (wts m c) (tabs m c) 3584 256 (i 0).val (i 1).val) (by decide +kernel) fun t hf y => ?_) (ix2 n j)).trans rfl
  blk_simp
  rw [after0_8]
  obtain ⟨r, q, rfl⟩ : ∃ (r : Fin 512) (q : Fin 128), y = ix2 r q := ⟨y 0, y 1, eq_ix2 y⟩
  refine (out8_ix _ _ _ r q).trans ((part_at (rows m c) (wts m c) (tabs m c) (iblk m c 0 t) (iblk m c 1 t) (iblk m c 2 t) (512 * t.val + r.val) r (dot_blk m c t r) (tab_blk m c t r) 3584 256 q).trans ?_)
  have e0 : win0_8.index t 0 * 512 + r.val = 512 * t.val + r.val := row_of_block _ _ _ (idx8 t).1
  have e1 : win0_8.index t 1 * 128 + q.val = q.val := col_of_block _ _ _ (idx8 t).2
  show _ = partA (rows m c) (wts m c) (tabs m c) 3584 256 (win0_8.index t 0 * 512 + r.val) (win0_8.index t 1 * 128 + q.val)
  rw [e0, e1]

/-- The attention values. -/
theorem arr9 (n : Fin 32768) (j : Fin 128) :
    (dats m 0 c).arrAt 9 cfg0.N (ix2 n j) = dot2 (rows m c) (wts m c) n (3712 + j) := by
  refine (congrFun ((dats m 0 c).arrAt_eq_of_covers 9
    (fun i => dot2 (rows m c) (wts m c) (i 0).val (3712 + (i 1).val)) (by decide +kernel) fun t hf y => ?_) (ix2 n j)).trans rfl
  blk_simp
  rw [after0_9]
  obtain ⟨r, q, rfl⟩ : ∃ (r : Fin 512) (q : Fin 128), y = ix2 r q := ⟨y 0, y 1, eq_ix2 y⟩
  refine (out9_ix _ _ _ r q).trans ((dot_blk m c t r (3712 + q)).trans ?_)
  have e0 : win0_9.index t 0 * 512 + r.val = 512 * t.val + r.val := row_of_block _ _ _ (idx9 t).1
  have e1 : win0_9.index t 1 * 128 + q.val = q.val := col_of_block _ _ _ (idx9 t).2
  show _ = dot2 (rows m c) (wts m c) (win0_9.index t 0 * 512 + r.val) (3712 + (win0_9.index t 1 * 128 + q.val))
  rw [e0, e1]

/-- The indexer queries. -/
theorem arr10 (n : Fin 32768) (j : Fin 512) :
    (dats m 0 c).arrAt 10 cfg0.N (ix2 n j) = partA (rows m c) (wts m c) (tabs m c) 3840 256 n j := by
  refine (congrFun ((dats m 0 c).arrAt_eq_of_covers 10
    (fun i => partA (rows m c) (wts m c) (tabs m c) 3840 256 (i 0).val (i 1).val) (by decide +kernel) fun t hf y => ?_) (ix2 n j)).trans rfl
  blk_simp
  rw [after0_10]
  obtain ⟨r, q, rfl⟩ : ∃ (r : Fin 512) (q : Fin 512), y = ix2 r q := ⟨y 0, y 1, eq_ix2 y⟩
  refine (out10_ix _ _ _ r q).trans ((part_at (rows m c) (wts m c) (tabs m c) (iblk m c 0 t) (iblk m c 1 t) (iblk m c 2 t) (512 * t.val + r.val) r (dot_blk m c t r) (tab_blk m c t r) 3840 256 q).trans ?_)
  have e0 : win0_10.index t 0 * 512 + r.val = 512 * t.val + r.val := row_of_block _ _ _ (idx10 t).1
  have e1 : win0_10.index t 1 * 512 + q.val = q.val := col_of_block _ _ _ (idx10 t).2
  show _ = partA (rows m c) (wts m c) (tabs m c) 3840 256 (win0_10.index t 0 * 512 + r.val) (win0_10.index t 1 * 512 + q.val)
  rw [e0, e1]

/-- The indexer keys and weights. -/
theorem arr11 (n : Fin 32768) (j : Fin 128) :
    (dats m 0 c).arrAt 11 cfg0.N (ix2 n j) = partA (rows m c) (wts m c) (tabs m c) 4352 640 n j := by
  refine (congrFun ((dats m 0 c).arrAt_eq_of_covers 11
    (fun i => partA (rows m c) (wts m c) (tabs m c) 4352 640 (i 0).val (i 1).val) (by decide +kernel) fun t hf y => ?_) (ix2 n j)).trans rfl
  blk_simp
  rw [after0_11]
  obtain ⟨r, q, rfl⟩ : ∃ (r : Fin 512) (q : Fin 128), y = ix2 r q := ⟨y 0, y 1, eq_ix2 y⟩
  refine (out11_ix _ _ _ r q).trans ((part_at (rows m c) (wts m c) (tabs m c) (iblk m c 0 t) (iblk m c 1 t) (iblk m c 2 t) (512 * t.val + r.val) r (dot_blk m c t r) (tab_blk m c t r) 4352 640 q).trans ?_)
  have e0 : win0_11.index t 0 * 512 + r.val = 512 * t.val + r.val := row_of_block _ _ _ (idx11 t).1
  have e1 : win0_11.index t 1 * 128 + q.val = q.val := col_of_block _ _ _ (idx11 t).2
  show _ = partA (rows m c) (wts m c) (tabs m c) 4352 640 (win0_11.index t 0 * 512 + r.val) (win0_11.index t 1 * 128 + q.val)
  rw [e0, e1]

/-- The first merge gates. -/
theorem arr12 (n : Fin 32768) (j : Fin 1024) :
    (dats m 0 c).arrAt 12 cfg0.N (ix2 n j) = dot2 (rows m c) (wts m c) n (4480 + j) := by
  refine (congrFun ((dats m 0 c).arrAt_eq_of_covers 12
    (fun i => dot2 (rows m c) (wts m c) (i 0).val (4480 + (i 1).val)) (by decide +kernel) fun t hf y => ?_) (ix2 n j)).trans rfl
  blk_simp
  rw [after0_12]
  obtain ⟨r, q, rfl⟩ : ∃ (r : Fin 512) (q : Fin 1024), y = ix2 r q := ⟨y 0, y 1, eq_ix2 y⟩
  refine (out12_ix _ _ _ r q).trans ((dot_blk m c t r (4480 + q)).trans ?_)
  have e0 : win0_12.index t 0 * 512 + r.val = 512 * t.val + r.val := row_of_block _ _ _ (idx12 t).1
  have e1 : win0_12.index t 1 * 1024 + q.val = q.val := col_of_block _ _ _ (idx12 t).2
  show _ = dot2 (rows m c) (wts m c) (win0_12.index t 0 * 512 + r.val) (4480 + (win0_12.index t 1 * 1024 + q.val))
  rw [e0, e1]

/-- The second merge gates. -/
theorem arr13 (n : Fin 32768) (j : Fin 1024) :
    (dats m 0 c).arrAt 13 cfg0.N (ix2 n j) = dot2 (rows m c) (wts m c) n (5504 + j) := by
  refine (congrFun ((dats m 0 c).arrAt_eq_of_covers 13
    (fun i => dot2 (rows m c) (wts m c) (i 0).val (5504 + (i 1).val)) (by decide +kernel) fun t hf y => ?_) (ix2 n j)).trans rfl
  blk_simp
  rw [after0_13]
  obtain ⟨r, q, rfl⟩ : ∃ (r : Fin 512) (q : Fin 1024), y = ix2 r q := ⟨y 0, y 1, eq_ix2 y⟩
  refine (out13_ix _ _ _ r q).trans ((dot_blk m c t r (5504 + q)).trans ?_)
  have e0 : win0_13.index t 0 * 512 + r.val = 512 * t.val + r.val := row_of_block _ _ _ (idx13 t).1
  have e1 : win0_13.index t 1 * 1024 + q.val = q.val := col_of_block _ _ _ (idx13 t).2
  show _ = dot2 (rows m c) (wts m c) (win0_13.index t 0 * 512 + r.val) (5504 + (win0_13.index t 1 * 1024 + q.val))
  rw [e0, e1]

end Cert.Proof.Project

end
-- ==== Proof.Proj.Rotate.lean ====
/-
  The projection's results at an entry, in the products `D j` of one row with the weight columns `j`: a rotation by half
  a head of 128, a rotation of the first 16 columns of a head of 64, the indexer's keys and weights. The kernel's form of
  them, products with the packed weights against the rotation tables, is the same numbers.
-/
module

public import proofs.«01_k».proof.Proof.Proj.Tables
public import proofs.«01_k».proof.Proof.Proj.Arrays

@[expose] public section

set_option maxRecDepth 16384

noncomputable section

namespace Cert.Proof.Project

open Cert.Kernel2Ideal Cert.Kernel2Ideal.Gen
open Idealize.ShloMosaic Idealize.ShloMosaic.TcCoe Idealize.SL.Sem

/-! ## The results at an entry -/

/-- Column `off + j` of a head of 128 columns, its halves rotated into each other at position `p`. -/
def rotR (D : ℕ → EReal) (p off j : ℕ) : EReal :=
  if j % 128 < 64 then D (off + j) * cosR p (j % 64) - D (off + j + 64) * sinR p (j % 64)
  else D (off + j - 64) * sinR p (j % 64) + D (off + j) * cosR p (j % 64)

/-- Column `off + j` of a head of 64 columns, its first two eights rotated into each other at position `p`. -/
def rotP (D : ℕ → EReal) (p off j : ℕ) : EReal :=
  if j % 64 < 8 then D (off + j) * cosP p (j % 64) - D (off + j + 8) * sinP p (j % 64)
  else if j % 64 < 16 then D (off + j - 8) * sinP p (j % 64 - 8) + D (off + j) * cosP p (j % 64 - 8)
  else D (off + j)

/-- Column `j` of the indexer's keys, weights and padding. -/
def keysWeights (D : ℕ → EReal) (p j : ℕ) : EReal :=
  if j < 64 then rotP D p 4352 j else if j < 72 then D (4352 + j) * iScale else 0

/-- The product of row `n` of the prompt with weight column `j`. -/
def proj (x : (⟨3, ![16, 2048, 1024]⟩ : Shape).Idx → EReal) (w : (⟨2, ![1024, 6472]⟩ : Shape).Idx → EReal) (n j : ℕ) : EReal :=
  ∑ k : Fin 1024, rd3 x (n / 2048) (n % 2048) k * rd2 w k j

/-! ## The kernel's forms of them -/

section Forms

variable {R C T P : ℕ} (A : (⟨2, ![R, 1024]⟩ : Shape).Idx → EReal) (B : (⟨2, ![1024, C]⟩ : Shape).Idx → EReal)
  (t : (⟨2, ![P, T]⟩ : Shape).Idx → EReal)

theorem fullA_eq (n : ℕ) (D : ℕ → EReal) (hD : ∀ j, j < 4424 → dot2 A B n j = D j)
    (ht : ∀ a, a < 1024 → rd2 t (n % 2048) a = tabAt (n % 2048) a) (off c : ℕ) (ho : off + c / 128 * 128 + 128 ≤ 4424) :
    fullA A B t off n c = rotR D (n % 2048) off c := by
  unfold fullA rotR
  rw [hD _ (by omega), hD _ (by omega), ht _ (by omega), ht _ (by omega)]
  have t0 : tabAt (n % 2048) (c % 128) = cosR (n % 2048) (c % 64) := by
    unfold tabAt
    rw [if_pos (by omega)]
    congr 1
    omega
  rw [t0]
  by_cases h : c % 128 < 64
  · have t1 : tabAt (n % 2048) (128 + c % 128) = -sinR (n % 2048) (c % 64) := by
      unfold tabAt
      rw [if_neg (by omega), if_pos (by omega), if_pos (by omega)]
      congr 2
      omega
    have e : off + c / 128 * 128 + (c % 128 + 64) % 128 = off + c + 64 := by omega
    rw [if_pos h, t1, e, sub_eq_add_neg, mul_neg]
  · have t1 : tabAt (n % 2048) (128 + c % 128) = sinR (n % 2048) (c % 64) := by
      unfold tabAt
      rw [if_neg (by omega), if_pos (by omega), if_neg (by omega)]
      congr 1
      omega
    have e : off + c / 128 * 128 + (c % 128 + 64) % 128 = off + c - 64 := by omega
    rw [if_neg h, t1, e, add_comm]

/-- A head of 64 columns with table entries `tC`, `tM`, `tS`. -/
theorem part_sum (D : ℕ → EReal) (p off c j1 j2 : ℕ) (h1 : c % 64 < 8 → j1 = off + c + 8)
    (h2 : 8 ≤ c % 64 → c % 64 < 16 → j2 = off + c - 8) :
    D (off + c) * tC p (c % 64) + D j1 * tM p (c % 64) + D j2 * tS p (c % 64) = rotP D p off c := by
  unfold rotP tC tM tS
  by_cases a : c % 64 < 8
  · rw [if_pos a, if_pos a, if_pos a, if_pos a, h1 a, mul_zero, add_zero, sub_eq_add_neg, mul_neg]
  · by_cases b : c % 64 < 16
    · rw [if_neg a, if_neg a, if_neg a, if_neg a, if_pos b, if_pos b, if_pos b, h2 (by omega) b, mul_zero, add_zero, add_comm]
    · rw [if_neg a, if_neg a, if_neg a, if_neg a, if_neg b, if_neg b, if_neg b, mul_zero, mul_zero, add_zero, add_zero, mul_one]

theorem partA_eq (n : ℕ) (D : ℕ → EReal) (hD : ∀ j, j < 4424 → dot2 A B n j = D j)
    (ht : ∀ a, a < 1024 → rd2 t (n % 2048) a = tabAt (n % 2048) a) (off c : ℕ) (ho : off + c / 128 * 128 + 128 ≤ 4424) :
    partA A B t off 256 n c = rotP D (n % 2048) off c := by
  unfold partA
  rw [hD _ (by omega), hD _ (by omega), hD _ (by omega), ht _ (by omega), ht _ (by omega), ht _ (by omega)]
  have t0 : tabAt (n % 2048) (256 + c % 128) = tC (n % 2048) (c % 64) := by
    unfold tabAt
    rw [if_neg (by omega), if_neg (by omega), if_pos (by omega)]
    congr 1
    omega
  have t1 : tabAt (n % 2048) (256 + 128 + c % 128) = tM (n % 2048) (c % 64) := by
    unfold tabAt
    rw [if_neg (by omega), if_neg (by omega), if_neg (by omega), if_pos (by omega)]
    congr 1
    omega
  have t2 : tabAt (n % 2048) (256 + 256 + c % 128) = tS (n % 2048) (c % 64) := by
    unfold tabAt
    rw [if_neg (by omega), if_neg (by omega), if_neg (by omega), if_neg (by omega), if_pos (by omega)]
    congr 1
    omega
  rw [t0, t1, t2]
  exact part_sum D _ off c _ _ (fun _ => by omega) (fun _ _ => by omega)

theorem partA_keys (n : ℕ) (D : ℕ → EReal) (hD : ∀ j, j < 4424 → dot2 A B n j = D j)
    (ht : ∀ a, a < 1024 → rd2 t (n % 2048) a = tabAt (n % 2048) a) (c : ℕ) (hc : c < 128) :
    partA A B t 4352 640 n c = keysWeights D (n % 2048) c := by
  unfold partA keysWeights
  rw [ht _ (by omega), ht _ (by omega), ht _ (by omega)]
  by_cases a : c < 64
  · have t0 : tabAt (n % 2048) (640 + c % 128) = tC (n % 2048) (c % 64) := by
      unfold tabAt
      rw [if_neg (by omega), if_neg (by omega), if_neg (by omega), if_neg (by omega), if_neg (by omega), if_pos (by omega), if_pos (by omega)]
      congr 1
      omega
    have t1 : tabAt (n % 2048) (640 + 128 + c % 128) = tM (n % 2048) (c % 64) := by
      unfold tabAt
      rw [if_neg (by omega), if_neg (by omega), if_neg (by omega), if_neg (by omega), if_neg (by omega), if_neg (by omega), if_pos (by omega), if_pos (by omega)]
      congr 1
      omega
    have t2 : tabAt (n % 2048) (640 + 256 + c % 128) = tS (n % 2048) (c % 64) := by
      unfold tabAt
      rw [if_neg (by omega), if_neg (by omega), if_neg (by omega), if_neg (by omega), if_neg (by omega), if_neg (by omega), if_neg (by omega), if_pos (by omega)]
      congr 1
      omega
    rw [if_pos a, t0, t1, t2]
    refine (part_sum (fun j => dot2 A B n j) (n % 2048) 4352 c (4352 + c / 128 * 128 + (c % 128 + 8) % 128)
      (4352 + c / 128 * 128 + (c % 128 + 120) % 128) (fun _ => by omega) (fun _ _ => by omega)).trans ?_
    unfold rotP
    beta_reduce
    rw [hD (4352 + c) (by omega)]
    by_cases b : c % 64 < 8
    · rw [if_pos b, if_pos b, hD _ (by omega)]
    · by_cases b' : c % 64 < 16
      · rw [if_neg b, if_neg b, if_pos b', if_pos b', hD _ (by omega)]
      · rw [if_neg b, if_neg b, if_neg b', if_neg b']
  · have t1 : tabAt (n % 2048) (640 + 128 + c % 128) = 0 := by
      unfold tabAt
      rw [if_neg (by omega), if_neg (by omega), if_neg (by omega), if_neg (by omega), if_neg (by omega), if_neg (by omega), if_pos (by omega), if_neg (by omega)]
    have t2 : tabAt (n % 2048) (640 + 256 + c % 128) = 0 := by
      unfold tabAt
      rw [if_neg (by omega), if_neg (by omega), if_neg (by omega), if_neg (by omega), if_neg (by omega), if_neg (by omega), if_neg (by omega), if_neg (by omega)]
    rw [if_neg a, t1, t2, mul_zero, mul_zero, add_zero, add_zero]
    by_cases b : c < 72
    · have t0 : tabAt (n % 2048) (640 + c % 128) = iScale := by
        unfold tabAt
        rw [if_neg (by omega), if_neg (by omega), if_neg (by omega), if_neg (by omega), if_neg (by omega), if_pos (by omega), if_neg (by omega), if_pos (by omega)]
      rw [if_pos b, t0, hD _ (by omega)]
    · have t0 : tabAt (n % 2048) (640 + c % 128) = 0 := by
        unfold tabAt
        rw [if_neg (by omega), if_neg (by omega), if_neg (by omega), if_neg (by omega), if_neg (by omega), if_pos (by omega), if_neg (by omega), if_neg (by omega)]
      rw [if_neg b, t0, mul_zero]

end Forms

/-! ## The launch's arrays -/

variable (m : (ℓ : Loc nD τ sig) → Buf (Elt Ideal) ℓ) (c : Dev nD)

abbrev argX : (⟨3, ![16, 2048, 1024]⟩ : Shape).Idx → EReal := m ((c : Thread nD τ).loc main_arg0)
abbrev argW : (⟨2, ![1024, 6472]⟩ : Shape).Idx → EReal := m ((c : Thread nD τ).loc main_arg1)

theorem merged_ix (x : FVec Ideal S16x2048x1024 .f32) (n : Fin 32768) (k : Fin 1024) :
    shapeCast S32768x1024 x shapeCasts_S16x2048x1024_S32768x1024 (ix2 n k) = rd3 x (n.val / 2048) (n.val % 2048) k := by
  pointwise
  simp only [rd3_ix]

theorem rows_at (n : Fin 32768) (k : Fin 1024) : rd2 (rows m c) n k = rd3 (argX m c) (n.val / 2048) (n.val % 2048) k := by
  rw [← rd2_ix]
  show V m c main_v50 (ix2 n k) = _
  rw [V_rows]
  exact merged_ix _ n k

theorem wts_at (k : Fin 1024) (j : ℕ) (h : j < 6528) : rd2 (wts m c) k j = packAt (argW m c) k j := by
  rw [← rd2_mk (wts m c) k j h]
  show V m c main_v65 (ix2 k ⟨j, h⟩) = _
  rw [V_weights]
  exact packed_ix _ k ⟨j, h⟩

theorem tabs_at (p : ℕ) (a : ℕ) (hp : p < 2048) (ha : a < 1024) : rd2 (tabs m c) p a = tabAt p a := by
  rw [← rd2_mk (tabs m c) ⟨p, hp⟩ a ha]
  show V m c main_v49 (ix2 ⟨p, hp⟩ ⟨a, ha⟩) = _
  rw [V_tables]
  exact tables_ix ⟨p, hp⟩ ⟨a, ha⟩

theorem dot_lo (n : Fin 32768) (j : ℕ) (h : j < 4424) : dot2 (rows m c) (wts m c) n j = proj (argX m c) (argW m c) n j := by
  unfold dot2 proj
  refine Finset.sum_congr rfl fun k _ => ?_
  rw [rows_at, wts_at m c k j (by omega)]
  unfold packAt
  rw [if_pos h]

theorem dot_hi (n : Fin 32768) (j : ℕ) (h : 4480 ≤ j) (h' : j < 6528) :
    dot2 (rows m c) (wts m c) n j = proj (argX m c) (argW m c) n (j - 56) := by
  unfold dot2 proj
  refine Finset.sum_congr rfl fun k _ => ?_
  rw [rows_at, wts_at m c k j h']
  unfold packAt
  rw [if_neg (by omega), if_neg (by omega)]

end Cert.Proof.Project

end
-- ==== Proof.Proj.Ref.lean ====
/-
  The reference's results at an entry: every one is a slice of one product of the prompt with the weights, plain, or with
  a head's columns rotated.
-/
module

public import proofs.«01_k».proof.Proof.Gen.Reference2Ideal.Run
public import proofs.«01_k».proof.Proof.Proj.Rotate
public import Idealize.ShloMosaic.Lib.Tactic.CleanTypes

@[expose] public section

set_option maxRecDepth 16384

noncomputable section

namespace Cert.Proof.ProjectRef

open Idealize.ShloMosaic Idealize.ShloMosaic.TcCoe Idealize.SL.Sem
open Cert.Reference2Ideal Cert.Reference2Ideal.Gen Cert.Reference2Ideal.Value Cert.Proof.Project

variable (V0 : Valuation τ sig (Elt Ideal))

/-- The retention queries. -/
abbrev t_rq : FVec Ideal S32768x512 .bf16 :=
  truncf .bf16 (shapeCast _ ((concatenate S16x2048x4x128 3 [⟨S16x2048x4x64, ((subf (mulf (res_main_v29 V0) (broadcastInDim S16x2048x4x64 ![0, 1, 2, 3] bcast_S1x2048x1x64_S16x2048x4x64_0_1_2_3 (res_main_v26 V0))) (mulf (res_main_v30 V0) (broadcastInDim S16x2048x4x64 ![0, 1, 2, 3] bcast_S1x2048x1x64_S16x2048x4x64_0_1_2_3 (res_main_v28 V0)))) : FVec Ideal S16x2048x4x64 .f32)⟩, ⟨S16x2048x4x64, ((addf (mulf (res_main_v29 V0) (broadcastInDim S16x2048x4x64 ![0, 1, 2, 3] bcast_S1x2048x1x64_S16x2048x4x64_0_1_2_3 (res_main_v28 V0))) (mulf (res_main_v30 V0) (broadcastInDim S16x2048x4x64 ![0, 1, 2, 3] bcast_S1x2048x1x64_S16x2048x4x64_0_1_2_3 (res_main_v26 V0)))) : FVec Ideal S16x2048x4x64 .f32)⟩, ⟨S16x2048x4x0, ((extractStridedSlice S16x2048x4x0 ![0, 0, 0, 128] (res_main_v18 V0) slices_S16x2048x4x128_S16x2048x4x0_0_0_0_128) : FVec Ideal S16x2048x4x0 .f32)⟩] concatenates_S16x2048x4x64_S16x2048x4x64_S16x2048x4x0_S16x2048x4x128_d3 : FVec Ideal S16x2048x4x128 .f32)) shapeCasts_S16x2048x4x128_S32768x512) bitsLt_bf16_f32

/-- The retention keys. -/
abbrev t_rk : FVec Ideal S32768x512 .bf16 :=
  truncf .bf16 (shapeCast _ (mulf ((concatenate S16x2048x4x128 3 [⟨S16x2048x4x64, ((subf (mulf (res_main_v54 V0) (broadcastInDim S16x2048x4x64 ![0, 1, 2, 3] bcast_S1x2048x1x64_S16x2048x4x64_0_1_2_3 (res_main_v51 V0))) (mulf (res_main_v55 V0) (broadcastInDim S16x2048x4x64 ![0, 1, 2, 3] bcast_S1x2048x1x64_S16x2048x4x64_0_1_2_3 (res_main_v53 V0)))) : FVec Ideal S16x2048x4x64 .f32)⟩, ⟨S16x2048x4x64, ((addf (mulf (res_main_v54 V0) (broadcastInDim S16x2048x4x64 ![0, 1, 2, 3] bcast_S1x2048x1x64_S16x2048x4x64_0_1_2_3 (res_main_v53 V0))) (mulf (res_main_v55 V0) (broadcastInDim S16x2048x4x64 ![0, 1, 2, 3] bcast_S1x2048x1x64_S16x2048x4x64_0_1_2_3 (res_main_v51 V0)))) : FVec Ideal S16x2048x4x64 .f32)⟩, ⟨S16x2048x4x0, ((extractStridedSlice S16x2048x4x0 ![0, 0, 0, 128] (res_main_v43 V0) slices_S16x2048x4x128_S16x2048x4x0_0_0_0_128) : FVec Ideal S16x2048x4x0 .f32)⟩] concatenates_S16x2048x4x64_S16x2048x4x64_S16x2048x4x0_S16x2048x4x128_d3 : FVec Ideal S16x2048x4x128 .f32)) (broadcastInDim S16x2048x4x128 ![] bcast_S_S16x2048x4x128 (constant S_ .f32 0x3DB504F3#32))) shapeCasts_S16x2048x4x128_S32768x512) bitsLt_bf16_f32

/-- The retention values. -/
abbrev t_rv : FVec Ideal S32768x1024 .bf16 :=
  truncf .bf16 (shapeCast _ (shapeCast _ (extractStridedSlice S16x2048x1024 ![0, 0, 1024] (res_main_v1 V0) slices_S16x2048x6472_S16x2048x1024_0_0_1024) shapeCasts_S16x2048x1024_S16x2048x4x256) shapeCasts_S16x2048x4x256_S32768x1024) bitsLt_bf16_f32

/-- The retention gates. -/
abbrev t_rg : FVec Ideal S32768x1024 .f32 :=
  shapeCast _ (extractStridedSlice S16x2048x1024 ![0, 0, 2048] (res_main_v1 V0) slices_S16x2048x6472_S16x2048x1024_0_0_2048) shapeCasts_S16x2048x1024_S32768x1024

/-- The attention queries. -/
abbrev t_aq : FVec Ideal S32768x512 .bf16 :=
  truncf .bf16 (shapeCast _ ((concatenate S16x2048x8x64 3 [⟨S16x2048x8x8, ((subf (mulf (res_main_v92 V0) (broadcastInDim S16x2048x8x8 ![0, 1, 2, 3] bcast_S1x2048x1x8_S16x2048x8x8_0_1_2_3 (res_main_v89 V0))) (mulf (res_main_v93 V0) (broadcastInDim S16x2048x8x8 ![0, 1, 2, 3] bcast_S1x2048x1x8_S16x2048x8x8_0_1_2_3 (res_main_v91 V0)))) : FVec Ideal S16x2048x8x8 .f32)⟩, ⟨S16x2048x8x8, ((addf (mulf (res_main_v92 V0) (broadcastInDim S16x2048x8x8 ![0, 1, 2, 3] bcast_S1x2048x1x8_S16x2048x8x8_0_1_2_3 (res_main_v91 V0))) (mulf (res_main_v93 V0) (broadcastInDim S16x2048x8x8 ![0, 1, 2, 3] bcast_S1x2048x1x8_S16x2048x8x8_0_1_2_3 (res_main_v89 V0)))) : FVec Ideal S16x2048x8x8 .f32)⟩, ⟨S16x2048x8x48, ((extractStridedSlice S16x2048x8x48 ![0, 0, 0, 16] (res_main_v81 V0) slices_S16x2048x8x64_S16x2048x8x48_0_0_0_16) : FVec Ideal S16x2048x8x48 .f32)⟩] concatenates_S16x2048x8x8_S16x2048x8x8_S16x2048x8x48_S16x2048x8x64_d3 : FVec Ideal S16x2048x8x64 .f32)) shapeCasts_S16x2048x8x64_S32768x512) bitsLt_bf16_f32

/-- The attention keys. -/
abbrev t_ak : FVec Ideal S32768x128 .f32 :=
  shapeCast _ ((concatenate S16x2048x2x64 3 [⟨S16x2048x2x8, ((subf (mulf (res_main_v117 V0) (broadcastInDim S16x2048x2x8 ![0, 1, 2, 3] bcast_S1x2048x1x8_S16x2048x2x8_0_1_2_3 (res_main_v114 V0))) (mulf (res_main_v118 V0) (broadcastInDim S16x2048x2x8 ![0, 1, 2, 3] bcast_S1x2048x1x8_S16x2048x2x8_0_1_2_3 (res_main_v116 V0)))) : FVec Ideal S16x2048x2x8 .f32)⟩, ⟨S16x2048x2x8, ((addf (mulf (res_main_v117 V0) (broadcastInDim S16x2048x2x8 ![0, 1, 2, 3] bcast_S1x2048x1x8_S16x2048x2x8_0_1_2_3 (res_main_v116 V0))) (mulf (res_main_v118 V0) (broadcastInDim S16x2048x2x8 ![0, 1, 2, 3] bcast_S1x2048x1x8_S16x2048x2x8_0_1_2_3 (res_main_v114 V0)))) : FVec Ideal S16x2048x2x8 .f32)⟩, ⟨S16x2048x2x48, ((extractStridedSlice S16x2048x2x48 ![0, 0, 0, 16] (res_main_v106 V0) slices_S16x2048x2x64_S16x2048x2x48_0_0_0_16) : FVec Ideal S16x2048x2x48 .f32)⟩] concatenates_S16x2048x2x8_S16x2048x2x8_S16x2048x2x48_S16x2048x2x64_d3 : FVec Ideal S16x2048x2x64 .f32)) shapeCasts_S16x2048x2x64_S32768x128

/-- The attention values. -/
abbrev t_av : FVec Ideal S32768x128 .f32 :=
  shapeCast _ (shapeCast _ (extractStridedSlice S16x2048x128 ![0, 0, 3712] (res_main_v1 V0) slices_S16x2048x6472_S16x2048x128_0_0_3712) shapeCasts_S16x2048x128_S16x2048x2x64) shapeCasts_S16x2048x2x64_S32768x128

/-- The indexer queries. -/
abbrev t_iq : FVec Ideal S32768x512 .bf16 :=
  truncf .bf16 (shapeCast _ ((concatenate S16x2048x8x64 3 [⟨S16x2048x8x8, ((subf (mulf (res_main_v153 V0) (broadcastInDim S16x2048x8x8 ![0, 1, 2, 3] bcast_S1x2048x1x8_S16x2048x8x8_0_1_2_3 (res_main_v150 V0))) (mulf (res_main_v154 V0) (broadcastInDim S16x2048x8x8 ![0, 1, 2, 3] bcast_S1x2048x1x8_S16x2048x8x8_0_1_2_3 (res_main_v152 V0)))) : FVec Ideal S16x2048x8x8 .f32)⟩, ⟨S16x2048x8x8, ((addf (mulf (res_main_v153 V0) (broadcastInDim S16x2048x8x8 ![0, 1, 2, 3] bcast_S1x2048x1x8_S16x2048x8x8_0_1_2_3 (res_main_v152 V0))) (mulf (res_main_v154 V0) (broadcastInDim S16x2048x8x8 ![0, 1, 2, 3] bcast_S1x2048x1x8_S16x2048x8x8_0_1_2_3 (res_main_v150 V0)))) : FVec Ideal S16x2048x8x8 .f32)⟩, ⟨S16x2048x8x48, ((extractStridedSlice S16x2048x8x48 ![0, 0, 0, 16] (res_main_v142 V0) slices_S16x2048x8x64_S16x2048x8x48_0_0_0_16) : FVec Ideal S16x2048x8x48 .f32)⟩] concatenates_S16x2048x8x8_S16x2048x8x8_S16x2048x8x48_S16x2048x8x64_d3 : FVec Ideal S16x2048x8x64 .f32)) shapeCasts_S16x2048x8x64_S32768x512) bitsLt_bf16_f32

/-- The indexer's keys, weights and padding. -/
abbrev t_ikw : FVec Ideal S32768x128 .f32 :=
  shapeCast _ ((concatenate S16x2048x128 2 [⟨S16x2048x64, ((shapeCast _ ((concatenate S16x2048x1x64 3 [⟨S16x2048x1x8, ((subf (mulf (res_main_v178 V0) (broadcastInDim S16x2048x1x8 ![0, 1, 2, 3] bcast_S1x2048x1x8_S16x2048x1x8_0_1_2_3 (res_main_v175 V0))) (mulf (res_main_v179 V0) (broadcastInDim S16x2048x1x8 ![0, 1, 2, 3] bcast_S1x2048x1x8_S16x2048x1x8_0_1_2_3 (res_main_v177 V0)))) : FVec Ideal S16x2048x1x8 .f32)⟩, ⟨S16x2048x1x8, ((addf (mulf (res_main_v178 V0) (broadcastInDim S16x2048x1x8 ![0, 1, 2, 3] bcast_S1x2048x1x8_S16x2048x1x8_0_1_2_3 (res_main_v177 V0))) (mulf (res_main_v179 V0) (broadcastInDim S16x2048x1x8 ![0, 1, 2, 3] bcast_S1x2048x1x8_S16x2048x1x8_0_1_2_3 (res_main_v175 V0)))) : FVec Ideal S16x2048x1x8 .f32)⟩, ⟨S16x2048x1x48, ((extractStridedSlice S16x2048x1x48 ![0, 0, 0, 16] (res_main_v167 V0) slices_S16x2048x1x64_S16x2048x1x48_0_0_0_16) : FVec Ideal S16x2048x1x48 .f32)⟩] concatenates_S16x2048x1x8_S16x2048x1x8_S16x2048x1x48_S16x2048x1x64_d3 : FVec Ideal S16x2048x1x64 .f32)) shapeCasts_S16x2048x1x64_S16x2048x64) : FVec Ideal S16x2048x64 .f32)⟩, ⟨S16x2048x8, ((mulf (extractStridedSlice S16x2048x8 ![0, 0, 4416] (res_main_v1 V0) slices_S16x2048x6472_S16x2048x8_0_0_4416) (broadcastInDim S16x2048x8 ![] bcast_S_S16x2048x8 (constant S_ .f32 0x3EB504F3#32))) : FVec Ideal S16x2048x8 .f32)⟩, ⟨S16x2048x56, ((broadcastInDim S16x2048x56 ![] bcast_S_S16x2048x56 (constant S_ .f32 0x00000000#32)) : FVec Ideal S16x2048x56 .f32)⟩] concatenates_S16x2048x64_S16x2048x8_S16x2048x56_S16x2048x128_d2 : FVec Ideal S16x2048x128 .f32)) shapeCasts_S16x2048x128_S32768x128

/-- The first merge gates. -/
abbrev t_ga : FVec Ideal S32768x1024 .f32 :=
  shapeCast _ (extractStridedSlice S16x2048x1024 ![0, 0, 4424] (res_main_v1 V0) slices_S16x2048x6472_S16x2048x1024_0_0_4424) shapeCasts_S16x2048x1024_S32768x1024

/-- The second merge gates. -/
abbrev t_gb : FVec Ideal S32768x1024 .f32 :=
  shapeCast _ (extractStridedSlice S16x2048x1024 ![0, 0, 5448] (res_main_v1 V0) slices_S16x2048x6472_S16x2048x1024_0_0_5448) shapeCasts_S16x2048x1024_S32768x1024

abbrev refX : (⟨3, ![16, 2048, 1024]⟩ : Shape).Idx → EReal := V0 (Proc.devRef .tc main_arg0)
abbrev refW : (⟨2, ![1024, 6472]⟩ : Shape).Idx → EReal := V0 (Proc.devRef .tc main_arg1)

theorem product_at (b : Fin 16) (p : Fin 2048) (j : Fin 6472) :
    res_main_v1 V0 (ix3 b p j) = ∑ k : Fin 1024, rd3 (refX V0) b p k * rd2 (refW V0) k j := by
  unfold res_main_v1
  clean_types
  pointwise
  exact Finset.sum_congr rfl fun k _ => congrArg₂ (· * ·) (rd3_ix (refX V0) b p k) (rd2_ix (refW V0) k j)

theorem product_ix (n : Fin 32768) (h1 : n.val / 2048 < 16) (h2 : n.val % 2048 < 2048) (j : ℕ) (h : j < 6472) :
    res_main_v1 V0 (ix3 ⟨n.val / 2048, h1⟩ ⟨n.val % 2048, h2⟩ ⟨j, h⟩) = proj (refX V0) (refW V0) n j :=
  product_at V0 ⟨n.val / 2048, h1⟩ ⟨n.val % 2048, h2⟩ ⟨j, h⟩

theorem cos24 (p a : ℕ) (hp : p < 2048) (h : a < 64) : Ideal.cos (res_main_v24 V0 (ix2 ⟨p, hp⟩ ⟨a, h⟩)) = cosR p a :=
  cosR_ix ⟨p, hp⟩ a h
theorem sin24 (p a : ℕ) (hp : p < 2048) (h : a < 64) : Ideal.sin (res_main_v24 V0 (ix2 ⟨p, hp⟩ ⟨a, h⟩)) = sinR p a :=
  sinR_ix ⟨p, hp⟩ a h
theorem cos49 (p a : ℕ) (hp : p < 2048) (h : a < 64) : Ideal.cos (res_main_v49 V0 (ix2 ⟨p, hp⟩ ⟨a, h⟩)) = cosR p a :=
  cosR_ix ⟨p, hp⟩ a h
theorem sin49 (p a : ℕ) (hp : p < 2048) (h : a < 64) : Ideal.sin (res_main_v49 V0 (ix2 ⟨p, hp⟩ ⟨a, h⟩)) = sinR p a :=
  sinR_ix ⟨p, hp⟩ a h
theorem cos87 (p a : ℕ) (hp : p < 2048) (h : a < 8) : Ideal.cos (res_main_v87 V0 (ix2 ⟨p, hp⟩ ⟨a, h⟩)) = cosP p a :=
  cosP_ix ⟨p, hp⟩ a h
theorem sin87 (p a : ℕ) (hp : p < 2048) (h : a < 8) : Ideal.sin (res_main_v87 V0 (ix2 ⟨p, hp⟩ ⟨a, h⟩)) = sinP p a :=
  sinP_ix ⟨p, hp⟩ a h
theorem cos112 (p a : ℕ) (hp : p < 2048) (h : a < 8) : Ideal.cos (res_main_v112 V0 (ix2 ⟨p, hp⟩ ⟨a, h⟩)) = cosP p a :=
  cosP_ix ⟨p, hp⟩ a h
theorem sin112 (p a : ℕ) (hp : p < 2048) (h : a < 8) : Ideal.sin (res_main_v112 V0 (ix2 ⟨p, hp⟩ ⟨a, h⟩)) = sinP p a :=
  sinP_ix ⟨p, hp⟩ a h
theorem cos148 (p a : ℕ) (hp : p < 2048) (h : a < 8) : Ideal.cos (res_main_v148 V0 (ix2 ⟨p, hp⟩ ⟨a, h⟩)) = cosP p a :=
  cosP_ix ⟨p, hp⟩ a h
theorem sin148 (p a : ℕ) (hp : p < 2048) (h : a < 8) : Ideal.sin (res_main_v148 V0 (ix2 ⟨p, hp⟩ ⟨a, h⟩)) = sinP p a :=
  sinP_ix ⟨p, hp⟩ a h
theorem cos173 (p a : ℕ) (hp : p < 2048) (h : a < 8) : Ideal.cos (res_main_v173 V0 (ix2 ⟨p, hp⟩ ⟨a, h⟩)) = cosP p a :=
  cosP_ix ⟨p, hp⟩ a h
theorem sin173 (p a : ℕ) (hp : p < 2048) (h : a < 8) : Ideal.sin (res_main_v173 V0 (ix2 ⟨p, hp⟩ ⟨a, h⟩)) = sinP p a :=
  sinP_ix ⟨p, hp⟩ a h

theorem sub_close (D C S : ℕ → EReal) (a b c d a' b' c' d' : ℕ) (h1 : a = a') (h2 : b = b') (h3 : c = c') (h4 : d = d') :
    D a * C b - D c * S d = D a' * C b' - D c' * S d' := by
  subst h1 h2 h3 h4
  rfl

theorem add_close (D C S : ℕ → EReal) (a b c d a' b' c' d' : ℕ) (h1 : a = a') (h2 : b = b') (h3 : c = c') (h4 : d = d') :
    D a * S b + D c * C d = D a' * S b' + D c' * C d' := by
  subst h1 h2 h3 h4
  rfl

/-- The retention queries. -/
theorem rq (n : Fin 32768) (j : Fin 512) :
    t_rq V0 (ix2 n j)
      = rotR (proj (refX V0) (refW V0) n) (n % 2048) 0 j := by
  unfold t_rq
  pointwise [res_main_v29, res_main_v30, res_main_v26, res_main_v28, res_main_v18]
  simp only [product_ix V0 n, cos24 V0, sin24 V0]
  unfold rotR
  by_cases a : j.val % 128 < 64
  · rw [dif_pos a, if_pos a]
    refine sub_close (proj (refX V0) (refW V0) n) (cosR (n.val % 2048)) (sinR (n.val % 2048)) _ _ _ _ _ _ _ _ ?_ ?_ ?_ ?_ <;> omega
  · rw [dif_neg a, dif_pos (by omega), if_neg a]
    refine add_close (proj (refX V0) (refW V0) n) (cosR (n.val % 2048)) (sinR (n.val % 2048)) _ _ _ _ _ _ _ _ ?_ ?_ ?_ ?_ <;> omega

/-- The retention keys. -/
theorem rk (n : Fin 32768) (j : Fin 512) :
    t_rk V0 (ix2 n j)
      = rotR (proj (refX V0) (refW V0) n) (n % 2048) 512 j * Ideal.ofBits .f32 0x3DB504F3#32 := by
  unfold t_rk
  pointwise [res_main_v54, res_main_v55, res_main_v51, res_main_v53, res_main_v43]
  simp only [product_ix V0 n, cos49 V0, sin49 V0]
  refine congrArg (· * _) ?_
  unfold rotR
  by_cases a : j.val % 128 < 64
  · rw [dif_pos a, if_pos a]
    refine sub_close (proj (refX V0) (refW V0) n) (cosR (n.val % 2048)) (sinR (n.val % 2048)) _ _ _ _ _ _ _ _ ?_ ?_ ?_ ?_ <;> omega
  · rw [dif_neg a, dif_pos (by omega), if_neg a]
    refine add_close (proj (refX V0) (refW V0) n) (cosR (n.val % 2048)) (sinR (n.val % 2048)) _ _ _ _ _ _ _ _ ?_ ?_ ?_ ?_ <;> omega

/-- The attention queries. -/
theorem aq (n : Fin 32768) (j : Fin 512) :
    t_aq V0 (ix2 n j)
      = rotP (proj (refX V0) (refW V0) n) (n % 2048) 3072 j := by
  unfold t_aq
  pointwise [res_main_v92, res_main_v93, res_main_v89, res_main_v91, res_main_v81]
  simp only [product_ix V0 n, cos87 V0, sin87 V0]
  unfold rotP
  by_cases a : j.val % 64 < 8
  · rw [dif_pos a, if_pos a]
    refine sub_close (proj (refX V0) (refW V0) n) (cosP (n.val % 2048)) (sinP (n.val % 2048)) _ _ _ _ _ _ _ _ ?_ ?_ ?_ ?_ <;> omega
  · by_cases b : j.val % 64 < 16
    · rw [dif_neg a, dif_pos (by omega), if_neg a, if_pos b]
      refine add_close (proj (refX V0) (refW V0) n) (cosP (n.val % 2048)) (sinP (n.val % 2048)) _ _ _ _ _ _ _ _ ?_ ?_ ?_ ?_ <;> omega
    · rw [dif_neg a, dif_neg (by omega), if_neg a, if_neg b]
      refine congrArg (proj (refX V0) (refW V0) n) ?_
      omega

/-- The attention keys. -/
theorem ak (n : Fin 32768) (j : Fin 128) :
    t_ak V0 (ix2 n j)
      = rotP (proj (refX V0) (refW V0) n) (n % 2048) 3584 j := by
  unfold t_ak
  pointwise [res_main_v117, res_main_v118, res_main_v114, res_main_v116, res_main_v106]
  simp only [product_ix V0 n, cos112 V0, sin112 V0]
  unfold rotP
  by_cases a : j.val % 64 < 8
  · rw [dif_pos a, if_pos a]
    refine sub_close (proj (refX V0) (refW V0) n) (cosP (n.val % 2048)) (sinP (n.val % 2048)) _ _ _ _ _ _ _ _ ?_ ?_ ?_ ?_ <;> omega
  · by_cases b : j.val % 64 < 16
    · rw [dif_neg a, dif_pos (by omega), if_neg a, if_pos b]
      refine add_close (proj (refX V0) (refW V0) n) (cosP (n.val % 2048)) (sinP (n.val % 2048)) _ _ _ _ _ _ _ _ ?_ ?_ ?_ ?_ <;> omega
    · rw [dif_neg a, dif_neg (by omega), if_neg a, if_neg b]
      refine congrArg (proj (refX V0) (refW V0) n) ?_
      omega

/-- The indexer queries. -/
theorem iq (n : Fin 32768) (j : Fin 512) :
    t_iq V0 (ix2 n j)
      = rotP (proj (refX V0) (refW V0) n) (n % 2048) 3840 j := by
  unfold t_iq
  pointwise [res_main_v153, res_main_v154, res_main_v150, res_main_v152, res_main_v142]
  simp only [product_ix V0 n, cos148 V0, sin148 V0]
  unfold rotP
  by_cases a : j.val % 64 < 8
  · rw [dif_pos a, if_pos a]
    refine sub_close (proj (refX V0) (refW V0) n) (cosP (n.val % 2048)) (sinP (n.val % 2048)) _ _ _ _ _ _ _ _ ?_ ?_ ?_ ?_ <;> omega
  · by_cases b : j.val % 64 < 16
    · rw [dif_neg a, dif_pos (by omega), if_neg a, if_pos b]
      refine add_close (proj (refX V0) (refW V0) n) (cosP (n.val % 2048)) (sinP (n.val % 2048)) _ _ _ _ _ _ _ _ ?_ ?_ ?_ ?_ <;> omega
    · rw [dif_neg a, dif_neg (by omega), if_neg a, if_neg b]
      refine congrArg (proj (refX V0) (refW V0) n) ?_
      omega

/-- The retention values. -/
theorem rv (n : Fin 32768) (j : Fin 1024) :
    t_rv V0 (ix2 n j)
      = proj (refX V0) (refW V0) n (1024 + j) := by
  unfold t_rv
  pointwise
  exact product_ix V0 n _ _ _ _

/-- The retention gates. -/
theorem rg (n : Fin 32768) (j : Fin 1024) :
    t_rg V0 (ix2 n j)
      = proj (refX V0) (refW V0) n (2048 + j) := by
  unfold t_rg
  pointwise
  exact product_ix V0 n _ _ _ _

/-- The attention values. -/
theorem av (n : Fin 32768) (j : Fin 128) :
    t_av V0 (ix2 n j)
      = proj (refX V0) (refW V0) n (3712 + j) := by
  unfold t_av
  pointwise
  exact product_ix V0 n _ _ _ _

/-- The first merge gates. -/
theorem ga (n : Fin 32768) (j : Fin 1024) :
    t_ga V0 (ix2 n j)
      = proj (refX V0) (refW V0) n (4424 + j) := by
  unfold t_ga
  pointwise
  exact product_ix V0 n _ _ _ _

/-- The second merge gates. -/
theorem gb (n : Fin 32768) (j : Fin 1024) :
    t_gb V0 (ix2 n j)
      = proj (refX V0) (refW V0) n (5448 + j) := by
  unfold t_gb
  pointwise
  exact product_ix V0 n _ _ _ _

/-- The indexer's keys, weights and padding. -/
theorem ikw (n : Fin 32768) (j : Fin 128) :
    t_ikw V0 (ix2 n j)
      = keysWeights (proj (refX V0) (refW V0) n) (n % 2048) j := by
  unfold t_ikw
  pointwise [res_main_v178, res_main_v179, res_main_v175, res_main_v177, res_main_v167]
  simp only [product_ix V0 n, cos173 V0, sin173 V0]
  unfold keysWeights
  by_cases a : j.val < 64
  · have e : j.val % 64 = j.val := Nat.mod_eq_of_lt a
    rw [dif_pos a, if_pos a]
    unfold rotP
    rw [e]
    by_cases b : j.val < 8
    · rw [dif_pos b, if_pos b]
      refine sub_close (proj (refX V0) (refW V0) n) (cosP (n.val % 2048)) (sinP (n.val % 2048)) _ _ _ _ _ _ _ _ ?_ ?_ ?_ ?_ <;> omega
    · by_cases b' : j.val < 16
      · rw [dif_neg b, dif_pos (by omega), if_neg b, if_pos b']
        refine add_close (proj (refX V0) (refW V0) n) (cosP (n.val % 2048)) (sinP (n.val % 2048)) _ _ _ _ _ _ _ _ ?_ ?_ ?_ ?_ <;> omega
      · rw [dif_neg b, dif_neg (by omega), if_neg b, if_neg b']
        refine congrArg (proj (refX V0) (refW V0) n) ?_
        omega
  · rw [dif_neg a, if_neg a]
    by_cases b : j.val < 72
    · rw [dif_pos (by omega), if_pos b]
      refine congrArg (· * _) (congrArg (proj (refX V0) (refW V0) n) ?_)
      omega
    · rw [dif_neg (by omega), if_neg b]

end Cert.Proof.ProjectRef

end
-- ==== Proof.Proj.Same.lean ====
/-
  The projection's arrays and the reference's results hold the same numbers, entry by entry.
-/
module

public import proofs.«01_k».proof.Proof.Proj.Ref

@[expose] public section

set_option maxRecDepth 16384

noncomputable section

namespace Cert.Proof.Project

open Idealize.ShloMosaic Idealize.ShloMosaic.TcCoe Idealize.SL.Sem

section Kernel

open Cert.Kernel2Ideal Cert.Kernel2Ideal.Gen

variable (m : (ℓ : Loc nD τ sig) → Buf (Elt Ideal) ℓ) (c : Dev nD)

theorem pos_lt (n : Fin 32768) : n.val % 2048 < 2048 := by omega

theorem ker3 (n : Fin 32768) (j : Fin 512) :
    (dats m 0 c).arrAt 3 cfg0.N (ix2 n j) = rotR (proj (argX m c) (argW m c) n) (n % 2048) 0 j :=
  (arr3 m c n j).trans (fullA_eq (rows m c) (wts m c) (tabs m c) n (proj (argX m c) (argW m c) n) (fun j h => dot_lo m c n j h) (fun a h => tabs_at m c (n.val % 2048) a (pos_lt n) h) 0 j (by omega))

theorem ker4 (n : Fin 32768) (j : Fin 512) :
    (dats m 0 c).arrAt 4 cfg0.N (ix2 n j) = rotR (proj (argX m c) (argW m c) n) (n % 2048) 512 j * Ideal.ofBits .f32 0x3DB504F3#32 :=
  (arr4 m c n j).trans (congrArg (· * _) (fullA_eq (rows m c) (wts m c) (tabs m c) n (proj (argX m c) (argW m c) n) (fun j h => dot_lo m c n j h) (fun a h => tabs_at m c (n.val % 2048) a (pos_lt n) h) 512 j (by omega)))

theorem ker5 (n : Fin 32768) (j : Fin 1024) :
    (dats m 0 c).arrAt 5 cfg0.N (ix2 n j) = proj (argX m c) (argW m c) n (1024 + j) :=
  (arr5 m c n j).trans (dot_lo m c n (1024 + j) (by omega))

theorem ker6 (n : Fin 32768) (j : Fin 1024) :
    (dats m 0 c).arrAt 6 cfg0.N (ix2 n j) = proj (argX m c) (argW m c) n (2048 + j) :=
  (arr6 m c n j).trans (dot_lo m c n (2048 + j) (by omega))

theorem ker7 (n : Fin 32768) (j : Fin 512) :
    (dats m 0 c).arrAt 7 cfg0.N (ix2 n j) = rotP (proj (argX m c) (argW m c) n) (n % 2048) 3072 j :=
  (arr7 m c n j).trans (partA_eq (rows m c) (wts m c) (tabs m c) n (proj (argX m c) (argW m c) n) (fun j h => dot_lo m c n j h) (fun a h => tabs_at m c (n.val % 2048) a (pos_lt n) h) 3072 j (by omega))

theorem ker8 (n : Fin 32768) (j : Fin 128) :
    (dats m 0 c).arrAt 8 cfg0.N (ix2 n j) = rotP (proj (argX m c) (argW m c) n) (n % 2048) 3584 j :=
  (arr8 m c n j).trans (partA_eq (rows m c) (wts m c) (tabs m c) n (proj (argX m c) (argW m c) n) (fun j h => dot_lo m c n j h) (fun a h => tabs_at m c (n.val % 2048) a (pos_lt n) h) 3584 j (by omega))

theorem ker9 (n : Fin 32768) (j : Fin 128) :
    (dats m 0 c).arrAt 9 cfg0.N (ix2 n j) = proj (argX m c) (argW m c) n (3712 + j) :=
  (arr9 m c n j).trans (dot_lo m c n (3712 + j) (by omega))

theorem ker10 (n : Fin 32768) (j : Fin 512) :
    (dats m 0 c).arrAt 10 cfg0.N (ix2 n j) = rotP (proj (argX m c) (argW m c) n) (n % 2048) 3840 j :=
  (arr10 m c n j).trans (partA_eq (rows m c) (wts m c) (tabs m c) n (proj (argX m c) (argW m c) n) (fun j h => dot_lo m c n j h) (fun a h => tabs_at m c (n.val % 2048) a (pos_lt n) h) 3840 j (by omega))

theorem ker11 (n : Fin 32768) (j : Fin 128) :
    (dats m 0 c).arrAt 11 cfg0.N (ix2 n j) = keysWeights (proj (argX m c) (argW m c) n) (n % 2048) j :=
  (arr11 m c n j).trans (partA_keys (rows m c) (wts m c) (tabs m c) n (proj (argX m c) (argW m c) n) (fun j h => dot_lo m c n j h) (fun a h => tabs_at m c (n.val % 2048) a (pos_lt n) h) j j.isLt)

theorem ker12 (n : Fin 32768) (j : Fin 1024) :
    (dats m 0 c).arrAt 12 cfg0.N (ix2 n j) = proj (argX m c) (argW m c) n (4424 + j) :=
  (arr12 m c n j).trans ((dot_hi m c n (4480 + j) (by omega) (by omega)).trans (congrArg (proj (argX m c) (argW m c) n) (by omega)))

theorem ker13 (n : Fin 32768) (j : Fin 1024) :
    (dats m 0 c).arrAt 13 cfg0.N (ix2 n j) = proj (argX m c) (argW m c) n (5448 + j) :=
  (arr13 m c n j).trans ((dot_hi m c n (5504 + j) (by omega) (by omega)).trans (congrArg (proj (argX m c) (argW m c) n) (by omega)))

end Kernel

section Both

variable (m : (ℓ : Loc Cert.Kernel2Ideal.nD Cert.Kernel2Ideal.τ Cert.Kernel2Ideal.sig) → Buf (Elt Ideal) ℓ)
  (c : Dev Cert.Kernel2Ideal.nD) (V0 : Valuation Cert.Reference2Ideal.τ Cert.Reference2Ideal.sig (Elt Ideal))
  (hX : ProjectRef.refX V0 = argX m c) (hW : ProjectRef.refW V0 = argW m c)

include hX hW

theorem same3 : (ProjectRef.t_rq V0 : FVec Ideal ⟨2, ![32768, 512]⟩ .f32) = (Cert.Kernel2Ideal.Gen.dats m 0 c).arrAt 3 Cert.Kernel2Ideal.cfg0.N := by
  funext i
  obtain ⟨n, j, rfl⟩ : ∃ (n : Fin 32768) (j : Fin 512), i = ix2 n j := ⟨i 0, i 1, eq_ix2 i⟩
  refine (ProjectRef.rq V0 n j).trans (Eq.trans ?_ (ker3 m c n j).symm)
  rw [hX, hW]

theorem same4 : (ProjectRef.t_rk V0 : FVec Ideal ⟨2, ![32768, 512]⟩ .f32) = (Cert.Kernel2Ideal.Gen.dats m 0 c).arrAt 4 Cert.Kernel2Ideal.cfg0.N := by
  funext i
  obtain ⟨n, j, rfl⟩ : ∃ (n : Fin 32768) (j : Fin 512), i = ix2 n j := ⟨i 0, i 1, eq_ix2 i⟩
  refine (ProjectRef.rk V0 n j).trans (Eq.trans ?_ (ker4 m c n j).symm)
  rw [hX, hW]

theorem same5 : (ProjectRef.t_rv V0 : FVec Ideal ⟨2, ![32768, 1024]⟩ .f32) = (Cert.Kernel2Ideal.Gen.dats m 0 c).arrAt 5 Cert.Kernel2Ideal.cfg0.N := by
  funext i
  obtain ⟨n, j, rfl⟩ : ∃ (n : Fin 32768) (j : Fin 1024), i = ix2 n j := ⟨i 0, i 1, eq_ix2 i⟩
  refine (ProjectRef.rv V0 n j).trans (Eq.trans ?_ (ker5 m c n j).symm)
  rw [hX, hW]

theorem same6 : (ProjectRef.t_rg V0 : FVec Ideal ⟨2, ![32768, 1024]⟩ .f32) = (Cert.Kernel2Ideal.Gen.dats m 0 c).arrAt 6 Cert.Kernel2Ideal.cfg0.N := by
  funext i
  obtain ⟨n, j, rfl⟩ : ∃ (n : Fin 32768) (j : Fin 1024), i = ix2 n j := ⟨i 0, i 1, eq_ix2 i⟩
  refine (ProjectRef.rg V0 n j).trans (Eq.trans ?_ (ker6 m c n j).symm)
  rw [hX, hW]

theorem same7 : (ProjectRef.t_aq V0 : FVec Ideal ⟨2, ![32768, 512]⟩ .f32) = (Cert.Kernel2Ideal.Gen.dats m 0 c).arrAt 7 Cert.Kernel2Ideal.cfg0.N := by
  funext i
  obtain ⟨n, j, rfl⟩ : ∃ (n : Fin 32768) (j : Fin 512), i = ix2 n j := ⟨i 0, i 1, eq_ix2 i⟩
  refine (ProjectRef.aq V0 n j).trans (Eq.trans ?_ (ker7 m c n j).symm)
  rw [hX, hW]

theorem same8 : (ProjectRef.t_ak V0 : FVec Ideal ⟨2, ![32768, 128]⟩ .f32) = (Cert.Kernel2Ideal.Gen.dats m 0 c).arrAt 8 Cert.Kernel2Ideal.cfg0.N := by
  funext i
  obtain ⟨n, j, rfl⟩ : ∃ (n : Fin 32768) (j : Fin 128), i = ix2 n j := ⟨i 0, i 1, eq_ix2 i⟩
  refine (ProjectRef.ak V0 n j).trans (Eq.trans ?_ (ker8 m c n j).symm)
  rw [hX, hW]

theorem same9 : (ProjectRef.t_av V0 : FVec Ideal ⟨2, ![32768, 128]⟩ .f32) = (Cert.Kernel2Ideal.Gen.dats m 0 c).arrAt 9 Cert.Kernel2Ideal.cfg0.N := by
  funext i
  obtain ⟨n, j, rfl⟩ : ∃ (n : Fin 32768) (j : Fin 128), i = ix2 n j := ⟨i 0, i 1, eq_ix2 i⟩
  refine (ProjectRef.av V0 n j).trans (Eq.trans ?_ (ker9 m c n j).symm)
  rw [hX, hW]

theorem same10 : (ProjectRef.t_iq V0 : FVec Ideal ⟨2, ![32768, 512]⟩ .f32) = (Cert.Kernel2Ideal.Gen.dats m 0 c).arrAt 10 Cert.Kernel2Ideal.cfg0.N := by
  funext i
  obtain ⟨n, j, rfl⟩ : ∃ (n : Fin 32768) (j : Fin 512), i = ix2 n j := ⟨i 0, i 1, eq_ix2 i⟩
  refine (ProjectRef.iq V0 n j).trans (Eq.trans ?_ (ker10 m c n j).symm)
  rw [hX, hW]

theorem same11 : (ProjectRef.t_ikw V0 : FVec Ideal ⟨2, ![32768, 128]⟩ .f32) = (Cert.Kernel2Ideal.Gen.dats m 0 c).arrAt 11 Cert.Kernel2Ideal.cfg0.N := by
  funext i
  obtain ⟨n, j, rfl⟩ : ∃ (n : Fin 32768) (j : Fin 128), i = ix2 n j := ⟨i 0, i 1, eq_ix2 i⟩
  refine (ProjectRef.ikw V0 n j).trans (Eq.trans ?_ (ker11 m c n j).symm)
  rw [hX, hW]

theorem same12 : (ProjectRef.t_ga V0 : FVec Ideal ⟨2, ![32768, 1024]⟩ .f32) = (Cert.Kernel2Ideal.Gen.dats m 0 c).arrAt 12 Cert.Kernel2Ideal.cfg0.N := by
  funext i
  obtain ⟨n, j, rfl⟩ : ∃ (n : Fin 32768) (j : Fin 1024), i = ix2 n j := ⟨i 0, i 1, eq_ix2 i⟩
  refine (ProjectRef.ga V0 n j).trans (Eq.trans ?_ (ker12 m c n j).symm)
  rw [hX, hW]

theorem same13 : (ProjectRef.t_gb V0 : FVec Ideal ⟨2, ![32768, 1024]⟩ .f32) = (Cert.Kernel2Ideal.Gen.dats m 0 c).arrAt 13 Cert.Kernel2Ideal.cfg0.N := by
  funext i
  obtain ⟨n, j, rfl⟩ : ∃ (n : Fin 32768) (j : Fin 1024), i = ix2 n j := ⟨i 0, i 1, eq_ix2 i⟩
  refine (ProjectRef.gb V0 n j).trans (Eq.trans ?_ (ker13 m c n j).symm)
  rw [hX, hW]

end Both

end Cert.Proof.Project

end
-- ==== Proof.Ffn.Setup.lean ====
/-
  The launch of the experts' feed-forward: the memory the region is entered with, the two prefetched tables read off it,
  the windows' blocks and staging buffers, and the schedule of the two outputs.
-/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.Kit
public import Idealize.ShloMosaic.Lib.Pipeline.ArrRel
public import Idealize.ShloMosaic.Lib.Ring
public import Idealize.ShloMosaic.Lib.Tactic
public import Idealize.ShloMosaic.Lib.WordCmp

@[expose] public section

set_option maxRecDepth 16384

noncomputable section

namespace Cert.Kernel3Ideal.Ffn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operations leave `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg4` as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg5` as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg6` as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg7` as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S304 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The outputs' schedule, the body at a point, the staging buffers -/

/-- Window 6 (result 0 (%9#0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)
/-- Window 7 (result 1 (%9#1)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_ffn (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

/-- Each window's current staging memref at point `t`, spelled as the pipeline passes it (`bodyAt0`), and its wholeness. -/
abbrev ms0_0 (hO : Ok m) (t : Fin (cfgM m hO).N) : Memref sig .tc .vmem S512x256 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x256 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x2048 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S512x512 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S512x512 .bf16 := spec0_7.stage ((cfgM m hO).slots t 7)
abbrev hs0_7 (hO : Ok m) (t : Fin (cfgM m hO).N) : (ms0_7 m hO t).IsWhole := hstage0_7 (((cfgM m hO).slots t 7).cast nbuf0_7)

end Cert.Kernel3Ideal.Ffn

end
-- ==== Proof.Ffn.Run.lean ====
/-
  The experts' feed-forward at one grid point, in both of its cases: a block in use is written whole, both halves; a
  block out of use is left as it was.
-/
module

public import proofs.«01_k».proof.Proof.Ffn.Setup
public import Idealize.ShloMosaic.Lib.VecWindow
public import Idealize.ShloMosaic.Lib.Pipeline.ValueKit

@[expose] public section

set_option maxRecDepth 16384

noncomputable section

namespace Cert.Kernel3Ideal.Ffn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-- The sums `x · w_up + b_up` of a block. -/
def up (x0 x1 : Vec F S512x256 .i32) (x2 : Vec F S1x1024x2048 .bf16) (x3 : Vec F S1x1x2048 .f32) : FVec F S512x2048 .f32 := k0_pay4 x0 x1 x2 x3

/-- The activation's clamp. -/
def seven : F .f32 := Scalar.ofBits .f32 0x40E00000#32

/-- The lower half of a block's output columns. -/
def outLo (x0 : Vec F S512x256 .i32) (x1 : Vec F S512x256 .i32) (x2 : Vec F S1x1024x2048 .bf16) (x3 : Vec F S1x1x2048 .f32) (x4 : Vec F S1x1024x1024 .bf16) (x5 : Vec F S1x1x1024 .f32) : FVec F S512x512 .bf16 :=
  k0_pay2 (up x0 x1 x2 x3) (k0_pay5 x0 x1 x2 x3) (k0_pay7 (up x0 x1 x2 x3) (k0_pay6 x0 x1 x2 x3) seven) (k0_pay8 (up x0 x1 x2 x3))
    (k0_pay9 (up x0 x1 x2 x3)) (k0_pay11 (up x0 x1 x2 x3) (k0_pay10 (up x0 x1 x2 x3)) seven) (k0_pay12 (up x0 x1 x2 x3))
    (k0_pay13 (up x0 x1 x2 x3)) (k0_pay14 (up x0 x1 x2 x3)) seven x4 x5

/-- The upper half. -/
def outHi (x0 : Vec F S512x256 .i32) (x1 : Vec F S512x256 .i32) (x2 : Vec F S1x1024x2048 .bf16) (x3 : Vec F S1x1x2048 .f32) (x4 : Vec F S1x1024x1024 .bf16) (x5 : Vec F S1x1x1024 .f32) : FVec F S512x512 .bf16 :=
  k0_pay3 (up x0 x1 x2 x3) (k0_pay5 x0 x1 x2 x3) (k0_pay7 (up x0 x1 x2 x3) (k0_pay6 x0 x1 x2 x3) seven) (k0_pay8 (up x0 x1 x2 x3))
    (k0_pay9 (up x0 x1 x2 x3)) (k0_pay11 (up x0 x1 x2 x3) (k0_pay10 (up x0 x1 x2 x3)) seven) (k0_pay12 (up x0 x1 x2 x3))
    (k0_pay13 (up x0 x1 x2 x3)) (k0_pay14 (up x0 x1 x2 x3)) seven x4 x5

/-- The count of blocks in use, as the body reads it off its table. -/
def word (c : Dev nD) (xt1 : TbBuf0 (F := F) c tbM0_1) : BitVec 32 :=
  tbM0_1.view.readAt (Elt F) (Rect.unit (s := S1) ![0] S1.size inb_S1_S1_0).toLoadRect xt1 (Shape.Idx.first (by decide))

set_option maxHeartbeats 1000000 in
/-- The body: of a block in use both output buffers end at the halves of its output. -/
theorem run_body (c : Dev nD) (i : grid0.Coords) (arg3 : Memref sig .tc .vmem S512x256 .i32) (harg3 : arg3.IsWhole) (arg4 : Memref sig .tc .vmem S512x256 .i32) (harg4 : arg4.IsWhole) (arg5 : Memref sig .tc .vmem S1x1024x2048 .bf16) (harg5 : arg5.IsWhole) (arg6 : Memref sig .tc .vmem S1x1x2048 .f32) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S512x512 .bf16) (harg9 : arg9.IsWhole) (arg10 : Memref sig .tc .vmem S512x512 .bf16) (harg10 : arg10.IsWhole)
    (x0 : Vec F S512x256 .i32) (x1 : Vec F S512x256 .i32) (x2 : Vec F S1x1024x2048 .bf16) (x3 : Vec F S1x1x2048 .f32) (x4 : Vec F S1x1024x1024 .bf16) (x5 : Vec F S1x1x1024 .f32) (xt0 : TbBuf0 (F := F) c tbM0_0) (xt1 : TbBuf0 (F := F) c tbM0_1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ X, ⌜k0_cond1 i (word c xt1) = 1#1 → X = outLo x0 x1 x2 x3 x4 x5⌝ ∗ owns (c : Thread nD τ) arg9 fullShare X)
            ∗ (∃ X, ⌜k0_cond1 i (word c xt1) = 1#1 → X = outHi x0 x1 x2 x3 x4 x5⌝ ∗ owns (c : Thread nD τ) arg10 fullShare X) ∗ tbPt0 c tbM0_0 xt0 ∗ tbPt0 c tbM0_1 xt1) -∗ K ⟨⟩))
      ⊢ wp frame (wpE (defs₀ (F := F)) Variants.none c none) E (cc0_moe_ffn i tbM0_0 htbM0_0 tbM0_1 htbM0_1 arg3 harg3 arg4 harg4 arg5 harg5 arg6 harg6 arg7 harg7 arg8 harg8 arg9 harg9 arg10 harg10) K := by
  unfold cc0_moe_ffn
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr
    swap
    · iexists _; isplitr
      swap; · iexact H6
      ipureintro; rfl
    ipureintro; intro hc
    split
    swap; · rename_i h; unfold run_body.sl.r at h; exact (h hc).elim
    rw [View.read_writes_full]
    unfold run_body.sl.r_11 run_body.sl.r_10 run_body.sl.r_9 run_body.sl.r_8 run_body.sl.r_7 run_body.sl.r_6 run_body.sl.r_5 run_body.sl.r_4 run_body.sl.r_3 run_body.sl.r_2 run_body.sl.r_1 run_body.sl.cst_17
    refine Eq.trans (b := outLo (View.readAt (Elt F) arg3.view (Rect.unit (s := S512x256) ![0, 0] S512x256.size inb_S512x256_S512x256_0_0).toLoadRect (harg3.unread x0)) (View.readAt (Elt F) arg4.view (Rect.unit (s := S512x256) ![0, 0] S512x256.size inb_S512x256_S512x256_0_0).toLoadRect (harg4.unread x1)) (View.readAt (Elt F) arg5.view (Rect.unit (s := S1x1024x2048) ![0, 0, 0] S1x1024x2048.size inb_S1x1024x2048_S1x1024x2048_0_0_0).toLoadRect (harg5.unread x2)) (View.readAt (Elt F) arg6.view (Rect.unit (s := S1x1x2048) ![0, 0, 0] S1x1x2048.size inb_S1x1x2048_S1x1x2048_0_0_0).toLoadRect (harg6.unread x3)) (View.readAt (Elt F) arg7.view (Rect.unit (s := S1x1024x1024) ![0, 0, 0] S1x1024x1024.size inb_S1x1024x1024_S1x1024x1024_0_0_0).toLoadRect (harg7.unread x4)) (View.readAt (Elt F) arg8.view (Rect.unit (s := S1x1x1024) ![0, 0, 0] S1x1x1024.size inb_S1x1x1024_S1x1x1024_0_0_0).toLoadRect (harg8.unread x5))) (by unfold outLo up seven k0_pay2 k0_pay1; rfl) ?_
    rw [View.readAt_full, harg3.read_unread, View.readAt_full, harg4.read_unread, View.readAt_full, harg5.read_unread, View.readAt_full, harg6.read_unread, View.readAt_full, harg7.read_unread, View.readAt_full, harg8.read_unread]
  isplitl [H7]
  · iexists _; isplitr
    swap
    · iexists _; isplitr
      swap; · iexact H7
      ipureintro; rfl
    ipureintro; intro hc
    split
    swap; · rename_i h; unfold run_body.sl.r at h; exact (h hc).elim
    rw [View.read_writes_full]
    unfold run_body.sl.r_11 run_body.sl.r_10 run_body.sl.r_9 run_body.sl.r_8 run_body.sl.r_7 run_body.sl.r_6 run_body.sl.r_5 run_body.sl.r_4 run_body.sl.r_3 run_body.sl.r_2 run_body.sl.r_1 run_body.sl.cst_17
    refine Eq.trans (b := outHi (View.readAt (Elt F) arg3.view (Rect.unit (s := S512x256) ![0, 0] S512x256.size inb_S512x256_S512x256_0_0).toLoadRect (harg3.unread x0)) (View.readAt (Elt F) arg4.view (Rect.unit (s := S512x256) ![0, 0] S512x256.size inb_S512x256_S512x256_0_0).toLoadRect (harg4.unread x1)) (View.readAt (Elt F) arg5.view (Rect.unit (s := S1x1024x2048) ![0, 0, 0] S1x1024x2048.size inb_S1x1024x2048_S1x1024x2048_0_0_0).toLoadRect (harg5.unread x2)) (View.readAt (Elt F) arg6.view (Rect.unit (s := S1x1x2048) ![0, 0, 0] S1x1x2048.size inb_S1x1x2048_S1x1x2048_0_0_0).toLoadRect (harg6.unread x3)) (View.readAt (Elt F) arg7.view (Rect.unit (s := S1x1024x1024) ![0, 0, 0] S1x1024x1024.size inb_S1x1024x1024_S1x1024x1024_0_0_0).toLoadRect (harg7.unread x4)) (View.readAt (Elt F) arg8.view (Rect.unit (s := S1x1x1024) ![0, 0, 0] S1x1x1024.size inb_S1x1x1024_S1x1x1024_0_0_0).toLoadRect (harg8.unread x5))) (by unfold outHi up seven k0_pay3 k0_pay1; rfl) ?_
    rw [View.readAt_full, harg3.read_unread, View.readAt_full, harg4.read_unread, View.readAt_full, harg5.read_unread, View.readAt_full, harg6.read_unread, View.readAt_full, harg7.read_unread, View.readAt_full, harg8.read_unread]
  isplitl [HT0]; · iexact HT0
  iexact HT1

end Cert.Kernel3Ideal.Ffn

end
-- ==== Proof.Ffn.Body.lean ====
/-
  What one grid point of the experts' feed-forward leaves in the output blocks of a block in use, entry by entry: two
  products with the block's expert's weights and, between them, the clamped gated activation.
-/
module

public import proofs.«01_k».proof.Proof.Ffn.Run
public import proofs.«01_k».proof.Proof.Proj.Reads
public import Idealize.ShloMosaic.Lib.Pipeline.Value

@[expose] public section

set_option maxRecDepth 16384

noncomputable section

namespace Cert.Proof.Experts

open Cert.Kernel3Ideal Cert.Kernel3Ideal.Gen Cert.Kernel3Ideal.Ffn
open Idealize.ShloMosaic Cert.Proof.Project

/-! ## The mathematics of one row -/

/-- The number in the low half of a word, and the one in its high half. -/
def lowW (w : BitVec 32) : EReal := Ideal.ofBits .f32 (IntOp.shli ArithUnit.vector w 16#32)
def highW (w : BitVec 32) : EReal := Ideal.ofBits .f32 (IntOp.andi w 4294901760#32)

/-- Word `(p, a)` of an array of words, 0 outside it. -/
def wrd {M N : ℕ} (A : (⟨2, ![M, N]⟩ : Shape).Idx → BitVec 32) (p a : ℕ) : BitVec 32 :=
  if h : p < M ∧ a < N then A (ix2 ⟨p, h.1⟩ ⟨a, h.2⟩) else 0#32

theorem wrd_ix {M N : ℕ} (A : (⟨2, ![M, N]⟩ : Shape).Idx → BitVec 32) (i : Fin M) (j : Fin N) :
    A (ix2 i j) = wrd A i j := by
  unfold wrd
  rw [dif_pos ⟨i.isLt, j.isLt⟩]

/-- Column `a` of row `p` of the numbers that two arrays of 256 words a row hold. -/
def unpk {M : ℕ} (lo hi : (⟨2, ![M, 256]⟩ : Shape).Idx → BitVec 32) (p a : ℕ) : EReal :=
  if a < 256 then lowW (wrd lo p a)
  else if a - 256 < 256 then highW (wrd lo p (a - 256))
  else if a - 256 - 256 < 256 then lowW (wrd hi p (a - 256 - 256))
  else highW (wrd hi p (a - 256 - 256 - 256))

/-- The clamped gated activation. -/
def act (g l : EReal) : EReal :=
  min g (Ideal.ofBits .f32 1088421888#32)
      * Ideal.logistic (Ideal.ofBits .f32 1071242019#32 * min g (Ideal.ofBits .f32 1088421888#32))
    * (min (Ideal.ofBits .f32 1088421888#32) (max (Ideal.ofBits .f32 3235905536#32) l) + 1)

/-- Column `j` of a row's hidden values before the activation. -/
def hid (X : ℕ → EReal) (W : ℕ → ℕ → EReal) (b : ℕ → EReal) (j : ℕ) : EReal := (∑ k : Fin 1024, X k * W k j) + b j

/-- Column `c` of a row's output, gates and values side by side in the hidden columns. -/
def ffn (X : ℕ → EReal) (W : ℕ → ℕ → EReal) (b : ℕ → EReal) (W' : ℕ → ℕ → EReal) (b' : ℕ → EReal) (c : ℕ) : EReal :=
  (∑ f : Fin 1024, act (hid X W b (2 * f)) (hid X W b (1 + 2 * f)) * W' f c) + b' c

/-- The same with the hidden columns in groups of 128 gates and 128 values. -/
def ffnB (X : ℕ → EReal) (W : ℕ → ℕ → EReal) (b : ℕ → EReal) (W' : ℕ → ℕ → EReal) (b' : ℕ → EReal) (c : ℕ) : EReal :=
  (∑ f : Fin 1024, act (hid X W b (f.val / 128 * 256 + f.val % 128)) (hid X W b (f.val / 128 * 256 + 128 + f.val % 128)) * W' f c)
    + b' c

/-! ## The blocks -/

variable (x0 x1 : Vec Ideal S512x256 .i32) (x2 : Vec Ideal S1x1024x2048 .bf16) (x3 : Vec Ideal S1x1x2048 .f32)
  (x4 : Vec Ideal S1x1024x1024 .bf16) (x5 : Vec Ideal S1x1x1024 .f32)

theorem cat_ix (r : Fin 512) (j : Fin 1024) : (concatenate S512x1024 1
              [⟨S512x256, bitcastToFloat (F := Ideal) FTy.f32 (shli x0 (broadcast S512x256 16#32))⟩,
                ⟨S512x256, bitcastToFloat FTy.f32 (andi x0 (broadcast S512x256 4294901760#32))⟩,
                ⟨S512x256, bitcastToFloat FTy.f32 (shli x1 (broadcast S512x256 16#32))⟩,
                ⟨S512x256, bitcastToFloat FTy.f32 (andi x1 (broadcast S512x256 4294901760#32))⟩] concatenates_S512x256_S512x256_S512x256_S512x256_S512x1024_d1) (ix2 r j) = unpk x0 x1 r j := by
  pointwise
  simp only [wrd_ix x0, wrd_ix x1]
  unfold unpk lowW highW
  rfl

theorem up_ix (r : Fin 512) (j : Fin 2048) :
    k0_pay4 (F := Ideal) x0 x1 x2 x3 (ix2 r j) = hid (unpk x0 x1 r) (rd3 x2 0) (rd3 x3 0 0) j := by
  have hc := cat_ix x0 x1 r
  unfold k0_pay4
  generalize (concatenate S512x1024 1 _ _) = y at hc ⊢
  pointwise
  simp only [hc, rd3_ix x2, rd3_ix x3]
  rfl

/-- The activation of a group's columns. -/
def actG (y : Vec Ideal S512x2048 .f32) (r f : ℕ) : EReal :=
  act (rd2 y r (f / 128 * 256 + f % 128)) (rd2 y r (f / 128 * 256 + 128 + f % 128))

theorem act_close (y : Vec Ideal S512x2048 .f32) (r f a b : ℕ) (ha : a = f / 128 * 256 + f % 128)
    (hb : b = f / 128 * 256 + 128 + f % 128) :
    min (rd2 y r a) (Ideal.ofBits .f32 1088421888#32)
      * Ideal.logistic (Ideal.ofBits .f32 1071242019#32 * min (rd2 y r a) (Ideal.ofBits .f32 1088421888#32))
    * (min (Ideal.ofBits .f32 1088421888#32) (max (Ideal.ofBits .f32 3235905536#32) (rd2 y r b)) + 1) = actG y r f := by
  subst ha hb
  rfl

set_option maxHeartbeats 1000000 in
theorem lo_ix (r : Fin 512) (c : Fin 512) :
    outLo (F := Ideal) x0 x1 x2 x3 x4 x5 (ix2 r c)
      = ffnB (unpk x0 x1 r) (rd3 x2 0) (rd3 x3 0 0) (rd3 x4 0) (rd3 x5 0 0) (c) := by
  have hu := up_ix x0 x1 x2 x3 r
  unfold outLo up k0_pay5 k0_pay6 k0_pay2 k0_pay1
  generalize k0_pay4 (F := Ideal) x0 x1 x2 x3 = y at hu ⊢
  unfold k0_pay7 k0_pay8 k0_pay9 k0_pay10 k0_pay11 k0_pay12 k0_pay13 k0_pay14 seven
  pointwise
  simp only [rd2_ix y, rd3_ix x4, rd3_ix x5]
  unfold ffnB
  refine congrArg₂ (· + ·) (Finset.sum_congr rfl fun f _ => congrArg₂ (· * ·) (Eq.trans (b := actG y r f) ?_ ?_) ?_) ?_
  · have hf := f.isLt
    repeat' split
    all_goals (refine act_close y r f _ _ ?_ ?_ <;> omega)
  · have hf := f.isLt
    unfold actG
    rw [← hu ⟨f.val / 128 * 256 + f.val % 128, by omega⟩, ← hu ⟨f.val / 128 * 256 + 128 + f.val % 128, by omega⟩,
      rd2_ix y, rd2_ix y]
  · rfl
  · rfl

set_option maxHeartbeats 1000000 in
theorem hi_ix (r : Fin 512) (c : Fin 512) :
    outHi (F := Ideal) x0 x1 x2 x3 x4 x5 (ix2 r c)
      = ffnB (unpk x0 x1 r) (rd3 x2 0) (rd3 x3 0 0) (rd3 x4 0) (rd3 x5 0 0) (512 + c) := by
  have hu := up_ix x0 x1 x2 x3 r
  unfold outHi up k0_pay5 k0_pay6 k0_pay3 k0_pay1
  generalize k0_pay4 (F := Ideal) x0 x1 x2 x3 = y at hu ⊢
  unfold k0_pay7 k0_pay8 k0_pay9 k0_pay10 k0_pay11 k0_pay12 k0_pay13 k0_pay14 seven
  pointwise
  simp only [rd2_ix y, rd3_ix x4, rd3_ix x5]
  unfold ffnB
  refine congrArg₂ (· + ·) (Finset.sum_congr rfl fun f _ => congrArg₂ (· * ·) (Eq.trans (b := actG y r f) ?_ ?_) ?_) ?_
  · have hf := f.isLt
    repeat' split
    all_goals (refine act_close y r f _ _ ?_ ?_ <;> omega)
  · have hf := f.isLt
    unfold actG
    rw [← hu ⟨f.val / 128 * 256 + f.val % 128, by omega⟩, ← hu ⟨f.val / 128 * 256 + 128 + f.val % 128, by omega⟩,
      rd2_ix y, rd2_ix y]
  · rfl
  · rfl

end Cert.Proof.Experts

end
-- ==== Proof.Ffn.Experts.lean ====
/-
  The expert of a block, and the pipeline's side condition from the precondition, over any float values.
-/
module

public import proofs.«01_k».proof.Proof.Gen.Kernel3Ideal
public import proofs.«01_k».proof.Proof.Gen.Pre_experts
public import proofs.«01_k».proof.Proof.Ffn.Setup
public import Idealize.ShloMosaic.Lib.Pipeline.ValueKit
public import Idealize.ShloMosaic.Lib.StableHlo.Run
public import Idealize.ShloMosaic.Lib.ReduceAll

@[expose] public section

set_option maxRecDepth 16384

noncomputable section

namespace Cert.Proof.Experts

open Cert.Kernel3Ideal Cert.Kernel3Ideal.Gen Cert.Kernel3Ideal.Ffn
open Idealize.ShloMosaic Idealize.ShloMosaic.TcCoe Idealize.SL.Sem

variable {F : FTy → Type} [FloatOps F] (m : (ℓ : Loc nD τ sig) → Buf (Elt F) ℓ) (c : Dev nD)

/-- What the precondition says of the arguments: every block's expert is below 32. -/
abbrev Exist : Prop := ∀ c : Dev nD, Cert.Pre_experts.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1

theorem exist_lt (h : Exist m) (j : S304.Idx) :
    BitVec.toNat (w := 32) ((m ((c.tc : Thread nD τ).loc main_arg0) : S304.Idx → BitVec 32) j) < 32 := by
  have key : ∀ v : BitVec 32, IntOp.andi (IntOp.cmpi .sge v 0#32) (IntOp.cmpi .slt v 32#32) = 1#1 → v.toNat < 32 := by
    intro v e
    have andi_ofBool (p q : Bool) : IntOp.andi (BitVec.ofBool p) (BitVec.ofBool q) = BitVec.ofBool (p && q) := by
      cases p <;> cases q <;> decide
    have ofBool_eq_one (p : Bool) : (BitVec.ofBool p = 1#1) ↔ p = true := by cases p <;> decide
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have : Subsingleton Cert.Pre_experts.S_.Idx := ⟨fun a b => funext fun k => k.elim0⟩
  have e := congrFun (h c) (fun k => k.elim0)
  exact key _ (Host.reduce_andi_all _ _ _ _ _ e j)

/-- The pipeline's side condition, of experts that exist. -/
theorem ok_of_tbl (h : ∀ j : S304.Idx, BitVec.toNat (w := 32) (tbl m 0 j) < 32) : Ok m := by
  unfold Ok ok0
  refine ⟨fun i => ⟨fun a => ?_, .inr ?_⟩, fun i => ⟨fun a => ?_, .inl rfl⟩, fun i => ⟨fun a => ?_, .inr ?_⟩, fun i => ⟨fun a => ?_, .inl rfl⟩⟩
  · unfold cc0_transform_2
    have h' := h ((Rect.unit (s := S304) (k0_off1 i) S1.size (k0_off1_inb i)).emb (Shape.Idx.first (numel1_S1.symm ▸ Nat.one_pos)))
    fin_cases a
    · exact (by omega : ∀ n : ℕ, n < 32 → (n + 1) * 1 ≤ 32) _ h'
    · show (0 + 1) * 1024 ≤ 1024
      omega
    · show (0 + 1) * 2048 ≤ 2048
      omega
  · exact Affine.block_words_dvd (of_decide_eq_true rfl) (by decide)
  · unfold cc0_transform_3
    have h' := h ((Rect.unit (s := S304) (k0_off1 i) S1.size (k0_off1_inb i)).emb (Shape.Idx.first (numel1_S1.symm ▸ Nat.one_pos)))
    fin_cases a
    · exact (by omega : ∀ n : ℕ, n < 32 → (n + 1) * 1 ≤ 32) _ h'
    · show (0 + 1) * 1 ≤ 1
      omega
    · show (0 + 1) * 2048 ≤ 2048
      omega
  · unfold cc0_transform_4
    have h' := h ((Rect.unit (s := S304) (k0_off1 i) S1.size (k0_off1_inb i)).emb (Shape.Idx.first (numel1_S1.symm ▸ Nat.one_pos)))
    fin_cases a
    · exact (by omega : ∀ n : ℕ, n < 32 → (n + 1) * 1 ≤ 32) _ h'
    · show (0 + 1) * 1024 ≤ 1024
      omega
    · show (0 + 1) * 1024 ≤ 1024
      omega
  · exact Affine.block_words_dvd (of_decide_eq_true rfl) (by decide)
  · unfold cc0_transform_5
    have h' := h ((Rect.unit (s := S304) (k0_off1 i) S1.size (k0_off1_inb i)).emb (Shape.Idx.first (numel1_S1.symm ▸ Nat.one_pos)))
    fin_cases a
    · exact (by omega : ∀ n : ℕ, n < 32 → (n + 1) * 1 ≤ 32) _ h'
    · show (0 + 1) * 1 ≤ 1
      omega
    · show (0 + 1) * 1024 ≤ 1024
      omega

theorem tbl_0 : tbl m 0 = m (((0 : Dev nD).tc : Thread nD τ).loc main_arg0) := V_main_arg0 m 0

theorem tbl_1 : tbl m 1 = m (((0 : Dev nD).tc : Thread nD τ).loc main_arg1) := V_main_arg1 m 0

theorem ok_of_exist (h : Exist m) : Ok m := ok_of_tbl m fun j => by
  rw [tbl_0]
  exact exist_lt m 0 h j

end Cert.Proof.Experts

end
-- ==== Proof.Ffn.Host.lean ====
/-
  What the experts' launch finds: the arrays the host lays out for it, entry by entry, and the
  precondition read at the ideal program.
-/
module

public import proofs.«01_k».proof.Defs
public import proofs.«01_k».proof.Proof.Gen.Kernel3Ideal
public import proofs.«01_k».proof.Proof.Gen.Pre_experts
public import proofs.«01_k».proof.Proof.Ffn.Experts
public import proofs.«01_k».proof.Proof.Proj.Reads
public import Idealize.ShloMosaic.Lib.Pipeline.ValueKit
public import Idealize.ShloMosaic.Lib.StableHlo.Run
public import Idealize.ShloMosaic.Lib.ReduceAll

@[expose] public section

set_option maxRecDepth 16384

noncomputable section

namespace Cert.Proof.Experts

open Cert.Kernel3Ideal Cert.Kernel3Ideal.Gen Cert.Kernel3Ideal.Ffn
open Idealize.ShloMosaic Idealize.ShloMosaic.TcCoe Idealize.SL.Sem Cert.Proof.Project

variable (m : (ℓ : Loc nD τ sig) → Buf (Elt Ideal) ℓ) (c : Dev nD)

/-! ## The arguments, by name -/

abbrev aE : S304.Idx → BitVec 32 := m ((c : Thread nD τ).loc main_arg0)
abbrev aN : S1.Idx → BitVec 32 := m ((c : Thread nD τ).loc main_arg1)
abbrev aLo : S155648x256.Idx → BitVec 32 := m ((c : Thread nD τ).loc main_arg2)
abbrev aHi : S155648x256.Idx → BitVec 32 := m ((c : Thread nD τ).loc main_arg3)
abbrev aW : S32x1024x2048.Idx → EReal := m ((c : Thread nD τ).loc main_arg4)
abbrev aB : S32x2048.Idx → EReal := m ((c : Thread nD τ).loc main_arg5)
abbrev aW' : S32x1024x1024.Idx → EReal := m ((c : Thread nD τ).loc main_arg6)
abbrev aB' : S32x1024.Idx → EReal := m ((c : Thread nD τ).loc main_arg7)

/-! ## The host's arrays -/

theorem V_v2 : V m c main_v2 = shapeCast S32x1x2048 (transpose S32x8x2x128 [0, 1, 3, 2] (shapeCast S32x8x128x2 (aB m c) shapeCasts_S32x2048_S32x8x128x2) transposes_S32x8x128x2_S32x8x2x128_0_1_3_2) shapeCasts_S32x8x2x128_S32x1x2048 := by
  show StableHlo.after hostOps0 (fun b => m (c, b)) main_v2 = _
  simp only [hostOps0]
  after_results_simp
  all_goals rfl

theorem V_v6 : V m c main_v6 = truncf (F := Ideal) .bf16 (shapeCast S32x1024x2048 (transpose S32x1024x8x2x128 [0, 1, 2, 4, 3] (shapeCast S32x1024x8x128x2 (aW m c) shapeCasts_S32x1024x2048_S32x1024x8x128x2) transposes_S32x1024x8x128x2_S32x1024x8x2x128_0_1_2_4_3) shapeCasts_S32x1024x8x2x128_S32x1024x2048) bitsLt_bf16_f32 := by
  show StableHlo.after hostOps0 (fun b => m (c, b)) main_v6 = _
  simp only [hostOps0]
  after_results_simp
  all_goals rfl

theorem V_v7 : V m c main_v7 = truncf (F := Ideal) (φ := .f32) .bf16 (aW' m c) bitsLt_bf16_f32 := by
  show StableHlo.after hostOps0 (fun b => m (c, b)) main_v7 = _
  simp only [hostOps0]
  after_results_simp
  all_goals rfl

theorem V_v8 : V m c main_v8 = broadcastInDim S32x1x1024 ![0, 2] bcast_S32x1024_S32x1x1024_0_2 (aB' m c) := by
  show StableHlo.after hostOps0 (fun b => m (c, b)) main_v8 = _
  simp only [hostOps0]
  after_results_simp
  all_goals rfl

/-- Where hidden column `j` of the host's layout stands in the argument. -/
def src (j : ℕ) : ℕ := j / 256 * 256 + j % 128 * 2 + j / 128 % 2

theorem v2_ix (e : Fin 32) (j : Fin 2048) : V m c main_v2 (ix3 e 0 j) = rd2 (aB m c) e (src j) := by
  rw [V_v2]
  pointwise
  exact rd2_ix (aB m c) e _

theorem v6_ix (e : Fin 32) (k : Fin 1024) (j : Fin 2048) : V m c main_v6 (ix3 e k j) = rd3 (aW m c) e k (src j) := by
  rw [V_v6]
  pointwise
  exact rd3_ix (aW m c) e k _

theorem v7_ix (e : Fin 32) (k : Fin 1024) (j : Fin 1024) : V m c main_v7 (ix3 e k j) = rd3 (aW' m c) e k j := by
  rw [V_v7]
  pointwise
  exact rd3_ix (aW' m c) e k j

theorem v8_ix (e : Fin 32) (j : Fin 1024) : V m c main_v8 (ix3 e 0 j) = rd2 (aB' m c) e j := by
  rw [V_v8]
  pointwise
  exact rd2_ix (aB' m c) e j

/-! ## The precondition -/

theorem expert_lt (h : Cert.Pre_Kernel3Ideal m) (j : S304.Idx) : (aE m c j).toNat < 32 := exist_lt m c h j

theorem ok_of_pre (h : Cert.Pre_Kernel3Ideal m) : Ok m := ok_of_exist m h

end Cert.Proof.Experts

end
-- ==== Proof.Ffn.Frame.lean ====
/-
  The experts' feed-forward as the pipeline runs it: what the body may leave in each window, its obligation at every
  point, the launch, and the frame.
-/
module

public import proofs.«01_k».proof.Proof.Ffn.Run
public import Idealize.ShloMosaic.Lib.Claim

@[expose] public section

set_option maxRecDepth 16384

noncomputable section

namespace Cert.Kernel3Ideal.Ffn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Whether the body at point `t` computes its block: its number is below the count in use. -/
abbrev live (hO : Ok m) (c : Dev nD) (t : Fin (cfgM m hO).N) : Prop := k0_cond1 (grid0.coords t) (word c (tbl m 1)) = 1#1

/-- The halves of the output of block `t`. -/
abbrev lo (hO : Ok m) (c : Dev nD) (t : Fin (cfgM m hO).N) : Vec F S512x512 .bf16 := outLo (iblk m hO c 0 t) (iblk m hO c 1 t) (iblk m hO c 2 t) (iblk m hO c 3 t) (iblk m hO c 4 t) (iblk m hO c 5 t)
abbrev hi (hO : Ok m) (c : Dev nD) (t : Fin (cfgM m hO).N) : Vec F S512x512 .bf16 := outHi (iblk m hO c 0 t) (iblk m hO c 1 t) (iblk m hO c 2 t) (iblk m hO c 3 t) (iblk m hO c 4 t) (iblk m hO c 5 t)

/-- The body leaves its inputs as found, and of a block in use both output buffers at its halves. -/
def rdat (hO : Ok m) (c : Dev nD) : RDat τ (Elt F) Unit ℕ (UR sig nD τ) ℕ (cfgM m hO) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun _ X => live m hO c t → X = lo m hO c t
    | ⟨7, _⟩ => fun _ X => live m hO c t → X = hi m hO c t
  Φ _ := iprop(Pipeline.ΦA spec0 c ∗ Pipeline.ΦT pre0 (tbl m) c)
  q _ := fullShare
  owed _ := 0

theorem A_eq (hO : Ok m) (c : Dev nD) (w : Fin (cfgM m hO).W) : (rdat m hO c).A w = V m c (Pipeline.arrRef spec0 w) := by
  dsimp only [rdat]

theorem finds0_0 (hO : Ok m) (c : Dev nD) (t : Fin (cfgM m hO).N) (Y) (h : (rdat m hO c).Finds 0 t Y) : Y = iblk m hO c 0 t := by
  obtain ⟨d, hd⟩ := (rdat m hO c).finds_in_eq_fetched 0 rfl (fun _ _ _ => rfl) (fun t Y X h => by dsimp only [rdat] at h; exact h) t Y h
  rw [hd]; unfold RDat.fetched RDat.blockOf iblk; rw [A_eq]; try rfl
theorem finds0_1 (hO : Ok m) (c : Dev nD) (t : Fin (cfgM m hO).N) (Y) (h : (rdat m hO c).Finds 1 t Y) : Y = iblk m hO c 1 t := by
  obtain ⟨d, hd⟩ := (rdat m hO c).finds_in_eq_fetched 1 rfl (fun _ _ _ => rfl) (fun t Y X h => by dsimp only [rdat] at h; exact h) t Y h
  rw [hd]; unfold RDat.fetched RDat.blockOf iblk; rw [A_eq]; try rfl
theorem finds0_2 (hO : Ok m) (c : Dev nD) (t : Fin (cfgM m hO).N) (Y) (h : (rdat m hO c).Finds 2 t Y) : Y = iblk m hO c 2 t := by
  obtain ⟨d, hd⟩ := (rdat m hO c).finds_in_eq_fetched 2 rfl (fun _ _ _ => rfl) (fun t Y X h => by dsimp only [rdat] at h; exact h) t Y h
  rw [hd]; unfold RDat.fetched RDat.blockOf iblk; rw [A_eq]; try rfl
theorem finds0_3 (hO : Ok m) (c : Dev nD) (t : Fin (cfgM m hO).N) (Y) (h : (rdat m hO c).Finds 3 t Y) : Y = iblk m hO c 3 t := by
  obtain ⟨d, hd⟩ := (rdat m hO c).finds_in_eq_fetched 3 rfl (fun _ _ _ => rfl) (fun t Y X h => by dsimp only [rdat] at h; exact h) t Y h
  rw [hd]; unfold RDat.fetched RDat.blockOf iblk; rw [A_eq]; try rfl
theorem finds0_4 (hO : Ok m) (c : Dev nD) (t : Fin (cfgM m hO).N) (Y) (h : (rdat m hO c).Finds 4 t Y) : Y = iblk m hO c 4 t := by
  obtain ⟨d, hd⟩ := (rdat m hO c).finds_in_eq_fetched 4 rfl (fun _ _ _ => rfl) (fun t Y X h => by dsimp only [rdat] at h; exact h) t Y h
  rw [hd]; unfold RDat.fetched RDat.blockOf iblk; rw [A_eq]; try rfl
theorem finds0_5 (hO : Ok m) (c : Dev nD) (t : Fin (cfgM m hO).N) (Y) (h : (rdat m hO c).Finds 5 t Y) : Y = iblk m hO c 5 t := by
  obtain ⟨d, hd⟩ := (rdat m hO c).finds_in_eq_fetched 5 rfl (fun _ _ _ => rfl) (fun t Y X h => by dsimp only [rdat] at h; exact h) t Y h
  rw [hd]; unfold RDat.fetched RDat.blockOf iblk; rw [A_eq]; try rfl

theorem after0_0 (hO : Ok m) (c : Dev nD) (t : Fin (cfgM m hO).N) (Y X) : (rdat m hO c).after 0 t Y X = (X = Y) := by dsimp only [rdat]; try rfl
theorem after0_1 (hO : Ok m) (c : Dev nD) (t : Fin (cfgM m hO).N) (Y X) : (rdat m hO c).after 1 t Y X = (X = Y) := by dsimp only [rdat]; try rfl
theorem after0_2 (hO : Ok m) (c : Dev nD) (t : Fin (cfgM m hO).N) (Y X) : (rdat m hO c).after 2 t Y X = (X = Y) := by dsimp only [rdat]; try rfl
theorem after0_3 (hO : Ok m) (c : Dev nD) (t : Fin (cfgM m hO).N) (Y X) : (rdat m hO c).after 3 t Y X = (X = Y) := by dsimp only [rdat]; try rfl
theorem after0_4 (hO : Ok m) (c : Dev nD) (t : Fin (cfgM m hO).N) (Y X) : (rdat m hO c).after 4 t Y X = (X = Y) := by dsimp only [rdat]; try rfl
theorem after0_5 (hO : Ok m) (c : Dev nD) (t : Fin (cfgM m hO).N) (Y X) : (rdat m hO c).after 5 t Y X = (X = Y) := by dsimp only [rdat]; try rfl
theorem after0_6 (hO : Ok m) (c : Dev nD) (t : Fin (cfgM m hO).N) (Y X) : (rdat m hO c).after 6 t Y X = (live m hO c t → X = lo m hO c t) := by dsimp only [rdat]; try rfl
theorem after0_7 (hO : Ok m) (c : Dev nD) (t : Fin (cfgM m hO).N) (Y X) : (rdat m hO c).after 7 t Y X = (live m hO c t → X = hi m hO c t) := by dsimp only [rdat]; try rfl

/-- What the body takes at a point. -/
def bodyPre (hO : Ok m) (c : Dev nD) (t : Fin (cfgM m hO).N) (Y : (w : Fin (cfgM m hO).W) → (((cfgM m hO).win w).block.Idx → Elt F ((cfgM m hO).win w).elt)) : sProp 𝕄 :=
  iprop((rdat m hO c).Φ t.castSucc ∗ (rdat m hO c).owesAt () t.castSucc ∗ owns (c : Thread nD τ) (ms0_0 m hO t) fullShare (Y 0) ∗ owns (c : Thread nD τ) (ms0_1 m hO t) fullShare (Y 1) ∗ owns (c : Thread nD τ) (ms0_2 m hO t) fullShare (Y 2) ∗ owns (c : Thread nD τ) (ms0_3 m hO t) fullShare (Y 3) ∗ owns (c : Thread nD τ) (ms0_4 m hO t) fullShare (Y 4) ∗ owns (c : Thread nD τ) (ms0_5 m hO t) fullShare (Y 5) ∗ owns (c : Thread nD τ) (ms0_6 m hO t) fullShare (Y 6) ∗ owns (c : Thread nD τ) (ms0_7 m hO t) fullShare (Y 7))

/-- What it gives back. -/
def bodyPost (hO : Ok m) (c : Dev nD) (t : Fin (cfgM m hO).N) (Y : (w : Fin (cfgM m hO).W) → (((cfgM m hO).win w).block.Idx → Elt F ((cfgM m hO).win w).elt)) : sProp 𝕄 :=
  iprop((rdat m hO c).Φ t.succ ∗ (rdat m hO c).owesAt () t.succ ∗ (∃ X, ⌜(rdat m hO c).after 0 t (Y 0) X⌝ ∗ owns (c : Thread nD τ) (ms0_0 m hO t) fullShare X) ∗ (∃ X, ⌜(rdat m hO c).after 1 t (Y 1) X⌝ ∗ owns (c : Thread nD τ) (ms0_1 m hO t) fullShare X) ∗ (∃ X, ⌜(rdat m hO c).after 2 t (Y 2) X⌝ ∗ owns (c : Thread nD τ) (ms0_2 m hO t) fullShare X) ∗ (∃ X, ⌜(rdat m hO c).after 3 t (Y 3) X⌝ ∗ owns (c : Thread nD τ) (ms0_3 m hO t) fullShare X) ∗ (∃ X, ⌜(rdat m hO c).after 4 t (Y 4) X⌝ ∗ owns (c : Thread nD τ) (ms0_4 m hO t) fullShare X) ∗ (∃ X, ⌜(rdat m hO c).after 5 t (Y 5) X⌝ ∗ owns (c : Thread nD τ) (ms0_5 m hO t) fullShare X) ∗ (∃ X, ⌜(rdat m hO c).after 6 t (Y 6) X⌝ ∗ owns (c : Thread nD τ) (ms0_6 m hO t) fullShare X) ∗ (∃ X, ⌜(rdat m hO c).after 7 t (Y 7) X⌝ ∗ owns (c : Thread nD τ) (ms0_7 m hO t) fullShare X))

set_option maxHeartbeats 800000 in
/-- The body at any point. -/
theorem sound_body (hO : Ok m) (c : Dev nD) (t : Fin (cfgM m hO).N) (Y) (hY : ∀ w, (rdat m hO c).Finds w t (Y w)) :
    bodyPre m hO c t Y ⊢ wp frame (wpE (defs₀ (F := F)) Variants.none c none) Set.univ (bodyAt0 (adm m hO) t) (fun _ => bodyPost m hO c t Y) := by
  unfold bodyPre bodyPost bodyAt0
  rw [show (rdat m hO c).Φ t.succ = (rdat m hO c).Φ t.castSucc from rfl,
    show (rdat m hO c).owesAt () t.succ = (rdat m hO c).owesAt () t.castSucc from rfl]
  rw [show (rdat m hO c).Φ t.castSucc = iprop(Pipeline.ΦA spec0 c ∗ Pipeline.ΦT pre0 (tbl m) c) from rfl, PhiT0_eq]
  simp only [after0_0, after0_1, after0_2, after0_3, after0_4, after0_5, after0_6, after0_7]
  rw [finds0_0 m hO c t _ (hY 0), finds0_1 m hO c t _ (hY 1), finds0_2 m hO c t _ (hY 2), finds0_3 m hO c t _ (hY 3), finds0_4 m hO c t _ (hY 4), finds0_5 m hO c t _ (hY 5)]
  iintro ⟨⟨HΦ, ⟨HT0, HT1⟩⟩, Ho, H0, H1, H2, H3, H4, H5, H6, H7⟩
  iapply (run_body c (grid0.coords t) _ _ _ _ _ _ _ _ _ _ _ _ _ _ _ _ (iblk m hO c 0 t) (iblk m hO c 1 t) (iblk m hO c 2 t) (iblk m hO c 3 t) (iblk m hO c 4 t) (iblk m hO c 5 t) (tbl m 0) (tbl m 1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HT0]; · iexact HT0
  isplitl [HT1]; · iexact HT1
  iintro ⟨H0, H1, H2, H3, H4, H5, ⟨%X6, %h6, H6⟩, ⟨%X7, %h7, H7⟩, HT0, HT1⟩
  isplitl [HΦ HT0 HT1]
  · isplitl [HΦ]
    · iexact HΦ
    isplitl [HT0]; · iexact HT0
    iexact HT1
  isplitl [Ho]; · iexact Ho
  isplitl [H0]; · iexists _; isplitr; swap; iexact H0; ipureintro; rfl
  isplitl [H1]; · iexists _; isplitr; swap; iexact H1; ipureintro; rfl
  isplitl [H2]; · iexists _; isplitr; swap; iexact H2; ipureintro; rfl
  isplitl [H3]; · iexists _; isplitr; swap; iexact H3; ipureintro; rfl
  isplitl [H4]; · iexists _; isplitr; swap; iexact H4; ipureintro; rfl
  isplitl [H5]; · iexists _; isplitr; swap; iexact H5; ipureintro; rfl
  isplitl [H6]
  · iexists _; isplitr; swap; iexact H6; ipureintro; exact h6
  iexists _; isplitr; swap; iexact H7; ipureintro; exact h7

/-- The body table's row at point `t`'s slots. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : (rdat (F := F) m hO c).BodyObligation (defs₀ (F := F)) Variants.none () Set.univ := fun t Y hY => by
  rw [bigSep_W0, bigSep_W0, defs₀_row m hO]
  exact triple_restated (sound_body m hO c t Y hY) rfl .rfl fun _ => .rfl

/-! ## The run and the frame -/

set_option backward.isDefEq.respectTransparency.types false in
/-- The launch: what the arrays may hold at the end, and every counter at zero. -/
theorem run (hO : Ok m) : θ_run defs (onTc (τ := τ) (main (F := F))) (s₀ m ρ) (fun r => RDat.FramePost (cfgM m hO) (rdat m hO) (V m) r ∧ r.2.sem = fun _ => 0) :=
  RDat.θ_run_frameP (Q' := _) pcfgs (fun _ => adm m hO) (0 : Fin 1) launch0 defs₀ Variants.none (rdat m hO) m ρ main
    (hbody := body_obligation m hO) (hshare := fun c => (rdat m hO c).share_full fun _ => rfl)
    (howed := fun _ _ => rfl) (V := V m) (hmain := hmain m Variants.none) (hA := A_eq m hO) (hpf := V_pre m)
    (hΦ := fun _ _ => rfl)

/-- The arguments end as they were, by what the run leaves. -/
theorem args_of (hO : Ok m) (r : PUnit × MemSt nD τ sig (Elt F)) (h : RDat.FramePost (cfgM m hO) (rdat m hO) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      (RDat.FramePost.arr_in h c 0 rfl).trans ((A_eq m hO c 0).trans (V_main_arg2 m c)),
      (RDat.FramePost.arr_in h c 1 rfl).trans ((A_eq m hO c 1).trans (V_main_arg3 m c)),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩

/-- The frame. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨args_of m hO r h.1, h.2⟩) (run m ρ hO)

end Cert.Kernel3Ideal.Ffn

end
-- ==== Proof.Ffn.Arrays.lean ====
/-
  From blocks to arrays: the blocks that a grid point of the experts' feed-forward reads, over the arguments.
-/
module

public import proofs.«01_k».proof.Proof.Ffn.Body
public import proofs.«01_k».proof.Proof.Ffn.Host
public import proofs.«01_k».proof.Proof.Ffn.Frame
public import Idealize.ShloMosaic.Lib.Pipeline.ValueKit

@[expose] public section

set_option maxRecDepth 16384

noncomputable section

namespace Cert.Proof.Experts

open Cert.Kernel3Ideal Cert.Kernel3Ideal.Gen Cert.Kernel3Ideal.Ffn
open Idealize.ShloMosaic Idealize.ShloMosaic.TcCoe Idealize.SL.Sem Cert.Proof.Project

variable (m : (ℓ : Loc nD τ sig) → Buf (Elt Ideal) ℓ) (hO : Ok m) (c : Dev nD)

theorem points : grid0.N = 304 := by decide

/-- The grid point of a block. -/
noncomputable def pt (t : Fin 304) : Fin (cfgM m hO).N := ⟨t.val, lt_of_lt_of_eq t.isLt points.symm⟩

theorem coord0 : ∀ t : Fin grid0.N, (grid0.coords t 0).val = t.val := by decide +kernel

theorem tr0 (t : Fin grid0.N) : cc0_transform_0 (grid0.coords t) = ![t.val, 0] := by
  have h : t.val < 304 := lt_of_lt_of_eq t.isLt points
  unfold cc0_transform_0
  funext a
  fin_cases a
  · show (BitVec.ofNat 32 (grid0.coords t 0).val).toNat = t.val
    rw [coord0, BitVec.toNat_ofNat, Nat.mod_eq_of_lt (by omega)]
  · rfl

theorem at_eq (pf : pre0.Contents (Elt Ideal)) (t : Fin grid0.N) (h) :
    pf.at 0 (Rect.unit (s := S304) ![(Scalar.indexCast (BitVec.ofNat 32 (grid0.coords t 0).val)).toNat] S1.size h) numel1_S1
      = pf 0 (ix1 ⟨t.val, lt_of_lt_of_eq t.isLt points⟩) := by
  have h' : t.val < 304 := lt_of_lt_of_eq t.isLt points
  unfold Pipeline.Prefetch.Contents.at
  refine congrArg (pf 0) (funext fun a => Fin.ext ?_)
  fin_cases a
  show (Scalar.indexCast (BitVec.ofNat 32 (grid0.coords t 0).val)).toNat + 1 * 0 = t.val
  have e : (Scalar.indexCast (BitVec.ofNat 32 (grid0.coords t 0).val)).toNat = t.val := by
    rw [coord0]
    revert h'
    generalize t.val = k
    intro h'
    unfold Scalar.indexCast
    simp
    omega
  omega

theorem w0 (t : Fin (cfgM m hO).N) : ((cfgM m hO).win 0).index t = ![t.val, 0] := tr0 t
theorem w1 (t : Fin (cfgM m hO).N) : ((cfgM m hO).win 1).index t = ![t.val, 0] := tr0 t
theorem w6 (t : Fin (cfgM m hO).N) : ((cfgM m hO).win 6).index t = ![t.val, 0] := tr0 t
theorem w7 (t : Fin (cfgM m hO).N) : ((cfgM m hO).win 7).index t = ![t.val, 0] := tr0 t

/-- The expert of a block. -/
noncomputable abbrev ex (t : Fin (cfgM m hO).N) : ℕ := BitVec.toNat (w := 32) (tbl m 0 (ix1 ⟨t.val, lt_of_lt_of_eq t.isLt points⟩))

theorem w2 (t : Fin (cfgM m hO).N) : ((cfgM m hO).win 2).index t = ![ex m hO t, 0, 0] := by
  show cc0_transform_2 k0_off1_inb numel1_S1 (tbl m) (grid0.coords t) = _
  exact congrArg (fun v : BitVec 32 => ![v.toNat, 0, 0]) (at_eq (tbl m) t _)
theorem w3 (t : Fin (cfgM m hO).N) : ((cfgM m hO).win 3).index t = ![ex m hO t, 0, 0] := by
  show cc0_transform_3 k0_off1_inb numel1_S1 (tbl m) (grid0.coords t) = _
  exact congrArg (fun v : BitVec 32 => ![v.toNat, 0, 0]) (at_eq (tbl m) t _)
theorem w4 (t : Fin (cfgM m hO).N) : ((cfgM m hO).win 4).index t = ![ex m hO t, 0, 0] := by
  show cc0_transform_4 k0_off1_inb numel1_S1 (tbl m) (grid0.coords t) = _
  exact congrArg (fun v : BitVec 32 => ![v.toNat, 0, 0]) (at_eq (tbl m) t _)
theorem w5 (t : Fin (cfgM m hO).N) : ((cfgM m hO).win 5).index t = ![ex m hO t, 0, 0] := by
  show cc0_transform_5 k0_off1_inb numel1_S1 (tbl m) (grid0.coords t) = _
  exact congrArg (fun v : BitVec 32 => ![v.toNat, 0, 0]) (at_eq (tbl m) t _)

theorem blk0 (t : Fin (cfgM m hO).N) (r : Fin 512) (k : Fin 256) (h : t.val * 512 + r.val < 155648) :
    iblk m hO c 0 t (ix2 r k) = V m c main_arg2 (ix2 ⟨t.val * 512 + r.val, h⟩ k) := by
  blk_ext! [iblk, w0 m hO t]

theorem blk1 (t : Fin (cfgM m hO).N) (r : Fin 512) (k : Fin 256) (h : t.val * 512 + r.val < 155648) :
    iblk m hO c 1 t (ix2 r k) = V m c main_arg3 (ix2 ⟨t.val * 512 + r.val, h⟩ k) := by
  blk_ext! [iblk, w1 m hO t]

theorem blk2 (t : Fin (cfgM m hO).N) (k : Fin 1024) (j : Fin 2048) (h : ex m hO t < 32) :
    iblk m hO c 2 t (ix3 0 k j) = V m c main_v6 (ix3 ⟨ex m hO t, h⟩ k j) := by
  blk_ext! [iblk, w2 m hO t]

theorem blk3 (t : Fin (cfgM m hO).N) (j : Fin 2048) (h : ex m hO t < 32) :
    iblk m hO c 3 t (ix3 0 0 j) = V m c main_v2 (ix3 ⟨ex m hO t, h⟩ 0 j) := by
  blk_ext! [iblk, w3 m hO t]

theorem blk4 (t : Fin (cfgM m hO).N) (k : Fin 1024) (j : Fin 1024) (h : ex m hO t < 32) :
    iblk m hO c 4 t (ix3 0 k j) = V m c main_v7 (ix3 ⟨ex m hO t, h⟩ k j) := by
  blk_ext! [iblk, w4 m hO t]

theorem blk5 (t : Fin (cfgM m hO).N) (j : Fin 1024) (h : ex m hO t < 32) :
    iblk m hO c 5 t (ix3 0 0 j) = V m c main_v8 (ix3 ⟨ex m hO t, h⟩ 0 j) := by
  blk_ext! [iblk, w5 m hO t]

end Cert.Proof.Experts

end
-- ==== Proof.Ffn.Out.lean ====
/-
  The two outputs of the experts' feed-forward at an entry of a block in use, over the arguments: row `n` of the output is
  that of its block's expert.
-/
module

public import proofs.«01_k».proof.Proof.Ffn.Arrays

@[expose] public section

set_option maxRecDepth 16384

noncomputable section

namespace Cert.Proof.Experts

open Cert.Kernel3Ideal Cert.Kernel3Ideal.Gen Cert.Kernel3Ideal.Ffn
open Idealize.ShloMosaic Idealize.ShloMosaic.TcCoe Idealize.SL.Sem Cert.Proof.Project
open Idealize.ShloMosaic.Pipeline (RDat Dat)

variable (m : (ℓ : Loc nD τ sig) → Buf (Elt Ideal) ℓ) (hO : Ok m) (c : Dev nD)

/-! ## From the host's layout of the hidden columns to the arguments' -/

theorem src_gate (f : ℕ) : src (f / 128 * 256 + f % 128) = 2 * f := by
  unfold src
  omega

theorem src_value (f : ℕ) : src (f / 128 * 256 + 128 + f % 128) = 1 + 2 * f := by
  unfold src
  omega

theorem ffnB_eq (X X₂ : ℕ → EReal) (W W₂ : ℕ → ℕ → EReal) (b b₂ : ℕ → EReal) (W' W₂' : ℕ → ℕ → EReal) (b' b₂' : ℕ → EReal)
    (j : ℕ) (hj : j < 1024) (hX : ∀ k : Fin 1024, X k = X₂ k) (hW : ∀ (k : Fin 1024) (q : Fin 2048), W k q = W₂ k (src q))
    (hb : ∀ q : Fin 2048, b q = b₂ (src q)) (hW' : ∀ k q : Fin 1024, W' k q = W₂' k q) (hb' : ∀ q : Fin 1024, b' q = b₂' q) :
    ffnB X W b W' b' j = ffn X₂ W₂ b₂ W₂' b₂' j := by
  have hh : ∀ q : ℕ, q < 2048 → hid X W b q = hid X₂ W₂ b₂ (src q) := fun q hq => by
    unfold hid
    rw [hb ⟨q, hq⟩]
    exact congrArg (· + _) (Finset.sum_congr rfl fun k _ => by rw [hX k, hW k ⟨q, hq⟩])
  unfold ffnB ffn
  rw [hb' ⟨j, hj⟩]
  refine congrArg (· + _) (Finset.sum_congr rfl fun f _ => ?_)
  have hf := f.isLt
  rw [hh _ (by omega), hh _ (by omega), src_gate, src_value, hW' f ⟨j, hj⟩]

/-- Column `j` of row `n` of the output. -/
def kOut (n j : ℕ) (h : n / 512 < 304) : EReal :=
  ffn (unpk (aLo m c) (aHi m c) n) (rd3 (aW m c) (aE m c (ix1 ⟨n / 512, h⟩)).toNat)
    (rd2 (aB m c) (aE m c (ix1 ⟨n / 512, h⟩)).toNat) (rd3 (aW' m c) (aE m c (ix1 ⟨n / 512, h⟩)).toNat)
    (rd2 (aB' m c) (aE m c (ix1 ⟨n / 512, h⟩)).toNat) j

/-! ## The blocks of a point, over the arguments -/

theorem wrd_out {M N : ℕ} (A : (⟨2, ![M, N]⟩ : Shape).Idx → BitVec 32) (p a : ℕ) (h : ¬a < N) : wrd A p a = 0#32 := by
  unfold wrd
  rw [dif_neg (fun e => h e.2)]

section
variable (t : Fin (cfgM m hO).N) (r : Fin 512)

theorem row_lt : t.val * 512 + r.val < 155648 := by
  have h : t.val < 304 := lt_of_lt_of_eq t.isLt points
  omega

theorem words0 (a : ℕ) : wrd (M := 512) (N := 256) (iblk m hO c 0 t) r a = wrd (aLo m c) (t.val * 512 + r.val) a := by
  by_cases h : a < 256
  · refine (wrd_ix (M := 512) (N := 256) (iblk m hO c 0 t) r ⟨a, h⟩).symm.trans ((blk0 m hO c t r ⟨a, h⟩ (row_lt m hO t r)).trans ?_)
    rw [V_main_arg2]
    exact wrd_ix (aLo m c) ⟨_, row_lt m hO t r⟩ ⟨a, h⟩
  · exact (wrd_out (M := 512) (N := 256) _ _ _ h).trans (wrd_out _ _ _ h).symm

theorem words1 (a : ℕ) : wrd (M := 512) (N := 256) (iblk m hO c 1 t) r a = wrd (aHi m c) (t.val * 512 + r.val) a := by
  by_cases h : a < 256
  · refine (wrd_ix (M := 512) (N := 256) (iblk m hO c 1 t) r ⟨a, h⟩).symm.trans ((blk1 m hO c t r ⟨a, h⟩ (row_lt m hO t r)).trans ?_)
    rw [V_main_arg3]
    exact wrd_ix (aHi m c) ⟨_, row_lt m hO t r⟩ ⟨a, h⟩
  · exact (wrd_out (M := 512) (N := 256) _ _ _ h).trans (wrd_out _ _ _ h).symm

theorem rows_blk (k : ℕ) : unpk (M := 512) (iblk m hO c 0 t) (iblk m hO c 1 t) r k = unpk (aLo m c) (aHi m c) (t.val * 512 + r.val) k := by
  unfold unpk
  simp only [words0 m hO c t r, words1 m hO c t r]

theorem out_blk (hp : Cert.Pre_Kernel3Ideal m) (j : ℕ) (hj : j < 1024) (h : (t.val * 512 + r.val) / 512 < 304) :
    ffnB (unpk (M := 512) (iblk m hO c 0 t) (iblk m hO c 1 t) r) (rd3 (B := 1) (M := 1024) (N := 2048) (iblk m hO c 2 t) 0)
      (rd3 (B := 1) (M := 1) (N := 2048) (iblk m hO c 3 t) 0 0) (rd3 (B := 1) (M := 1024) (N := 1024) (iblk m hO c 4 t) 0)
      (rd3 (B := 1) (M := 1) (N := 1024) (iblk m hO c 5 t) 0 0) j = kOut m c (t.val * 512 + r.val) j h := by
  have hc : c = 0 := Subsingleton.elim _ _
  have ht : t.val < 304 := lt_of_lt_of_eq t.isLt points
  have hE : ex m hO t = (aE m c (ix1 ⟨(t.val * 512 + r.val) / 512, h⟩)).toNat := by
    unfold ex
    rw [tbl_0, hc]
    refine congrArg (fun i : Fin 304 => (aE m 0 (ix1 i)).toNat) (Fin.ext ?_)
    show t.val = (t.val * 512 + r.val) / 512
    omega
  have hlt : ex m hO t < 32 := by
    rw [hE]
    exact expert_lt m c hp _
  unfold kOut
  rw [← hE]
  refine ffnB_eq _ _ _ _ _ _ _ _ _ _ j hj (fun k => rows_blk m hO c t r k) (fun k q => ?_) (fun q => ?_) (fun k q => ?_) fun q => ?_
  · exact (rd3_ix (B := 1) (M := 1024) (N := 2048) (iblk m hO c 2 t) 0 k q).symm.trans ((blk2 m hO c t k q hlt).trans (v6_ix m c ⟨_, hlt⟩ k q))
  · exact (rd3_ix (B := 1) (M := 1) (N := 2048) (iblk m hO c 3 t) 0 0 q).symm.trans ((blk3 m hO c t q hlt).trans (v2_ix m c ⟨_, hlt⟩ q))
  · exact (rd3_ix (B := 1) (M := 1024) (N := 1024) (iblk m hO c 4 t) 0 k q).symm.trans ((blk4 m hO c t k q hlt).trans (v7_ix m c ⟨_, hlt⟩ k q))
  · exact (rd3_ix (B := 1) (M := 1) (N := 1024) (iblk m hO c 5 t) 0 0 q).symm.trans ((blk5 m hO c t q hlt).trans (v8_ix m c ⟨_, hlt⟩ q))

theorem lo_blk (hp : Cert.Pre_Kernel3Ideal m) (j : Fin 512) (h : (t.val * 512 + r.val) / 512 < 304) :
    lo m hO c t (ix2 r j) = kOut m c (t.val * 512 + r.val) j h :=
  (lo_ix _ _ _ _ _ _ r j).trans (out_blk m hO c t r hp j (by omega) h)

theorem hi_blk (hp : Cert.Pre_Kernel3Ideal m) (j : Fin 512) (h : (t.val * 512 + r.val) / 512 < 304) :
    hi m hO c t (ix2 r j) = kOut m c (t.val * 512 + r.val) (512 + j) h :=
  (hi_ix _ _ _ _ _ _ r j).trans (out_blk m hO c t r hp (512 + j) (by omega) h)

end

/-! ## Blocks in use -/

theorem word_eq : word c (tbl m 1) = aN m c (ix1 0) := by
  obtain rfl : c = 0 := Subsingleton.elim _ _
  rw [tbl_1]
  unfold word
  refine congrArg (aN m 0) (funext fun a => ?_)
  fin_cases a
  rfl

theorem live_of (t : Fin (cfgM m hO).N) (h : IntOp.cmpi .slt (BitVec.ofNat 32 t.val) (aN m c (ix1 0)) = 1#1) : live m hO c t := by
  have hc : (grid0.coords t 0).val = t.val := coord0 t
  unfold live
  rw [word_eq]
  unfold k0_cond1
  dsimp only
  rw [hc]
  have key : ∀ v : BitVec 1, v = 1#1 → Scalar.cmpi .ne (Scalar.extui v : BitVec 32) 0#32 = 1#1 := by decide
  exact key _ h

end Cert.Proof.Experts

end
-- ==== Proof.Ffn.Final.lean ====
/-
  What the arrays of the experts' feed-forward hold at the end of a run, at the rows of the blocks in use.
-/
module

public import proofs.«01_k».proof.Proof.Ffn.Out

@[expose] public section

set_option maxRecDepth 16384

noncomputable section

namespace Cert.Proof.Experts

open Cert.Kernel3Ideal Cert.Kernel3Ideal.Gen Cert.Kernel3Ideal.Ffn
open Idealize.ShloMosaic Idealize.ShloMosaic.TcCoe Idealize.SL.Sem Cert.Proof.Project
open Idealize.ShloMosaic.Pipeline (RDat Dat)

variable (m : (ℓ : Loc nD τ sig) → Buf (Elt Ideal) ℓ) (hO : Ok m) (c : Dev nD)

/-- The two coordinates of a block's index. -/
def c0 (v : Fin 2 → ℕ) : ℕ := v 0
def c1 (v : Fin 2 → ℕ) : ℕ := v 1

/-- An entry `(p, a)` of a half of the output, `off` columns on, of a block in use. -/
def HoldsN (off p a : ℕ) (x : EReal) : Prop :=
  ∀ q : p / 512 < 304, IntOp.cmpi .slt (BitVec.ofNat 32 (p / 512)) (aN m c (ix1 0)) = 1#1 → x = kOut m c p (off + a) q

def Holds (off : ℕ) (i : S155648x512.Idx) (x : EReal) : Prop := HoldsN m c off (i 0).val (i 1).val x

variable {m c} in
theorem holds_of (off p a : ℕ) {i : S155648x512.Idx} {x : EReal} (h0 : (i 0).val = p) (h1 : (i 1).val = a) (h : HoldsN m c off p a x) :
    Holds m c off i x := by
  subst h0 h1
  exact h

set_option maxHeartbeats 1000000 in
theorem out6 (hp : Cert.Pre_Kernel3Ideal m) (r : PUnit × MemSt nD τ sig (Elt Ideal)) (h : RDat.FramePost (cfgM m hO) (rdat m hO) (V m) r)
    (n : Fin 155648) (j : Fin 512) (hn : n.val / 512 < 304) : Holds m c 0 (ix2 n j) (r.2.mem ((c.tc : Thread nD τ).loc main_v9_0) (ix2 n j)) := by
  obtain ⟨after, hL, hA⟩ := RDat.FramePost.exists_exact h c
  refine (congrArg (Holds m c 0 (ix2 n j)) (congrFun (hA 6) (ix2 n j))).mpr ?_
  refine ((rdat m hO c).withAfter after).arrAt_forall_of_flushed 6 (Holds m c 0) (fun t hf y => ?_) (cfgM m hO).N
    (pt m hO ⟨n.val / 512, hn⟩) (ix2 n j) (Fin.isLt _) (flush0_6 (adm m hO) _) ?_
  · blk_simp
    revert y
    refine fun (y : S512x512.Idx) => ?_
    obtain ⟨Y, -, ha⟩ := hL 6 t hf
    rw [after0_6] at ha
    obtain ⟨a, b, rfl⟩ : ∃ (a : Fin 512) (b : Fin 512), y = ix2 a b := ⟨y 0, y 1, eq_ix2 y⟩
    have e0 := Pipeline.Window.rect_emb_val ((cfgM m hO).win 6) t (ix2 a b) (0 : Fin 2)
    have e1 := Pipeline.Window.rect_emb_val ((cfgM m hO).win 6) t (ix2 a b) (1 : Fin 2)
    rw [w6 m hO t] at e0 e1
    refine holds_of 0 (t.val * 512 + a.val) b.val e0 (e1.trans ((Nat.zero_mul _).symm ▸ Nat.zero_add _)) ?_
    show HoldsN m c 0 (t.val * 512 + a.val) b.val (after 6 t (ix2 a b))
    intro q hl
    have ht : (t.val * 512 + a.val) / 512 = t.val := by omega
    rw [ht] at hl
    refine (congrFun (ha (live_of m hO c t hl)) (ix2 a b)).trans ((lo_blk m hO c t a hp b q).trans ?_)
    rw [Nat.zero_add]
  · refine (Pipeline.Window.emb_mem_blk_iff ((cfgM m hO).win 6) (pt m hO ⟨n.val / 512, hn⟩) (ix2 n j)).mpr fun a => ?_
    rw [w6]
    have hj := j.isLt
    fin_cases a
    · show n.val / 512 * 512 ≤ n.val ∧ n.val < n.val / 512 * 512 + 512
      omega
    · show 0 * 512 ≤ j.val ∧ j.val < 0 * 512 + 512
      omega

set_option maxHeartbeats 1000000 in
theorem out7 (hp : Cert.Pre_Kernel3Ideal m) (r : PUnit × MemSt nD τ sig (Elt Ideal)) (h : RDat.FramePost (cfgM m hO) (rdat m hO) (V m) r)
    (n : Fin 155648) (j : Fin 512) (hn : n.val / 512 < 304) : Holds m c 512 (ix2 n j) (r.2.mem ((c.tc : Thread nD τ).loc main_v9_1) (ix2 n j)) := by
  obtain ⟨after, hL, hA⟩ := RDat.FramePost.exists_exact h c
  refine (congrArg (Holds m c 512 (ix2 n j)) (congrFun (hA 7) (ix2 n j))).mpr ?_
  refine ((rdat m hO c).withAfter after).arrAt_forall_of_flushed 7 (Holds m c 512) (fun t hf y => ?_) (cfgM m hO).N
    (pt m hO ⟨n.val / 512, hn⟩) (ix2 n j) (Fin.isLt _) (flush0_7 (adm m hO) _) ?_
  · blk_simp
    revert y
    refine fun (y : S512x512.Idx) => ?_
    obtain ⟨Y, -, ha⟩ := hL 7 t hf
    rw [after0_7] at ha
    obtain ⟨a, b, rfl⟩ : ∃ (a : Fin 512) (b : Fin 512), y = ix2 a b := ⟨y 0, y 1, eq_ix2 y⟩
    have e0 := Pipeline.Window.rect_emb_val ((cfgM m hO).win 7) t (ix2 a b) (0 : Fin 2)
    have e1 := Pipeline.Window.rect_emb_val ((cfgM m hO).win 7) t (ix2 a b) (1 : Fin 2)
    rw [w7 m hO t] at e0 e1
    refine holds_of 512 (t.val * 512 + a.val) b.val e0 (e1.trans ((Nat.zero_mul _).symm ▸ Nat.zero_add _)) ?_
    show HoldsN m c 512 (t.val * 512 + a.val) b.val (after 7 t (ix2 a b))
    intro q hl
    have ht : (t.val * 512 + a.val) / 512 = t.val := by omega
    rw [ht] at hl
    exact (congrFun (ha (live_of m hO c t hl)) (ix2 a b)).trans (hi_blk m hO c t a hp b q)
  · refine (Pipeline.Window.emb_mem_blk_iff ((cfgM m hO).win 7) (pt m hO ⟨n.val / 512, hn⟩) (ix2 n j)).mpr fun a => ?_
    rw [w7]
    have hj := j.isLt
    fin_cases a
    · show n.val / 512 * 512 ≤ n.val ∧ n.val < n.val / 512 * 512 + 512
      omega
    · show 0 * 512 ≤ j.val ∧ j.val < 0 * 512 + 512
      omega

end Cert.Proof.Experts

end
-- ==== Proof.Ffn.Gather.lean ====
/-
  Taking slabs of a three-axis table by the numbers in an index array, at an entry.
-/
module

public import Idealize.ShloMosaic.Lib.ValueIdxCore
public import Idealize.ShloMosaic.Lib.Routing.Ops

@[expose] public section

noncomputable section

namespace Cert.Proof.Slabs

open Idealize.ShloMosaic

/-- Slabs `[K, J]` of a table `[N, K, J]`, one for each of `B` start indices. -/
abbrev dims (N K J B : ℕ)
    (wf : GatherDims.WF ⟨3, ![N, K, J]⟩ ⟨2, ![B, 1]⟩ ⟨3, ![B, K, J]⟩ [1, 2] [0] [] [0] [] 1 ![1, K, J]) :
    GatherDims ⟨3, ![N, K, J]⟩ ⟨2, ![B, 1]⟩ ⟨3, ![B, K, J]⟩ where
  offsetDims := [1, 2]
  collapsedSliceDims := [0]
  operandBatchingDims := []
  startIndicesBatchingDims := []
  startIndexMap := [0]
  indexVectorDim := 1
  sliceSizes := ![1, K, J]
  wf := wf

theorem gather_slab {α : Type} {N K J B : ℕ}
    (wf : GatherDims.WF ⟨3, ![N, K, J]⟩ ⟨2, ![B, 1]⟩ ⟨3, ![B, K, J]⟩ [1, 2] [0] [] [0] [] 1 ![1, K, J])
    (x : (⟨3, ![N, K, J]⟩ : Shape).Idx → α) (idx : IVec ⟨2, ![B, 1]⟩ 32) (t : Fin B) (k : Fin K) (j : Fin J) (e : Fin N)
    (he : idx (ValueIdx.ix2 t (0 : Fin 1)) = BitVec.ofNat 32 e.val) (hN : N < 2 ^ 31) :
    Host.gather (dims N K J B wf) x idx (ValueIdx.ix3 t k j) = x (ValueIdx.ix3 e k j) := by
  unfold Host.gather
  refine congrArg x (funext fun a => Fin.ext ?_)
  show (dims N K J B wf).start _ idx a + (dims N K J B wf).batchCoord _ a + (dims N K J B wf).offCoord _ a = _
  rw [GatherDims.batchCoord_eq_zero _ _ _ List.not_mem_nil, Nat.add_zero]
  have h1 : (1 : Fin 3) ∉ [(0 : Fin 3)] := by decide
  have h2 : (2 : Fin 3) ∉ [(0 : Fin 3)] := by decide
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (dims N K J B wf).startIndexMap from List.mem_singleton.mpr rfl)]
    have hsi : (dims N K J B wf).siIdx (ValueIdx.ix3 t k j) ⟨List.idxOf (0 : Fin 3) (dims N K J B wf).startIndexMap,
        List.idxOf_lt_length_iff.2 (List.mem_singleton.mpr rfl)⟩ = ValueIdx.ix2 t (0 : Fin 1) := by
      funext b; refine Fin.ext ?_
      match b with
      | ⟨0, _⟩ => rfl
      | ⟨1, _⟩ => rfl
    have hel := e.isLt
    rw [hsi, he, StableHlo.Predicate.toInt_ofNat_small _ (by omega)]
    show min ((e.val : Int)).toNat (N - 1) = e.val
    omega
  · have hm : (1 : Fin 3) ∉ (dims N K J B wf).startIndexMap := h1
    unfold GatherDims.start GatherDims.offCoord
    rw [dif_neg hm, dif_pos ((GatherDims.mem_sKept _ _).mpr ⟨h1, List.not_mem_nil⟩), Nat.zero_add]
    rfl
  · have hm : (2 : Fin 3) ∉ (dims N K J B wf).startIndexMap := h2
    unfold GatherDims.start GatherDims.offCoord
    rw [dif_neg hm, dif_pos ((GatherDims.mem_sKept _ _).mpr ⟨h2, List.not_mem_nil⟩), Nat.zero_add]
    rfl

end Cert.Proof.Slabs

end
-- ==== Proof.Ffn.RefParts.lean ====
/-
  The reference of the experts' feed-forward at an entry: the row's expert's weights, gates and values side by side in the
  hidden columns.
-/
module

public import proofs.«01_k».proof.Proof.Gen.Reference3Ideal
public import proofs.«01_k».proof.Proof.Gen.Reference3Ideal.Run
public import proofs.«01_k».proof.Proof.Ffn.Body
public import proofs.«01_k».proof.Proof.Ffn.Gather
public import Idealize.ShloMosaic.Lib.Tactic.CleanTypes

@[expose] public section

set_option maxRecDepth 16384

noncomputable section

namespace Cert.Proof.ExpertsRef

open Idealize.ShloMosaic Idealize.ShloMosaic.TcCoe Idealize.SL.Sem
open Cert.Reference3Ideal Cert.Reference3Ideal.Gen Cert.Reference3Ideal.Value Cert.Proof.Project Cert.Proof.Experts

variable (m : (ℓ : Loc nD τ sig) → Buf (Elt Ideal) ℓ) (c : Dev nD)

/-- The arguments, by name. -/
abbrev rE : S304.Idx → BitVec 32 := m (c.tc.loc main_arg0)
abbrev rLo : S155648x256.Idx → BitVec 32 := m (c.tc.loc main_arg2)
abbrev rHi : S155648x256.Idx → BitVec 32 := m (c.tc.loc main_arg3)
abbrev rW : S32x1024x2048.Idx → EReal := m (c.tc.loc main_arg4)
abbrev rB : S32x2048.Idx → EReal := m (c.tc.loc main_arg5)
abbrev rW' : S32x1024x1024.Idx → EReal := m (c.tc.loc main_arg6)
abbrev rB' : S32x1024.Idx → EReal := m (c.tc.loc main_arg7)

/-- The start index the reference computes for each block; -/
abbrev startE (E : S304.Idx → BitVec 32) : IVec S304x1 32 :=
  broadcastInDim S304x1 ![0] bcast_S304_S304x1_0
    (select (cmpi .slt E (broadcastInDim S304 ![] bcast_S_S304 (constantI S_ 32 0#32)))
      (addi E (broadcastInDim S304 ![] bcast_S_S304 (constantI S_ 32 32#32))) E)

theorem notNeg (v : BitVec 32) (h : v.toNat < 32) : IntOp.cmpi .slt v 0#32 = 0#1 := by
  have h0 : v.slt 0#32 = false := by
    rw [BitVec.slt_eq_decide, BitVec.toInt_eq_toNat_cond]
    simp
    omega
  show BitVec.ofBool (v.slt 0#32) = 0#1
  rw [h0]; rfl

/-- it is the block's expert. -/
theorem startE_ix (E : S304.Idx → BitVec 32) (t : Fin 304) (h : (E (ix1 t)).toNat < 32) :
    startE E (ix2 t (0 : Fin 1)) = BitVec.ofNat 32 (E (ix1 t)).toNat := by
  have e : startE E (ix2 t (0 : Fin 1)) = Scalar.select (IntOp.cmpi .slt (E (ix1 t)) 0#32) (IntOp.addi (E (ix1 t)) 32#32) (E (ix1 t)) := by
    unfold startE
    pointwise
  rw [e, notNeg _ h, BitVec.ofNat_toNat, BitVec.setWidth_eq]
  rfl

section
variable {E : S304.Idx → BitVec 32} (h : ∀ j, (E j).toNat < 32) (t : Fin 304)
include h

theorem gW (x : S32x1024x2048.Idx → EReal) (k : Fin 1024) (j : Fin 2048) :
    Host.gather gather_S32x1024x2048_S304x1_S304x1024x2048_12_0_n_n_0_1_110242048 x (startE E) (ix3 t k j)
      = rd3 x (E (ix1 t)).toNat k j :=
  (Slabs.gather_slab _ x (startE E) t k j ⟨(E (ix1 t)).toNat, h _⟩ (startE_ix E t (h _)) (by decide)).trans (rd3_ix x _ k j)

theorem gW' (x : S32x1024x1024.Idx → EReal) (k : Fin 1024) (j : Fin 1024) :
    Host.gather gather_S32x1024x1024_S304x1_S304x1024x1024_12_0_n_n_0_1_110241024 x (startE E) (ix3 t k j)
      = rd3 x (E (ix1 t)).toNat k j :=
  (Slabs.gather_slab _ x (startE E) t k j ⟨(E (ix1 t)).toNat, h _⟩ (startE_ix E t (h _)) (by decide)).trans (rd3_ix x _ k j)

theorem gB (x : S32x2048.Idx → EReal) (j : Fin 2048) :
    Host.gather gather_S32x2048_S304x1_S304x2048_1_0_n_n_0_1_12048 x (startE E) (ix2 t j) = rd2 x (E (ix1 t)).toNat j :=
  (Routing.gather_row (nb := 32) (B := 2048) (n := 304) _ rfl rfl rfl rfl rfl x (startE E) t j ⟨(E (ix1 t)).toNat, h _⟩
    (startE_ix E t (h _)) (by decide)).trans (rd2_ix x _ j)

theorem gB' (x : S32x1024.Idx → EReal) (j : Fin 1024) :
    Host.gather gather_S32x1024_S304x1_S304x1024_1_0_n_n_0_1_11024 x (startE E) (ix2 t j) = rd2 x (E (ix1 t)).toNat j :=
  (Routing.gather_row (nb := 32) (B := 1024) (n := 304) _ rfl rfl rfl rfl rfl x (startE E) t j ⟨(E (ix1 t)).toNat, h _⟩
    (startE_ix E t (h _)) (by decide)).trans (rd2_ix x _ j)
end

theorem rows_ix (lo hi : S155648x256.Idx → BitVec 32) (n : Fin 155648) (k : Fin 1024) :
    (concatenate S155648x1024 1 [⟨S155648x256, ((bitcastToFloat (F := Ideal) .f32 (Host.shli lo (broadcastInDim S155648x256 ![] bcast_S_S155648x256 (constantI S_ 32 16#32)))) : (⟨S155648x256, .f32⟩ : BufTy).Contents (Elt Ideal))⟩, ⟨S155648x256, ((bitcastToFloat (F := Ideal) .f32 (andi lo (broadcastInDim S155648x256 ![] bcast_S_S155648x256 (constantI S_ 32 4294901760#32)))) : (⟨S155648x256, .f32⟩ : BufTy).Contents (Elt Ideal))⟩, ⟨S155648x256, ((bitcastToFloat (F := Ideal) .f32 (Host.shli hi (broadcastInDim S155648x256 ![] bcast_S_S155648x256 (constantI S_ 32 16#32)))) : (⟨S155648x256, .f32⟩ : BufTy).Contents (Elt Ideal))⟩, ⟨S155648x256, ((bitcastToFloat (F := Ideal) .f32 (andi hi (broadcastInDim S155648x256 ![] bcast_S_S155648x256 (constantI S_ 32 4294901760#32)))) : (⟨S155648x256, .f32⟩ : BufTy).Contents (Elt Ideal))⟩] concatenates_S155648x256_S155648x256_S155648x256_S155648x256_S155648x1024_d1 : (⟨S155648x1024, .f32⟩ : BufTy).Contents (Elt Ideal)) (ix2 n k) = unpk lo hi n k := by
  pointwise
  simp only [wrd_ix lo, wrd_ix hi]
  unfold unpk lowW highW
  rfl

end Cert.Proof.ExpertsRef

end
-- ==== Proof.Ffn.Ref.lean ====
/-
  The reference of the experts' feed-forward at an entry: the row's expert's weights, gates and values side by side in the
  hidden columns.
-/
module

public import proofs.«01_k».proof.Proof.Gen.Reference3Ideal
public import proofs.«01_k».proof.Proof.Gen.Reference3Ideal.Run
public import proofs.«01_k».proof.Proof.Ffn.Body
public import proofs.«01_k».proof.Proof.Ffn.RefParts
public import Idealize.ShloMosaic.Lib.Tactic.CleanTypes

@[expose] public section

set_option maxRecDepth 16384

noncomputable section

namespace Cert.Proof.ExpertsRef

open Idealize.ShloMosaic Idealize.ShloMosaic.TcCoe Idealize.SL.Sem
open Cert.Reference3Ideal Cert.Reference3Ideal.Gen Cert.Reference3Ideal.Value Cert.Proof.Project Cert.Proof.Experts

variable (m : (ℓ : Loc nD τ sig) → Buf (Elt Ideal) ℓ) (c : Dev nD)

/-- The hidden values before the activation; -/
def upR (y : FVec Ideal S155648x1024 .f32) (G4 : FVec Ideal S304x1024x2048 .f32) (G5 : FVec Ideal S304x2048 .f32) : FVec Ideal S304x512x2048 .f32 :=
  addf (Host.dotGeneral dot_S304x512x1024_S304x1024x2048_S304x512x2048_2_1_1_2_0_0 none (shapeCast _ y shapeCasts_S155648x1024_S304x512x1024) G4) (broadcastInDim S304x512x2048 ![0, 1, 2] bcast_S304x1x2048_S304x512x2048_0_1_2 (broadcastInDim S304x1x2048 ![0, 2] bcast_S304x2048_S304x1x2048_0_2 G5))

/-- after it; -/
def actR (U : FVec Ideal S304x512x2048 .f32) : FVec Ideal S304x512x1024 .f32 :=
  mulf (mulf (minimumf (Host.slice S304x512x1024 ![0, 0, 0] ![1, 1, 2] U slicesBy_S304x512x2048_S304x512x1024_0s1_0s1_0s2) (broadcastInDim S304x512x1024 ![] bcast_S_S304x512x1024 (constant S_ .f32 0x40E00000#32))) (Host.divf (broadcastInDim S304x512x1024 ![] bcast_S_S304x512x1024 (constant S_ .f32 0x3F800000#32)) (addf (broadcastInDim S304x512x1024 ![] bcast_S_S304x512x1024 (constant S_ .f32 0x3F800000#32)) (Host.exp (Host.negf (mulf (broadcastInDim S304x512x1024 ![] bcast_S_S304x512x1024 (constant S_ .f32 0x3FD9DB23#32)) (minimumf (Host.slice S304x512x1024 ![0, 0, 0] ![1, 1, 2] U slicesBy_S304x512x2048_S304x512x1024_0s1_0s1_0s2) (broadcastInDim S304x512x1024 ![] bcast_S_S304x512x1024 (constant S_ .f32 0x40E00000#32))))))))) (addf (minimumf (broadcastInDim S304x512x1024 ![] bcast_S_S304x512x1024 (id (constant S_ .f32 0x40E00000#32))) (maximumf (broadcastInDim S304x512x1024 ![] bcast_S_S304x512x1024 (id (constant S_ .f32 0xC0E00000#32))) (Host.slice S304x512x1024 ![0, 0, 1] ![1, 1, 2] U slicesBy_S304x512x2048_S304x512x1024_0s1_0s1_1s2))) (broadcastInDim S304x512x1024 ![] bcast_S_S304x512x1024 (constant S_ .f32 0x3F800000#32)))

/-- and the output's two halves side by side. -/
def outR (A : FVec Ideal S304x512x1024 .f32) (G6 : FVec Ideal S304x1024x1024 .f32) (G7 : FVec Ideal S304x1024 .f32) : FVec Ideal S155648x1024 .bf16 :=
  truncf .bf16 (shapeCast _ (addf (Host.dotGeneral dot_S304x512x1024_S304x1024x1024_S304x512x1024_2_1_1_2_0_0 none A G6) (broadcastInDim S304x512x1024 ![0, 1, 2] bcast_S304x1x1024_S304x512x1024_0_1_2 (broadcastInDim S304x1x1024 ![0, 2] bcast_S304x1024_S304x1x1024_0_2 G7))) shapeCasts_S304x512x1024_S155648x1024) bitsLt_bf16_f32

theorem upR_ix (y : FVec Ideal S155648x1024 .f32) (G4 : FVec Ideal S304x1024x2048 .f32) (G5 : FVec Ideal S304x2048 .f32)
    (t : Fin 304) (r : Fin 512) (j : Fin 2048) :
    upR y G4 G5 (ix3 t r j) = (∑ k : Fin 1024, y (ix2 ⟨t.val * 512 + r.val, by omega⟩ k) * G4 (ix3 t k j)) + G5 (ix2 t j) := by
  unfold upR
  pointwise

theorem actR_ix (U : FVec Ideal S304x512x2048 .f32) (t : Fin 304) (r : Fin 512) (f : Fin 1024) :
    actR U (ix3 t r f) = act (U (ix3 t r ⟨2 * f.val, by omega⟩)) (U (ix3 t r ⟨1 + 2 * f.val, by omega⟩)) := by
  unfold actR act Ideal.logistic
  pointwise
  rfl

theorem outR_ix (A : FVec Ideal S304x512x1024 .f32) (G6 : FVec Ideal S304x1024x1024 .f32) (G7 : FVec Ideal S304x1024 .f32)
    (n : Fin 155648) (j : Fin 1024) :
    outR A G6 G7 (ix2 n j) = (∑ f : Fin 1024, A (ix3 ⟨n.val / 512, by omega⟩ ⟨n.val % 512, by omega⟩ f) * G6 (ix3 ⟨n.val / 512, by omega⟩ f j))
      + G7 (ix2 ⟨n.val / 512, by omega⟩ j) := by
  unfold outR
  pointwise

/-- The arrays the output is made of. -/
def rowsR : FVec Ideal S155648x1024 .f32 := ((concatenate S155648x1024 1 [⟨S155648x256, ((bitcastToFloat (F := Ideal) .f32 (Host.shli (m ((c.tc : Thread nD τ).loc main_arg2)) (broadcastInDim S155648x256 ![] bcast_S_S155648x256 (constantI S_ 32 16#32)))) : (⟨S155648x256, .f32⟩ : BufTy).Contents (Elt Ideal))⟩, ⟨S155648x256, ((bitcastToFloat (F := Ideal) .f32 (andi (m ((c.tc : Thread nD τ).loc main_arg2)) (broadcastInDim S155648x256 ![] bcast_S_S155648x256 (constantI S_ 32 4294901760#32)))) : (⟨S155648x256, .f32⟩ : BufTy).Contents (Elt Ideal))⟩, ⟨S155648x256, ((bitcastToFloat (F := Ideal) .f32 (Host.shli (m ((c.tc : Thread nD τ).loc main_arg3)) (broadcastInDim S155648x256 ![] bcast_S_S155648x256 (constantI S_ 32 16#32)))) : (⟨S155648x256, .f32⟩ : BufTy).Contents (Elt Ideal))⟩, ⟨S155648x256, ((bitcastToFloat (F := Ideal) .f32 (andi (m ((c.tc : Thread nD τ).loc main_arg3)) (broadcastInDim S155648x256 ![] bcast_S_S155648x256 (constantI S_ 32 4294901760#32)))) : (⟨S155648x256, .f32⟩ : BufTy).Contents (Elt Ideal))⟩] concatenates_S155648x256_S155648x256_S155648x256_S155648x256_S155648x1024_d1 : (⟨S155648x1024, .f32⟩ : BufTy).Contents (Elt Ideal)))
def gWR : FVec Ideal S304x1024x2048 .f32 := Host.gather gather_S32x1024x2048_S304x1_S304x1024x2048_12_0_n_n_0_1_110242048 (rW m c) (startE (rE m c))
def gBR : FVec Ideal S304x2048 .f32 := Host.gather gather_S32x2048_S304x1_S304x2048_1_0_n_n_0_1_12048 (rB m c) (startE (rE m c))
def gWR' : FVec Ideal S304x1024x1024 .f32 := Host.gather gather_S32x1024x1024_S304x1_S304x1024x1024_12_0_n_n_0_1_110241024 (rW' m c) (startE (rE m c))
def gBR' : FVec Ideal S304x1024 .f32 := Host.gather gather_S32x1024_S304x1_S304x1024_1_0_n_n_0_1_11024 (rB' m c) (startE (rE m c))

def halves : FVec Ideal S155648x1024 .bf16 := outR (actR (upR (rowsR m c) (gWR m c) (gBR m c))) (gWR' m c) (gBR' m c)

set_option maxHeartbeats 2000000 in
theorem res69 : res_main_v69 m c = extractStridedSlice S155648x512 ![0, 0] (halves m c) slices_S155648x1024_S155648x512_0_0 := by
  unfold res_main_v69 halves outR actR upR rowsR gWR gBR gWR' gBR'
  rfl

set_option maxHeartbeats 2000000 in
theorem res70 : res_main_v70 m c = extractStridedSlice S155648x512 ![0, 512] (halves m c) slices_S155648x1024_S155648x512_0_512 := by
  unfold res_main_v70 halves outR actR upR rowsR gWR gBR gWR' gBR'
  rfl

/-- Column `j` of row `n` of the output. -/
def rOut (n : Fin 155648) (j : ℕ) : EReal :=
  ffn (unpk (rLo m c) (rHi m c) n) (rd3 (rW m c) (rE m c (ix1 ⟨n.val / 512, by omega⟩)).toNat)
      (rd2 (rB m c) (rE m c (ix1 ⟨n.val / 512, by omega⟩)).toNat) (rd3 (rW' m c) (rE m c (ix1 ⟨n.val / 512, by omega⟩)).toNat)
      (rd2 (rB' m c) (rE m c (ix1 ⟨n.val / 512, by omega⟩)).toNat) j

theorem ffn_of (y : FVec Ideal S155648x1024 .f32) (G4 : FVec Ideal S304x1024x2048 .f32) (G5 : FVec Ideal S304x2048 .f32)
    (G6 : FVec Ideal S304x1024x1024 .f32) (G7 : FVec Ideal S304x1024 .f32) (n : Fin 155648) (j : Fin 1024)
    (X : ℕ → EReal) (W : ℕ → ℕ → EReal) (b : ℕ → EReal) (W' : ℕ → ℕ → EReal) (b' : ℕ → EReal)
    (hy : ∀ k : Fin 1024, y (ix2 n k) = X k) (h4 : ∀ (k : Fin 1024) (j : Fin 2048), G4 (ix3 ⟨n.val / 512, by omega⟩ k j) = W k j)
    (h5 : ∀ j : Fin 2048, G5 (ix2 ⟨n.val / 512, by omega⟩ j) = b j)
    (h6 : ∀ k j : Fin 1024, G6 (ix3 ⟨n.val / 512, by omega⟩ k j) = W' k j) (h7 : ∀ j : Fin 1024, G7 (ix2 ⟨n.val / 512, by omega⟩ j) = b' j) :
    outR (actR (upR y G4 G5)) G6 G7 (ix2 n j) = ffn X W b W' b' j := by
  have hup : ∀ q : Fin 2048, upR y G4 G5 (ix3 ⟨n.val / 512, by omega⟩ ⟨n.val % 512, by omega⟩ q) = hid X W b q := fun q => by
    rw [upR_ix, h5]
    unfold hid
    refine congrArg (· + _) (Finset.sum_congr rfl fun k _ => ?_)
    rw [h4, ← hy]
    refine congrArg (fun i : Fin 155648 => y (ix2 i k) * _) (Fin.ext ?_)
    show n.val / 512 * 512 + n.val % 512 = n.val
    omega
  rw [outR_ix, h7]
  unfold ffn
  refine congrArg (· + _) (Finset.sum_congr rfl fun f _ => ?_)
  rw [actR_ix, hup, hup, h6]

theorem halves_ix (h : ∀ j, (rE m c j).toNat < 32) (n : Fin 155648) (j : Fin 1024) : halves m c (ix2 n j) = rOut m c n j := by
  unfold halves rOut
  exact ffn_of _ _ _ _ _ n j _ _ _ _ _ (rows_ix (rLo m c) (rHi m c) n) (gW h _ (rW m c)) (gB h _ (rB m c)) (gW' h _ (rW' m c))
    (gB' h _ (rB' m c))

theorem out0_ix (h : ∀ j, (rE m c j).toNat < 32) (n : Fin 155648) (j : Fin 512) : res_main_v69 m c (ix2 n j) = rOut m c n j := by
  rw [res69]
  have e := halves_ix m c h n ⟨j.val, by omega⟩
  revert e
  generalize halves m c = H
  intro e
  refine Eq.trans ?_ e
  pointwise

theorem out1_ix (h : ∀ j, (rE m c j).toNat < 32) (n : Fin 155648) (j : Fin 512) : res_main_v70 m c (ix2 n j) = rOut m c n (512 + j) := by
  rw [res70]
  have e := halves_ix m c h n ⟨512 + j.val, by omega⟩
  revert e
  generalize halves m c = H
  intro e
  refine Eq.trans ?_ e
  pointwise

end Cert.Proof.ExpertsRef

end
-- ==== Proof.Ffn.Mask.lean ====
/-
  The mask of the rows in use, at an entry: the row's block is below the count of blocks in use.
-/
module

public import proofs.«01_k».proof.Defs
public import proofs.«01_k».proof.Proof.Gen.On_in_use
public import Idealize.ShloMosaic.Lib.Pointwise

@[expose] public section

set_option maxRecDepth 16384

noncomputable section

namespace Cert.Proof.InUse

open Idealize.ShloMosaic Cert.On_in_use Cert.On_in_use.Gen

theorem div512 (n : ℕ) (h : n < 155648) : IntOp.divsi ArithUnit.host (BitVec.ofNat 32 n) 512#32 = BitVec.ofNat 32 (n / 512) := by
  have hx : (BitVec.ofNat 32 n).toNat = n := by rw [BitVec.toNat_ofNat]; omega
  have hm : (BitVec.ofNat 32 n).msb = false := by
    rw [BitVec.msb_eq_decide, hx]
    simp
    omega
  have hm' : (512#32).msb = false := by decide
  have hc : ¬IntOp.SDivCorner (BitVec.ofNat 32 n) 512#32 := by
    unfold IntOp.SDivCorner
    rintro (h0 | ⟨-, h1⟩)
    · exact absurd h0 (by decide)
    · exact absurd h1 (by decide)
  unfold IntOp.divsi
  rw [if_neg hc, BitVec.sdiv_eq, hm, hm']
  apply BitVec.eq_of_toNat_eq
  show ((BitVec.ofNat 32 n).udiv 512#32).toNat = _
  rw [BitVec.toNat_ofNat]
  show ((BitVec.ofNat 32 n) / 512#32).toNat = _
  rw [BitVec.toNat_udiv, hx]
  show n / 512 = _
  omega

theorem floor_word (n : ℕ) (hn : n < 155648) :
    Scalar.select
      (IntOp.andi
        (IntOp.cmpi CmpIPredicate.ne
          (if BitVec.ofNat 32 n = 0 then (0 : BitVec 32) else if (BitVec.ofNat 32 n).msb = true then -1 else 1)
          (if (512#32 : BitVec 32) = 0 then (0 : BitVec 32) else if (512#32).msb = true then -1 else 1))
        (IntOp.cmpi CmpIPredicate.ne (IntOp.remsi ArithUnit.host (BitVec.ofNat 32 n) 512#32) 0#32))
      (IntOp.subi (IntOp.divsi ArithUnit.host (BitVec.ofNat 32 n) 512#32) 1#32)
      (IntOp.divsi ArithUnit.host (BitVec.ofNat 32 n) 512#32) = BitVec.ofNat 32 (n / 512) := by
  by_cases h0 : n = 0
  · subst h0
    decide +kernel
  · have hx : (BitVec.ofNat 32 n).toNat = n := by rw [BitVec.toNat_ofNat]; omega
    have hm : (BitVec.ofNat 32 n).msb = false := by
      rw [BitVec.msb_eq_decide, hx]
      simp
      omega
    have hz : ¬BitVec.ofNat 32 n = 0 := fun h => h0 (by rw [← hx, h]; rfl)
    rw [div512 n hn, if_neg hz, hm]
    have hc : IntOp.cmpi CmpIPredicate.ne (if false = true then (-1 : BitVec 32) else 1)
        (if (512#32 : BitVec 32) = 0 then (0 : BitVec 32) else if (512#32).msb = true then -1 else 1) = 0#1 := by decide
    rw [hc]
    have ha : ∀ v : BitVec 1, IntOp.andi 0#1 v = 0#1 := by decide
    rw [ha]
    rfl

theorem floor_ix (n : Fin 155648) :
    fn_floor_divide (F := Ideal) (iotaInDim S155648 32 0) (constantI S_ 32 512#32) (ix1 n) = BitVec.ofNat 32 (n.val / 512) := by
  refine Eq.trans ?_ (floor_word n.val n.isLt)
  have e : id (constantI S_ 32 512#32) ix0 = 512#32 := rfl
  unfold fn_floor_divide fn_where
  pointwise
  simp only [e]
  congr 4

theorem mask_ix (a0 : IVec S304 32) (a1 : IVec S1 32) (a2 a3 : IVec S155648x256 32) (a4 : FVec Ideal S32x1024x2048 .f32) (a5 : FVec Ideal S32x2048 .f32)
    (a6 : FVec Ideal S32x1024x1024 .f32) (a7 : FVec Ideal S32x1024 .f32) (n : Fin 155648) (j : Fin 512) :
    (fn (F := Ideal) a0 a1 a2 a3 a4 a5 a6 a7).1 (ix2 n j) = IntOp.cmpi .slt (BitVec.ofNat 32 (n.val / 512)) (a1 (ix1 0)) := by
  unfold fn
  dsimp only
  rw [← floor_ix n]
  generalize fn_floor_divide (F := Ideal) (iotaInDim S155648 32 0) (constantI S_ 32 512#32) = f
  pointwise

theorem mask_same (a0 : IVec S304 32) (a1 : IVec S1 32) (a2 a3 : IVec S155648x256 32) (a4 : FVec Ideal S32x1024x2048 .f32) (a5 : FVec Ideal S32x2048 .f32)
    (a6 : FVec Ideal S32x1024x1024 .f32) (a7 : FVec Ideal S32x1024 .f32) :
    (fn (F := Ideal) a0 a1 a2 a3 a4 a5 a6 a7).2 = (fn (F := Ideal) a0 a1 a2 a3 a4 a5 a6 a7).1 := rfl

end Cert.Proof.InUse

end
-- ==== Proof.Ffn.Same.lean ====
/-
  The experts' feed-forward against its reference: the claim `algebraic` on the blocks in use.
-/
module

public import proofs.«01_k».proof.Defs
public import proofs.«01_k».proof.Proof.Gen.On_in_use
public import proofs.«01_k».proof.Proof.Ffn.Final
public import proofs.«01_k».proof.Proof.Ffn.Ref
public import proofs.«01_k».proof.Proof.Ffn.Mask

@[expose] public section

set_option maxRecDepth 16384

noncomputable section

namespace Cert.Proof.Experts

open Idealize.ShloMosaic Idealize.ShloMosaic.TcCoe Idealize.SL.Sem Cert.Proof.Project

open Cert.Proof.ExpertsRef in
/-- The reference's entry is the kernel's, over the same arguments. -/
theorem rOut_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : rE m' c = aE m c) (h2 : rLo m' c = aLo m c) (h3 : rHi m' c = aHi m c) (h4 : rW m' c = aW m c) (h5 : rB m' c = aB m c)
    (h6 : rW' m' c = aW' m c) (h7 : rB' m' c = aB' m c) (n : Fin 155648) (j : ℕ) (hn : n.val / 512 < 304) :
    rOut m' c n j = kOut m c n j hn := by
  unfold rOut kOut
  rw [h0, h2, h3, h4, h5, h6, h7]

/-- The half of the output that starts at column `off`. -/
def half (m : (ℓ : Loc Cert.Kernel3Ideal.nD Cert.Kernel3Ideal.τ Cert.Kernel3Ideal.sig) → Buf (Elt Ideal) ℓ) (c : Dev Cert.Kernel3Ideal.nD)
    (off : ℕ) : Cert.Kernel3Ideal.S155648x512.Idx → EReal :=
  fun i => kOut m c (i 0).val (off + (i 1).val) (by have h : (i 0).val < 155648 := (i 0).isLt; omega)

theorem half_ix (m : (ℓ : Loc Cert.Kernel3Ideal.nD Cert.Kernel3Ideal.τ Cert.Kernel3Ideal.sig) → Buf (Elt Ideal) ℓ) (c : Dev Cert.Kernel3Ideal.nD)
    (off : ℕ) (n : Fin 155648) (j : Fin 512) (hn : n.val / 512 < 304) : half m c off (ix2 n j) = kOut m c n.val (off + j.val) hn := rfl

set_option maxHeartbeats 2000000 in
/-- On the blocks in use the kernel's results are the reference's, entry by entry. -/
theorem algebraic : Cert.algebraic_Kernel3Ideal_Reference3Ideal_on_in_use := by
  intro m g m' g' hp hagree
  have hO := ok_of_pre m hp
  refine ⟨fun c => half m c 0, fun c => half m c 512,
    (θ_run Cert.Kernel3Ideal.defs _ _).mono (fun r h c => ⟨fun i hi => ?_, fun i hi => ?_, Cert.Kernel3Ideal.Ffn.args_of m hO r h.1 c⟩)
      (Cert.Kernel3Ideal.Ffn.run m g hO),
    (θ_run Cert.Reference3Ideal.defs _ _).mono (fun r h c => ⟨fun i _ => ?_, fun i _ => ?_, (h c).2.2⟩)
      (Cert.Reference3Ideal.Value.run (F := Ideal) m' g')⟩
  · obtain ⟨n, j, rfl⟩ : ∃ (n : Fin 155648) (j : Fin 512), i = ix2 n j := ⟨i 0, i 1, eq_ix2 i⟩
    have hn : n.val / 512 < 304 := by omega
    exact out6 m hO c hp r h.1 n j hn hn ((InUse.mask_ix _ _ _ _ _ _ _ _ n j).symm.trans hi)
  · obtain ⟨n, j, rfl⟩ : ∃ (n : Fin 155648) (j : Fin 512), i = ix2 n j := ⟨i 0, i 1, eq_ix2 i⟩
    have hn : n.val / 512 < 304 := by omega
    rw [InUse.mask_same] at hi
    exact out7 m hO c hp r h.1 n j hn hn ((InUse.mask_ix _ _ _ _ _ _ _ _ n j).symm.trans hi)
  · obtain ⟨n, j, rfl⟩ : ∃ (n : Fin 155648) (j : Fin 512), i = ix2 n j := ⟨i 0, i 1, eq_ix2 i⟩
    have hn : n.val / 512 < 304 := by omega
    obtain ⟨h0, _, h2, h3, h4, h5, h6, h7⟩ := hagree c
    have hE : ∀ j, (ExpertsRef.rE m' c j).toNat < 32 := fun j => (congrArg BitVec.toNat (congrFun h0 j)).trans_lt (expert_lt m c hp j)
    refine (congrFun (h c).1 (ix2 n j)).trans ((ExpertsRef.out0_ix m' c hE n j).trans ((rOut_eq m m' c h0 h2 h3 h4 h5 h6 h7 n j hn).trans ?_))
    exact (congrArg (fun k => kOut m c n.val k hn) (Nat.zero_add j.val)).symm.trans (half_ix m c 0 n j hn).symm
  · obtain ⟨n, j, rfl⟩ : ∃ (n : Fin 155648) (j : Fin 512), i = ix2 n j := ⟨i 0, i 1, eq_ix2 i⟩
    have hn : n.val / 512 < 304 := by omega
    obtain ⟨h0, _, h2, h3, h4, h5, h6, h7⟩ := hagree c
    have hE : ∀ j, (ExpertsRef.rE m' c j).toNat < 32 := fun j => (congrArg BitVec.toNat (congrFun h0 j)).trans_lt (expert_lt m c hp j)
    exact (congrFun (h c).2.1 (ix2 n j)).trans ((ExpertsRef.out1_ix m' c hE n j).trans (rOut_eq m m' c h0 h2 h3 h4 h5 h6 h7 n (512 + j) hn))

end Cert.Proof.Experts

end
-- ==== Proof.Ffn.Words.lean ====
/-
  The frame of the feed-forward over words, from the run over any float values: the two printed programs have one text.
-/
module

public import proofs.«01_k».proof.Defs
public import proofs.«01_k».proof.Proof.Gen.Kernel3
public import proofs.«01_k».proof.Proof.Ffn.Experts
public import proofs.«01_k».proof.Proof.Ffn.Frame

@[expose] public section

set_option maxRecDepth 16384

noncomputable section

namespace Cert.Proof

open Idealize.ShloMosaic Idealize.SL.Sem

set_option maxHeartbeats 1000000 in
/-- The two programs' kernel bodies are the same. -/
theorem bodies_same : @Cert.Kernel3.defs₀ Bits _ _ = @Cert.Kernel3Ideal.defs₀ Bits _ _ := by
  unfold Cert.Kernel3.defs₀ Cert.Kernel3Ideal.defs₀
  refine congrArg Defs.onTc (funext fun l => funext fun x => ?_)
  obtain ⟨l, hl⟩ := l
  cases l with
  | zero => obtain ⟨t, s⟩ := x; rfl
  | succ n => exact absurd hl (Nat.not_lt.2 (Nat.le_add_left _ _))

set_option maxHeartbeats 1000000 in
/-- So are their body tables. -/
theorem defs_same : @Cert.Kernel3.defs Bits _ _ = @Cert.Kernel3Ideal.defs Bits _ _ :=
  congrArg (Pipeline.defs (Cert.Kernel3Ideal.pcfgs (F := Bits))) bodies_same

set_option maxHeartbeats 1000000 in
/-- From experts that exist the feed-forward ends, with its arguments unchanged and every counter at zero. -/
theorem frame_kernel3 : Cert.quiescent_Kernel3 := fun m g h => by
  rw [defs_same]
  exact Cert.Kernel3Ideal.Ffn.frame (F := Bits) m g (Experts.ok_of_exist (F := Bits) m h)

end Cert.Proof

end
-- ==== Proof.Prep.Body.lean ====
/-
  What one grid point of the ordering of the up-projection's columns leaves in its block: in each 256 columns, the even
  ones before the odd ones.
-/
module

public import proofs.«01_k».proof.Proof.Gen.Kernel4Ideal.Frame
public import proofs.«01_k».proof.Proof.Proj.Reads
public import Idealize.ShloMosaic.Lib.Pipeline.Value

@[expose] public section

set_option maxRecDepth 16384

noncomputable section

namespace Cert.Proof.Prep

open Cert.Kernel4Ideal Cert.Kernel4Ideal.Gen
open Idealize.ShloMosaic Cert.Proof.Project

/-- Where column `j` of the result stands in the argument. -/
def src (j : ℕ) : ℕ := j / 256 * 256 + j % 128 * 2 + j / 128 % 2

theorem word (b : Fin 256) :
    Scalar.select (IntOp.cmpi .slt (BitVec.ofNat 32 b.val) 128#32) (IntOp.muli (2#32) (BitVec.ofNat 32 b.val))
      (IntOp.addi (IntOp.muli (2#32) (IntOp.subi (BitVec.ofNat 32 b.val) 128#32)) 1#32) = BitVec.ofNat 32 (b.val % 128 * 2 + b.val / 128) := by
  revert b
  decide +kernel

theorem select_eq (p q : ℕ) (hp : p < 256) (hq : q < 256) :
    Scalar.select (IntOp.cmpi .eq (BitVec.ofNat 32 p) (BitVec.ofNat 32 q)) (1 : EReal) 0 = if p = q then 1 else 0 := by
  by_cases h : p = q
  · subst h
    rw [if_pos rfl]
    simp [Scalar.select, IntOp.cmpi]
  · have h' : BitVec.ofNat 32 p ≠ BitVec.ofNat 32 q := fun e => h (by
      have e' := congrArg BitVec.toNat e
      rw [BitVec.toNat_ofNat, BitVec.toNat_ofNat] at e'
      omega)
    have hb : (BitVec.ofNat 32 p == BitVec.ofNat 32 q) = false := beq_eq_false_iff_ne.mpr h'
    rw [if_neg h]
    simp [Scalar.select, IntOp.cmpi, hb]

/-- The matrix each 256 columns are multiplied by. -/
theorem perm_ix (k b : Fin 256) : k0_pay4 (F := Ideal) (ix2 k b) = if k.val = b.val % 128 * 2 + b.val / 128 then (1 : EReal) else 0 := by
  pointwise [k0_pay4]
  rw [word b]
  exact select_eq _ _ k.isLt (by omega)

variable (x : Vec Ideal S1x1024x2048 .f32)

theorem piece (r : Fin 1024) (b : Fin 256) (q : ℕ) (hq : q < 8) (f : Fin 256 → EReal) (hf : ∀ k : Fin 256, f k = rd3 (B := 1) (M := 1024) (N := 2048) x 0 r (256 * q + k)) :
    (∑ k : Fin 256, f k * k0_pay4 (F := Ideal) (ix2 k b)) = rd3 (B := 1) (M := 1024) (N := 2048) x 0 r (src (256 * q + b.val)) := by
  rw [Finset.sum_eq_single (⟨b.val % 128 * 2 + b.val / 128, by omega⟩ : Fin 256)]
  · rw [perm_ix, if_pos rfl, mul_one, hf]
    refine congrArg (rd3 (B := 1) (M := 1024) (N := 2048) x 0 r) ?_
    show 256 * q + (b.val % 128 * 2 + b.val / 128) = (256 * q + b.val) / 256 * 256 + (256 * q + b.val) % 128 * 2 + (256 * q + b.val) / 128 % 2
    omega
  · intro k _ hk
    rw [perm_ix, if_neg (fun e => hk (Fin.ext e)), mul_zero]
  · exact fun h => absurd (Finset.mem_univ _) h

/-- A function of two coordinates at an index under a store's rectangle of the columns from `o` on. -/
theorem at_piece {o : ℕ} (inb : ∀ a, (![0, 0, o] : Fin 3 → ℕ) a + (![1, 1024, 256] : Fin 3 → ℕ) a ≤ (⟨3, ![1, 1024, 2048]⟩ : Shape).size a)
    (G : ℕ → ℕ → EReal) (a : Fin 1024) (b : Fin 256) :
    G ((Rect.unit (s := ⟨3, ![1, 1024, 2048]⟩) ![0, 0, o] ![1, 1024, 256] inb).emb (ix3 0 a b) 1).val
      ((Rect.unit (s := ⟨3, ![1, 1024, 2048]⟩) ![0, 0, o] ![1, 1024, 256] inb).emb (ix3 0 a b) 2).val = G a (o + b) := by
  have h0 : ((Rect.unit (s := ⟨3, ![1, 1024, 2048]⟩) ![0, 0, o] ![1, 1024, 256] inb).emb (ix3 0 a b) 1).val = a.val := by
    show 0 + 1 * a.val = a.val
    omega
  have h1 : ((Rect.unit (s := ⟨3, ![1, 1024, 2048]⟩) ![0, 0, o] ![1, 1024, 256] inb).emb (ix3 0 a b) 2).val = o + b.val := by
    show o + 1 * b.val = o + b.val
    omega
  rw [h0, h1]

theorem idx (y : S1x1024x256.Idx) : ∃ (a : Fin 1024) (b : Fin 256), y = ix3 0 a b := ⟨y 1, y 2, by
  rw [eq_ix3 y]
  congr 1
  exact Subsingleton.elim (α := Fin 1) _ _⟩

/-- The block. -/
theorem out_ix (r : Fin 1024) (c : Fin 2048) :
    out0_1 (F := Ideal) x (ix3 0 r c) = rd3 (B := 1) (M := 1024) (N := 2048) x 0 r (src c) := by
  unfold_out out0_1
  refine (View.canon_apply_of_pieces (Val := Elt Ideal) (fun y : S1x1024x2048.Idx => rd3 (B := 1) (M := 1024) (N := 2048) x 0 (y 1).val (src (y 2).val))
    _ ?_ _ (cover0_1 _ _ _ _ _ _ _ _ _)).trans rfl
  simp only [List.forall_mem_cons, List.not_mem_nil, false_imp_iff, implies_true, and_true]
  refine ⟨?_, ?_, ?_, ?_, ?_, ?_, ?_, ?_⟩
  · intro y
    obtain ⟨a, b, rfl⟩ := idx y
    refine Eq.trans ?_ (at_piece (o := 1792) (by decide) (fun r c => rd3 (B := 1) (M := 1024) (N := 2048) x 0 r (src c)) a b).symm
    pointwise [k0_pay3]
    exact piece x a b 7 (by omega) _ fun k => (rd3_ix (B := 1) (M := 1024) (N := 2048) x 0 a _).trans (congrArg (rd3 (B := 1) (M := 1024) (N := 2048) x 0 a) rfl)
  · intro y
    obtain ⟨a, b, rfl⟩ := idx y
    refine Eq.trans ?_ (at_piece (o := 1536) (by decide) (fun r c => rd3 (B := 1) (M := 1024) (N := 2048) x 0 r (src c)) a b).symm
    pointwise [k0_pay2]
    exact piece x a b 6 (by omega) _ fun k => (rd3_ix (B := 1) (M := 1024) (N := 2048) x 0 a _).trans (congrArg (rd3 (B := 1) (M := 1024) (N := 2048) x 0 a) rfl)
  · intro y
    obtain ⟨a, b, rfl⟩ := idx y
    refine Eq.trans ?_ (at_piece (o := 1280) (by decide) (fun r c => rd3 (B := 1) (M := 1024) (N := 2048) x 0 r (src c)) a b).symm
    pointwise [k0_pay1, k0_pay10]
    exact piece x a b 5 (by omega) _ fun k => (rd3_ix (B := 1) (M := 1024) (N := 2048) x 0 a _).trans (congrArg (rd3 (B := 1) (M := 1024) (N := 2048) x 0 a) rfl)
  · intro y
    obtain ⟨a, b, rfl⟩ := idx y
    refine Eq.trans ?_ (at_piece (o := 1024) (by decide) (fun r c => rd3 (B := 1) (M := 1024) (N := 2048) x 0 r (src c)) a b).symm
    pointwise [k0_pay9]
    exact piece x a b 4 (by omega) _ fun k => (rd3_ix (B := 1) (M := 1024) (N := 2048) x 0 a _).trans (congrArg (rd3 (B := 1) (M := 1024) (N := 2048) x 0 a) rfl)
  · intro y
    obtain ⟨a, b, rfl⟩ := idx y
    refine Eq.trans ?_ (at_piece (o := 768) (by decide) (fun r c => rd3 (B := 1) (M := 1024) (N := 2048) x 0 r (src c)) a b).symm
    pointwise [k0_pay8]
    exact piece x a b 3 (by omega) _ fun k => (rd3_ix (B := 1) (M := 1024) (N := 2048) x 0 a _).trans (congrArg (rd3 (B := 1) (M := 1024) (N := 2048) x 0 a) rfl)
  · intro y
    obtain ⟨a, b, rfl⟩ := idx y
    refine Eq.trans ?_ (at_piece (o := 512) (by decide) (fun r c => rd3 (B := 1) (M := 1024) (N := 2048) x 0 r (src c)) a b).symm
    pointwise [k0_pay7]
    exact piece x a b 2 (by omega) _ fun k => (rd3_ix (B := 1) (M := 1024) (N := 2048) x 0 a _).trans (congrArg (rd3 (B := 1) (M := 1024) (N := 2048) x 0 a) rfl)
  · intro y
    obtain ⟨a, b, rfl⟩ := idx y
    refine Eq.trans ?_ (at_piece (o := 256) (by decide) (fun r c => rd3 (B := 1) (M := 1024) (N := 2048) x 0 r (src c)) a b).symm
    pointwise [k0_pay6]
    exact piece x a b 1 (by omega) _ fun k => (rd3_ix (B := 1) (M := 1024) (N := 2048) x 0 a _).trans (congrArg (rd3 (B := 1) (M := 1024) (N := 2048) x 0 a) rfl)
  · intro y
    obtain ⟨a, b, rfl⟩ := idx y
    refine Eq.trans ?_ (at_piece (o := 0) (by decide) (fun r c => rd3 (B := 1) (M := 1024) (N := 2048) x 0 r (src c)) a b).symm
    pointwise [k0_pay5]
    refine (piece x a b 0 (by omega) (fun k => x (ix3 0 a ⟨k.val, by omega⟩)) fun k =>
      (rd3_ix (B := 1) (M := 1024) (N := 2048) x 0 a ⟨k.val, by omega⟩).trans
        (congrArg (rd3 (B := 1) (M := 1024) (N := 2048) x 0 a) (Nat.zero_add k.val).symm)).trans ?_
    rw [Nat.mul_zero, Nat.zero_add]

end Cert.Proof.Prep

end
-- ==== Proof.Prep.Same.lean ====
/-
  The ordering of the up-projection's columns: the whole array from its blocks, and the claim against its reference.
-/
module

public import proofs.«01_k».proof.Defs
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Prep.Body
public import Idealize.ShloMosaic.Lib.Pipeline.ValueKit

@[expose] public section

set_option maxRecDepth 16384

noncomputable section

namespace Cert.Proof.Prep

open Cert.Kernel4Ideal Cert.Kernel4Ideal.Gen
open Idealize.ShloMosaic Idealize.ShloMosaic.TcCoe Idealize.SL.Sem Cert.Proof.Project

variable (m : (ℓ : Loc nD τ sig) → Buf (Elt Ideal) ℓ) (c : Dev nD)

abbrev aW : (⟨3, ![32, 1024, 2048]⟩ : Shape).Idx → EReal := m ((c : Thread nD τ).loc main_arg0)

theorem idx0 : ∀ t : Fin cfg0.N, win0_0.index t = ![t.val, 0, 0] := (by decide +kernel : ∀ t : Fin grid0.N, _)
theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

theorem src_lt (j : ℕ) (h : j < 2048) : src j < 2048 := by
  unfold src
  omega

theorem blk (t : Fin cfg0.N) (r : Fin 1024) (j : Fin 2048) : iblk m c 0 t (ix3 0 r j) = rd3 (aW m c) t.val r j := by
  have hN : cfg0.N = 32 := N_0
  have ht := t.isLt
  unfold rd3
  rw [dif_pos ⟨by omega, r.isLt, j.isLt⟩]
  blk_ext! [iblk, idx0 t]

theorem col_of_block (a N q : ℕ) (h : a = 0) : a * N + q = q := by
  subst h
  omega

/-- The array the call leaves. -/
theorem arr (e : Fin 32) (r : Fin 1024) (j : Fin 2048) :
    (dats m 0 c).arrAt 1 cfg0.N (ix3 e r j) = rd3 (aW m c) e r (src j) := by
  refine (congrFun ((dats m 0 c).arrAt_eq_of_covers 1
    (fun i => rd3 (aW m c) (i 0).val (i 1).val (src (i 2).val)) (by decide +kernel) fun t hf y => ?_) (ix3 e r j)).trans rfl
  blk_simp
  rw [after0_1]
  obtain ⟨a, b, rfl⟩ : ∃ (a : Fin 1024) (b : Fin 2048), y = ix3 0 a b := ⟨y 1, y 2, by
    rw [eq_ix3 y]
    congr 1
    exact Subsingleton.elim (α := Fin 1) _ _⟩
  have hs := src_lt b.val b.isLt
  refine (out_ix _ a b).trans ((rd3_ix (B := 1) (M := 1024) (N := 2048) (iblk m c 0 t) 0 a ⟨src b.val, hs⟩).symm.trans ((blk m c t a ⟨src b.val, hs⟩).trans ?_))
  have e0 : win0_1.index t 0 = t.val := (idx1 t).1
  have e1 : win0_1.index t 1 * 1024 + a.val = a.val := col_of_block _ _ _ (idx1 t).2.1
  have e2 : win0_1.index t 2 * 2048 + b.val = b.val := col_of_block _ _ _ (idx1 t).2.2
  show _ = rd3 (aW m c) (win0_1.index t 0) (win0_1.index t 1 * 1024 + a.val) (src (win0_1.index t 2 * 2048 + b.val))
  rw [e0, e1, e2]

/-- The reference's array. -/
theorem ref_ix (W : (⟨3, ![32, 1024, 2048]⟩ : Shape).Idx → EReal) (e : Fin 32) (r : Fin 1024) (j : Fin 2048) :
    truncf (F := Ideal) (φ := .f32) .bf16 (shapeCast Cert.Reference4Ideal.S32x1024x2048 (transpose Cert.Reference4Ideal.S32x1024x8x2x128 [0, 1, 2, 4, 3]
      (shapeCast Cert.Reference4Ideal.S32x1024x8x128x2 W Cert.Reference4Ideal.Gen.shapeCasts_S32x1024x2048_S32x1024x8x128x2)
      Cert.Reference4Ideal.Gen.transposes_S32x1024x8x128x2_S32x1024x8x2x128_0_1_2_4_3) Cert.Reference4Ideal.Gen.shapeCasts_S32x1024x8x2x128_S32x1024x2048)
      Cert.Reference4Ideal.Gen.bitsLt_bf16_f32 (ix3 e r j) = rd3 W e r (src j) := by
  pointwise
  exact rd3_ix W e r _

/-- The call's array is the reference's, entry by entry. -/
theorem algebraic : Cert.algebraic_Kernel4Ideal_Reference4Ideal := by
  intro m g m' g' _ hagree
  refine ⟨fun c => (dats m 0 c).arrAt 1 cfg0.N, (θ_run Cert.Kernel4Ideal.defs _ _).mono (fun _ h c => h c) (Cert.Kernel4Ideal.Value.run_blocks m g),
    (θ_run Cert.Reference4Ideal.defs _ _).mono (fun r h c => ⟨(h c).1.trans ?_, (h c).2⟩) (Cert.Reference4Ideal.Value.run (F := Ideal) m' g')⟩
  rw [hagree c]
  funext i
  obtain ⟨e, r, j, rfl⟩ : ∃ (e : Fin 32) (r : Fin 1024) (j : Fin 2048), i = ix3 e r j := ⟨i 0, i 1, i 2, eq_ix3 i⟩
  exact (ref_ix (aW m c) e r j).trans (arr m c e r j).symm

end Cert.Proof.Prep

end
-- ==== Proof.lean ====
/-
  The proof of `Cert.Claim` (proofs.«01_k».proof.Defs): the claims about the gather of the expert rows, about
  the projection of the prompt, about the experts' feed-forward and about the order of its weights' columns, each read off
  the run of a kernel or the run of its reference.
-/
module

public import proofs.«01_k».proof.Defs
public import proofs.«01_k».proof.Proof.Gen.Kernel
public import proofs.«01_k».proof.Proof.Gen.Kernel.Skeleton
public import proofs.«01_k».proof.Proof.Gen.Reference
public import proofs.«01_k».proof.Proof.Gen.Reference.Run
public import proofs.«01_k».proof.Proof.Gen.Pre_in_range
public import proofs.«01_k».proof.Proof.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Proj.Same
public import Idealize.ShloMosaic.Adequacy
public import Idealize.ShloMosaic.Init
public import proofs.«01_k».proof.Proof.Gen.Kernel3
public import proofs.«01_k».proof.Proof.Gen.Kernel3.Launch
public import proofs.«01_k».proof.Proof.Gen.Kernel3.Skeleton
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Pre_experts
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.On_in_use
public import proofs.«01_k».proof.Proof.Ffn.Same
public import proofs.«01_k».proof.Proof.Ffn.Words
public import proofs.«01_k».proof.Proof.Prep.Same

@[expose] public section

noncomputable section

namespace Cert.Proof

open Idealize.ShloMosaic Idealize.SL.Sem Cert.Kernel

/-- From in-range positions the kernel ends, with its arguments unchanged and every counter at zero. -/
theorem frame_kernel : Cert.quiescent_Kernel := fun m g h =>
  (θ_run Cert.Kernel.defs _ _).mono (fun _ h => ⟨fun c => ⟨(h.1 c).1, (h.1 c).2.1⟩, h.2⟩)
    (Gather.run_main (F := Bits) m g (Gather.ok_of_pre m h))

/-- The reference ends, from any memory; it declares no semaphore. -/
theorem frame_reference : Cert.quiescent_Reference := fun m g _ =>
  (θ_run Cert.Reference.defs _ _).mono (fun r h => ⟨fun c => (h c).2, sem_eq_zero_of_no_sems (by decide) r.2⟩)
    (Cert.Reference.Value.run (F := Bits) m g)

/-- Both results are the rows the positions name, element by element. -/
theorem bitexact : Cert.bitexact_Kernel_Reference := by
  intro m g m' g' hpre hagree
  refine ⟨fun c => Gather.res m c, (θ_run Cert.Kernel.defs _ _).mono (fun _ h c => ⟨(h.1 c).2.2, (h.1 c).1, (h.1 c).2.1⟩)
    (Gather.run_main (F := Bits) m g (Gather.ok_of_pre m hpre)), ?_⟩
  refine (θ_run Cert.Reference.defs _ _).mono (fun r h c => ⟨(h c).1.trans ?_, (h c).2⟩)
    (Cert.Reference.Value.run (F := Bits) m' g')
  rw [(hagree c).1, (hagree c).2]
  funext j
  rw [Gather.ixR_eta j]
  exact (Gather.ref_apply _ _ _ _ (Gather.ok_of_pre m hpre c _)).trans (Gather.res_apply m c _ _).symm

/-! ## The projection of the prompt -/

/-- The projection ends, with its arguments unchanged and every counter at zero. -/
theorem frame_kernel2 : Cert.quiescent_Kernel2 := fun m g _ => Cert.Kernel2.Gen.frame m g

/-- So does its reading over the extended reals. -/
theorem frame_kernel2Ideal : Cert.quiescent_Kernel2Ideal := fun m g _ => Cert.Kernel2Ideal.Gen.frame m g

/-- The projection's reference ends, from any memory; it declares no semaphore. -/
theorem frame_reference2Ideal : Cert.quiescent_Reference2Ideal := fun m g _ =>
  (θ_run Cert.Reference2Ideal.defs _ _).mono
    (fun r h => ⟨fun c => (h c).2.2.2.2.2.2.2.2.2.2.2, sem_eq_zero_of_no_sems (by decide) r.2⟩)
    (Cert.Reference2Ideal.Value.run (F := Ideal) m g)

set_option maxHeartbeats 2000000 in
/-- The projection's results are the reference's, entry by entry. -/
theorem algebraic : Cert.algebraic_Kernel2Ideal_Reference2Ideal := by
  intro m g m' g' _ hagree
  refine ⟨fun c => (Cert.Kernel2Ideal.Gen.dats m 0 c).arrAt 3 Cert.Kernel2Ideal.cfg0.N,
    fun c => (Cert.Kernel2Ideal.Gen.dats m 0 c).arrAt 4 Cert.Kernel2Ideal.cfg0.N,
    fun c => (Cert.Kernel2Ideal.Gen.dats m 0 c).arrAt 5 Cert.Kernel2Ideal.cfg0.N,
    fun c => (Cert.Kernel2Ideal.Gen.dats m 0 c).arrAt 6 Cert.Kernel2Ideal.cfg0.N,
    fun c => (Cert.Kernel2Ideal.Gen.dats m 0 c).arrAt 7 Cert.Kernel2Ideal.cfg0.N,
    fun c => (Cert.Kernel2Ideal.Gen.dats m 0 c).arrAt 8 Cert.Kernel2Ideal.cfg0.N,
    fun c => (Cert.Kernel2Ideal.Gen.dats m 0 c).arrAt 9 Cert.Kernel2Ideal.cfg0.N,
    fun c => (Cert.Kernel2Ideal.Gen.dats m 0 c).arrAt 10 Cert.Kernel2Ideal.cfg0.N,
    fun c => (Cert.Kernel2Ideal.Gen.dats m 0 c).arrAt 11 Cert.Kernel2Ideal.cfg0.N,
    fun c => (Cert.Kernel2Ideal.Gen.dats m 0 c).arrAt 12 Cert.Kernel2Ideal.cfg0.N,
    fun c => (Cert.Kernel2Ideal.Gen.dats m 0 c).arrAt 13 Cert.Kernel2Ideal.cfg0.N,
    (θ_run Cert.Kernel2Ideal.defs _ _).mono (fun _ h c => ?_) (Cert.Kernel2Ideal.Value.run_blocks m g),
    (θ_run Cert.Reference2Ideal.defs _ _).mono (fun r h c => ?_) (Cert.Reference2Ideal.Value.run (F := Ideal) m' g')⟩
  · obtain ⟨h3, h4, h5, h6, h7, h8, h9, h10, h11, h12, h13, _, ha⟩ := h c
    exact ⟨h3, h4, h5, h6, h7, h8, h9, h10, h11, h12, h13, ha⟩
  · obtain ⟨h3, h4, h5, h6, h7, h8, h9, h10, h11, h12, h13, ha⟩ := h c
    have hX : ProjectRef.refX (StableHlo.launchContents m' c) = Project.argX m c := (hagree c).1
    have hW : ProjectRef.refW (StableHlo.launchContents m' c) = Project.argW m c := (hagree c).2
    exact ⟨h3.trans (Project.same3 m c _ hX hW), h4.trans (Project.same4 m c _ hX hW), h5.trans (Project.same5 m c _ hX hW), h6.trans (Project.same6 m c _ hX hW), h7.trans (Project.same7 m c _ hX hW), h8.trans (Project.same8 m c _ hX hW), h9.trans (Project.same9 m c _ hX hW), h10.trans (Project.same10 m c _ hX hW), h11.trans (Project.same11 m c _ hX hW), h12.trans (Project.same12 m c _ hX hW), h13.trans (Project.same13 m c _ hX hW), ha⟩

/-! ## The experts' feed-forward -/

/-- From experts that exist the feed-forward over the extended reals ends, with its arguments unchanged and every counter
at zero (over words: `frame_kernel3`, Ffn/Words). -/
theorem frame_kernel3Ideal : Cert.quiescent_Kernel3Ideal := fun m g h =>
  Cert.Kernel3Ideal.Ffn.frame (F := Ideal) m g (Experts.ok_of_pre m h)

/-- The feed-forward's reference ends, from any memory; it declares no semaphore. -/
theorem frame_reference3Ideal : Cert.quiescent_Reference3Ideal := fun m g _ =>
  (θ_run Cert.Reference3Ideal.defs _ _).mono (fun r h => ⟨fun c => (h c).2.2, sem_eq_zero_of_no_sems (by decide) r.2⟩)
    (Cert.Reference3Ideal.Value.run (F := Ideal) m g)

/-! ## The order of the up-projection's columns -/

/-- The ordering ends, with its argument unchanged and every counter at zero. -/
theorem frame_kernel4 : Cert.quiescent_Kernel4 := fun m g _ => Cert.Kernel4.Gen.frame m g

/-- So does its reading over the extended reals. -/
theorem frame_kernel4Ideal : Cert.quiescent_Kernel4Ideal := fun m g _ => Cert.Kernel4Ideal.Gen.frame m g

/-- Its reference ends, from any memory; it declares no semaphore. -/
theorem frame_reference4Ideal : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem claim : Cert.Claim := ⟨Cert.Kernel.Gen.facts, Cert.Reference.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Pre_in_range.Gen.facts, Cert.Pre_experts.Gen.facts, Cert.On_in_use.Gen.facts,
  frame_kernel, frame_reference, fun m g _ => frame_reference m g trivial,
  frame_kernel2, frame_kernel2Ideal, frame_reference2Ideal,
  frame_kernel3, frame_kernel3Ideal, frame_reference3Ideal, fun m g _ => frame_reference3Ideal m g trivial,
  frame_kernel4, frame_kernel4Ideal, frame_reference4Ideal,
  bitexact, trivial, algebraic, trivial, Experts.algebraic, trivial, Prep.algebraic⟩

end Cert.Proof

end
